-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x7168 : Shape := ⟨3, ![4, 1024, 7168]⟩
abbrev S16 : Shape := ⟨1, ![16]⟩
abbrev S18432x3584 : Shape := ⟨2, ![18432, 3584]⟩
abbrev S18432x224 : Shape := ⟨2, ![18432, 224]⟩
abbrev S18432 : Shape := ⟨1, ![18432]⟩
abbrev S_ : Shape := ⟨0, ![]⟩
abbrev S1 : Shape := ⟨1, ![1]⟩
abbrev S1x254 : Shape := ⟨2, ![1, 254]⟩
abbrev S1x1 : Shape := ⟨2, ![1, 1]⟩
abbrev S2 : Shape := ⟨1, ![2]⟩
abbrev S4096x7168 : Shape := ⟨2, ![4096, 7168]⟩
abbrev S1x18432 : Shape := ⟨2, ![1, 18432]⟩
abbrev S4096x18432 : Shape := ⟨2, ![4096, 18432]⟩
abbrev S512x7168 : Shape := ⟨2, ![512, 7168]⟩
abbrev S64x3584 : Shape := ⟨2, ![64, 3584]⟩
abbrev S64x128 : Shape := ⟨2, ![64, 128]⟩
abbrev S1x512 : Shape := ⟨2, ![1, 512]⟩
abbrev S512x512 : Shape := ⟨2, ![512, 512]⟩
abbrev S2x512x7168 : Shape := ⟨3, ![2, 512, 7168]⟩
abbrev S8x7168 : Shape := ⟨2, ![8, 7168]⟩
abbrev S32x7168 : Shape := ⟨2, ![32, 7168]⟩
abbrev S4x8x7168 : Shape := ⟨3, ![4, 8, 7168]⟩
abbrev S8x128 : Shape := ⟨2, ![8, 128]⟩
abbrev S32x128 : Shape := ⟨2, ![32, 128]⟩
abbrev S8x128x1 : Shape := ⟨3, ![8, 128, 1]⟩
abbrev S1x32x128 : Shape := ⟨3, ![1, 32, 128]⟩
abbrev S1x8x7168 : Shape := ⟨3, ![1, 8, 7168]⟩
abbrev S1x1x1 : Shape := ⟨3, ![1, 1, 1]⟩
abbrev S1x512x7168 : Shape := ⟨3, ![1, 512, 7168]⟩
abbrev S15 : Shape := ⟨1, ![15]⟩
abbrev S4x1024x18432 : Shape := ⟨3, ![4, 1024, 18432]⟩

abbrev nBuf : Space → Nat
  | .hbm => 60
  | .vmem => 15
  | .smem => 2
  | _ => 0

abbrev bufTy : (tb : Table) → Fin (tcTables nBuf tb) → BufTy
  | .hbm, ⟨0, _⟩ => ⟨S4x1024x7168, .bf16⟩
  | .hbm, ⟨1, _⟩ => ⟨S16, .f32⟩
  | .hbm, ⟨2, _⟩ => ⟨S18432x3584, .i8⟩
  | .hbm, ⟨3, _⟩ => ⟨S18432x224, .i32⟩
  | .hbm, ⟨4, _⟩ => ⟨S18432, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x254, .i32⟩
  | .hbm, ⟨12, _⟩ => ⟨S_, .i32⟩
  | .hbm, ⟨13, _⟩ => ⟨S1x254, .i32⟩
  | .hbm, ⟨14, _⟩ => ⟨S1x254, .i32⟩
  | .hbm, ⟨15, _⟩ => ⟨S_, .i32⟩
  | .hbm, ⟨16, _⟩ => ⟨S1x254, .i32⟩
  | .hbm, ⟨17, _⟩ => ⟨S1x254, .i32⟩
  | .hbm, ⟨18, _⟩ => ⟨S1x254, .f32⟩
  | .hbm, ⟨19, _⟩ => ⟨S1x1, .f32⟩
  | .hbm, ⟨20, _⟩ => ⟨S1x254, .f32⟩
  | .hbm, ⟨21, _⟩ => ⟨S1x254, .i1⟩
  | .hbm, ⟨22, _⟩ => ⟨S1x254, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S_, .f32⟩
  | .hbm, ⟨29, _⟩ => ⟨S1, .f32⟩
  | .hbm, ⟨30, _⟩ => ⟨S1, .i1⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1, .f32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S2, .f32⟩
  | .hbm, ⟨51, _⟩ => ⟨S4096x7168, .bf16⟩
  | .hbm, ⟨52, _⟩ => ⟨S1x18432, .f32⟩
  | .hbm, ⟨53, _⟩ => ⟨S4096x18432, .bf16⟩
  | .hbm, ⟨54, _⟩ => ⟨S4096x7168, .fp8e4m3⟩
  | .hbm, ⟨55, _⟩ => ⟨S1, .f32⟩
  | .hbm, ⟨56, _⟩ => ⟨S15, .f32⟩
  | .hbm, ⟨57, _⟩ => ⟨S16, .f32⟩
  | .hbm, ⟨58, _⟩ => ⟨S4x1024x18432, .bf16⟩
  | .hbm, ⟨59, _⟩ => ⟨S4x1024x7168, .fp8e4m3⟩
  | .local _ .vmem, ⟨0, _⟩ => ⟨S512x7168, .bf16⟩
  | .local _ .vmem, ⟨1, _⟩ => ⟨S512x7168, .bf16⟩
  | .local _ .vmem, ⟨2, _⟩ => ⟨S64x3584, .i8⟩
  | .local _ .vmem, ⟨3, _⟩ => ⟨S64x3584, .i8⟩
  | .local _ .vmem, ⟨4, _⟩ => ⟨S64x128, .i32⟩
  | .local _ .vmem, ⟨5, _⟩ => ⟨S64x128, .i32⟩
  | .local _ .vmem, ⟨6, _⟩ => ⟨S64x128, .i32⟩
  | .local _ .vmem, ⟨7, _⟩ => ⟨S64x128, .i32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S4096x7168, .fp8e4m3⟩
  | .local _ .vmem, ⟨13, _⟩ => ⟨S2x512x7168, .fp8e4m3⟩
  | .local _ .vmem, ⟨14, _⟩ => ⟨S8x7168, .f32⟩
  | .local _ .smem, ⟨0, _⟩ => ⟨S2, .f32⟩
  | .local _ .smem, ⟨1, _⟩ => ⟨S1, .f32⟩
  | _, _ => ⟨S4x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v34_2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![37, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_6 : BitVec 32 := 0#32
  let c16_i32 : BitVec 32 := 16#32
  let v15 : BitVec 32 := Scalar.addi c0_i32_6 c16_i32
  let c1_i32 : BitVec 32 := 1#32
  ⟨c0_i32_6, v15, c1_i32⟩
def k0_mult2 (k0_t1 : Fin k0_t1_loop.trips) : BitVec 32 :=
  let c0_i32_3987 : BitVec 32 := 0#32
  let c0_i32_6 : BitVec 32 := 0#32
  let c1_i32 : BitVec 32 := 1#32
  let arg15 : BitVec 32 := Scf.iv c0_i32_6 c1_i32 k0_t1
  let c1_i32_3986 : BitVec 32 := 1#32
  let v13649 : BitVec 32 := Scalar.muli arg15 c1_i32_3986
  let v13650 : BitVec 32 := Scalar.addi c0_i32_3987 v13649
  let c32_i32_3988 : BitVec 32 := 32#32
  let v13651 : BitVec 32 := Scalar.muli v13650 c32_i32_3988
  v13651
def k0_off1 (k0_t1 : Fin k0_t1_loop.trips) : Fin 2 → Nat :=
  let c0_i32_3987 : BitVec 32 := 0#32
  let c0_i32_6 : BitVec 32 := 0#32
  let c1_i32 : BitVec 32 := 1#32
  let arg15 : BitVec 32 := Scf.iv c0_i32_6 c1_i32 k0_t1
  let c1_i32_3986 : BitVec 32 := 1#32
  let v13649 : BitVec 32 := Scalar.muli arg15 c1_i32_3986
  let v13650 : BitVec 32 := Scalar.addi c0_i32_3987 v13649
  let c32_i32_3988 : BitVec 32 := 32#32
  let v13651 : BitVec 32 := Scalar.muli v13650 c32_i32_3988
  let v13652 : BitVec 32 := v13651
  let v13653 : Index := Scalar.indexCast v13652
  let c0_3989 : Index := 0#32
  ![v13653.toNat, 0]
def k0_mult3 (i : grid0.Coords) (k0_t1 : Fin k0_t1_loop.trips) : BitVec 32 :=
  let arg1 : BitVec 32 := BitVec.ofNat 32 (i 1).val
  let c512_i32_3997 : BitVec 32 := 512#32
  let v13672 : BitVec 32 := Scalar.muli arg1 c512_i32_3997
  let c0_i32_3987 : BitVec 32 := 0#32
  let c0_i32_6 : BitVec 32 := 0#32
  let c1_i32 : BitVec 32 := 1#32
  let arg15 : BitVec 32 := Scf.iv c0_i32_6 c1_i32 k0_t1
  let c1_i32_3986 : BitVec 32 := 1#32
  let v13649 : BitVec 32 := Scalar.muli arg15 c1_i32_3986
  let v13650 : BitVec 32 := Scalar.addi c0_i32_3987 v13649
  let c32_i32_3988 : BitVec 32 := 32#32
  let v13651 : BitVec 32 := Scalar.muli v13650 c32_i32_3988
  let v13652 : BitVec 32 := v13651
  let v13673 : BitVec 32 := Scalar.addi v13672 v13652
  v13673
def k0_off2 (i : grid0.Coords) (k0_t1 : Fin k0_t1_loop.trips) : Fin 2 → Nat :=
  let arg1 : BitVec 32 := BitVec.ofNat 32 (i 1).val
  let c512_i32_3997 : BitVec 32 := 512#32
  let v13672 : BitVec 32 := Scalar.muli arg1 c512_i32_3997
  let c0_i32_3987 : BitVec 32 := 0#32
  let c0_i32_6 : BitVec 32 := 0#32
  let c1_i32 : BitVec 32 := 1#32
  let arg15 : BitVec 32 := Scf.iv c0_i32_6 c1_i32 k0_t1
  let c1_i32_3986 : BitVec 32 := 1#32
  let v13649 : BitVec 32 := Scalar.muli arg15 c1_i32_3986
  let v13650 : BitVec 32 := Scalar.addi c0_i32_3987 v13649
  let c32_i32_3988 : BitVec 32 := 32#32
  let v13651 : BitVec 32 := Scalar.muli v13650 c32_i32_3988
  let v13652 : BitVec 32 := v13651
  let v13673 : BitVec 32 := Scalar.addi v13672 v13652
  let v13674 : BitVec 32 := v13673
  let v13675 : Index := Scalar.indexCast v13674
  let c0_3998 : Index := 0#32
  ![v13675.toNat, 0]
def k0_off3 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_8 : BitVec 32 := 0#32
  ![v1.toNat, 0]
def k0_mult4 (i : grid0.Coords) : BitVec 32 :=
  let arg1 : BitVec 32 := BitVec.ofNat 32 (i 1).val
  let c64_i32 : BitVec 32 := 64#32
  let v18 : BitVec 32 := Scalar.muli arg1 c64_i32
  let c0_i32_10 : BitVec 32 := 0#32
  let v19 : BitVec 32 := Scalar.addi v18 c0_i32_10
  v19
def k0_off4 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v266 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v267 : Index := Scalar.indexCast v20
  let c0_91 : Index := 0#32
  ![v266.toNat, v267.toNat, 0]
def k0_off5 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v320 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v321 : Index := Scalar.indexCast v20
  let c128 : Index := 128#32
  ![v320.toNat, v321.toNat, 128]
def k0_off6 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v507 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v508 : Index := Scalar.indexCast v20
  let c256 : Index := 256#32
  ![v507.toNat, v508.toNat, 256]
def k0_off7 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v561 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v562 : Index := Scalar.indexCast v20
  let c384 : Index := 384#32
  ![v561.toNat, v562.toNat, 384]
def k0_off8 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v748 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v749 : Index := Scalar.indexCast v20
  let c512 : Index := 512#32
  ![v748.toNat, v749.toNat, 512]
def k0_off9 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v802 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v803 : Index := Scalar.indexCast v20
  let c640 : Index := 640#32
  ![v802.toNat, v803.toNat, 640]
def k0_off10 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v989 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v990 : Index := Scalar.indexCast v20
  let c768 : Index := 768#32
  ![v989.toNat, v990.toNat, 768]
def k0_off11 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1043 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1044 : Index := Scalar.indexCast v20
  let c896 : Index := 896#32
  ![v1043.toNat, v1044.toNat, 896]
def k0_off12 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1230 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1231 : Index := Scalar.indexCast v20
  let c1024 : Index := 1024#32
  ![v1230.toNat, v1231.toNat, 1024]
def k0_off13 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1284 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1285 : Index := Scalar.indexCast v20
  let c1152 : Index := 1152#32
  ![v1284.toNat, v1285.toNat, 1152]
def k0_off14 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1471 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1472 : Index := Scalar.indexCast v20
  let c1280 : Index := 1280#32
  ![v1471.toNat, v1472.toNat, 1280]
def k0_off15 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1525 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1526 : Index := Scalar.indexCast v20
  let c1408 : Index := 1408#32
  ![v1525.toNat, v1526.toNat, 1408]
def k0_off16 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1712 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1713 : Index := Scalar.indexCast v20
  let c1536 : Index := 1536#32
  ![v1712.toNat, v1713.toNat, 1536]
def k0_off17 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1766 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1767 : Index := Scalar.indexCast v20
  let c1664 : Index := 1664#32
  ![v1766.toNat, v1767.toNat, 1664]
def k0_off18 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v1953 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v1954 : Index := Scalar.indexCast v20
  let c1792 : Index := 1792#32
  ![v1953.toNat, v1954.toNat, 1792]
def k0_off19 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2007 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2008 : Index := Scalar.indexCast v20
  let c1920 : Index := 1920#32
  ![v2007.toNat, v2008.toNat, 1920]
def k0_off20 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2194 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2195 : Index := Scalar.indexCast v20
  let c2048 : Index := 2048#32
  ![v2194.toNat, v2195.toNat, 2048]
def k0_off21 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2248 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2249 : Index := Scalar.indexCast v20
  let c2176 : Index := 2176#32
  ![v2248.toNat, v2249.toNat, 2176]
def k0_off22 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2435 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2436 : Index := Scalar.indexCast v20
  let c2304 : Index := 2304#32
  ![v2435.toNat, v2436.toNat, 2304]
def k0_off23 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2489 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2490 : Index := Scalar.indexCast v20
  let c2432 : Index := 2432#32
  ![v2489.toNat, v2490.toNat, 2432]
def k0_off24 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2676 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2677 : Index := Scalar.indexCast v20
  let c2560 : Index := 2560#32
  ![v2676.toNat, v2677.toNat, 2560]
def k0_off25 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2730 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2731 : Index := Scalar.indexCast v20
  let c2688 : Index := 2688#32
  ![v2730.toNat, v2731.toNat, 2688]
def k0_off26 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2917 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2918 : Index := Scalar.indexCast v20
  let c2816 : Index := 2816#32
  ![v2917.toNat, v2918.toNat, 2816]
def k0_off27 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v2971 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v2972 : Index := Scalar.indexCast v20
  let c2944 : Index := 2944#32
  ![v2971.toNat, v2972.toNat, 2944]
def k0_off28 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3158 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3159 : Index := Scalar.indexCast v20
  let c3072 : Index := 3072#32
  ![v3158.toNat, v3159.toNat, 3072]
def k0_off29 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3212 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3213 : Index := Scalar.indexCast v20
  let c3200 : Index := 3200#32
  ![v3212.toNat, v3213.toNat, 3200]
def k0_off30 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3399 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3400 : Index := Scalar.indexCast v20
  let c3328 : Index := 3328#32
  ![v3399.toNat, v3400.toNat, 3328]
def k0_off31 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3453 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3454 : Index := Scalar.indexCast v20
  let c3456 : Index := 3456#32
  ![v3453.toNat, v3454.toNat, 3456]
def k0_off32 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3640 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3641 : Index := Scalar.indexCast v20
  let c3584 : Index := 3584#32
  ![v3640.toNat, v3641.toNat, 3584]
def k0_off33 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3694 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3695 : Index := Scalar.indexCast v20
  let c3712 : Index := 3712#32
  ![v3694.toNat, v3695.toNat, 3712]
def k0_off34 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3881 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3882 : Index := Scalar.indexCast v20
  let c3840 : Index := 3840#32
  ![v3881.toNat, v3882.toNat, 3840]
def k0_off35 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v3935 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v3936 : Index := Scalar.indexCast v20
  let c3968 : Index := 3968#32
  ![v3935.toNat, v3936.toNat, 3968]
def k0_off36 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4122 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4123 : Index := Scalar.indexCast v20
  let c4096 : Index := 4096#32
  ![v4122.toNat, v4123.toNat, 4096]
def k0_off37 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4176 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4177 : Index := Scalar.indexCast v20
  let c4224 : Index := 4224#32
  ![v4176.toNat, v4177.toNat, 4224]
def k0_off38 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4363 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4364 : Index := Scalar.indexCast v20
  let c4352 : Index := 4352#32
  ![v4363.toNat, v4364.toNat, 4352]
def k0_off39 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4417 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4418 : Index := Scalar.indexCast v20
  let c4480 : Index := 4480#32
  ![v4417.toNat, v4418.toNat, 4480]
def k0_off40 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4604 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4605 : Index := Scalar.indexCast v20
  let c4608 : Index := 4608#32
  ![v4604.toNat, v4605.toNat, 4608]
def k0_off41 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4658 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4659 : Index := Scalar.indexCast v20
  let c4736 : Index := 4736#32
  ![v4658.toNat, v4659.toNat, 4736]
def k0_off42 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4845 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4846 : Index := Scalar.indexCast v20
  let c4864 : Index := 4864#32
  ![v4845.toNat, v4846.toNat, 4864]
def k0_off43 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v4899 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v4900 : Index := Scalar.indexCast v20
  let c4992 : Index := 4992#32
  ![v4899.toNat, v4900.toNat, 4992]
def k0_off44 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5086 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5087 : Index := Scalar.indexCast v20
  let c5120 : Index := 5120#32
  ![v5086.toNat, v5087.toNat, 5120]
def k0_off45 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5140 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5141 : Index := Scalar.indexCast v20
  let c5248 : Index := 5248#32
  ![v5140.toNat, v5141.toNat, 5248]
def k0_off46 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5327 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5328 : Index := Scalar.indexCast v20
  let c5376 : Index := 5376#32
  ![v5327.toNat, v5328.toNat, 5376]
def k0_off47 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5381 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5382 : Index := Scalar.indexCast v20
  let c5504 : Index := 5504#32
  ![v5381.toNat, v5382.toNat, 5504]
def k0_off48 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5568 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5569 : Index := Scalar.indexCast v20
  let c5632 : Index := 5632#32
  ![v5568.toNat, v5569.toNat, 5632]
def k0_off49 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5622 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5623 : Index := Scalar.indexCast v20
  let c5760 : Index := 5760#32
  ![v5622.toNat, v5623.toNat, 5760]
def k0_off50 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5809 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5810 : Index := Scalar.indexCast v20
  let c5888 : Index := 5888#32
  ![v5809.toNat, v5810.toNat, 5888]
def k0_off51 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v5863 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v5864 : Index := Scalar.indexCast v20
  let c6016 : Index := 6016#32
  ![v5863.toNat, v5864.toNat, 6016]
def k0_off52 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6050 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6051 : Index := Scalar.indexCast v20
  let c6144 : Index := 6144#32
  ![v6050.toNat, v6051.toNat, 6144]
def k0_off53 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6104 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6105 : Index := Scalar.indexCast v20
  let c6272 : Index := 6272#32
  ![v6104.toNat, v6105.toNat, 6272]
def k0_off54 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6291 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6292 : Index := Scalar.indexCast v20
  let c6400 : Index := 6400#32
  ![v6291.toNat, v6292.toNat, 6400]
def k0_off55 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6345 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6346 : Index := Scalar.indexCast v20
  let c6528 : Index := 6528#32
  ![v6345.toNat, v6346.toNat, 6528]
def k0_off56 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6532 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6533 : Index := Scalar.indexCast v20
  let c6656 : Index := 6656#32
  ![v6532.toNat, v6533.toNat, 6656]
def k0_off57 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6586 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6587 : Index := Scalar.indexCast v20
  let c6784 : Index := 6784#32
  ![v6586.toNat, v6587.toNat, 6784]
def k0_off58 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6773 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6774 : Index := Scalar.indexCast v20
  let c6912 : Index := 6912#32
  ![v6773.toNat, v6774.toNat, 6912]
def k0_off59 (i : grid0.Coords) (c0_i32_10 : BitVec 32) : Fin 3 → Nat :=
  let arg0 : BitVec 32 := BitVec.ofNat 32 (i 0).val
  let c2_i32 : BitVec 32 := 2#32
  let c0_i32_11 : BitVec 32 := 0#32
  let v21 : BitVec 1 := Scalar.cmpi .eq c2_i32 c0_i32_11
  let c1_i32_12 : BitVec 32 := 1#32
  let v22 : BitVec 32 := Scalar.select v21 c1_i32_12 c2_i32
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let v6827 : Index := Scalar.indexCast v30
  let arg1 : BitVec 32 := BitVec.ofNat 32 (i 1).val
  let c64_i32 : BitVec 32 := 64#32
  let v18 : BitVec 32 := Scalar.muli arg1 c64_i32
  let v19 : BitVec 32 := Scalar.addi v18 c0_i32_10
  let v20 : BitVec 32 := v19
  let v6828 : Index := Scalar.indexCast v20
  let c7040 : Index := 7040#32
  ![v6827.toNat, v6828.toNat, 7040]
def k0_mult5 (i : grid0.Coords) : BitVec 32 :=
  let arg1 : BitVec 32 := BitVec.ofNat 32 (i 1).val
  let c64_i32_1958 : BitVec 32 := 64#32
  let v6832 : BitVec 32 := Scalar.muli arg1 c64_i32_1958
  let c32_i32_1959 : BitVec 32 := 32#32
  let v6833 : BitVec 32 := Scalar.addi v6832 c32_i32_1959
  v6833
def k0_cond4 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_off60 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v11 : Index := Scalar.indexCast v1
  let c0 : Index := 0#32
  ![v11.toNat, 0]
def k0_off61 (i : grid0.Coords) : Fin 3 → Nat :=
  let arg0 : BitVec 32 := BitVec.ofNat 32 (i 0).val
  let c1_i32 : BitVec 32 := 1#32
  let v13 : BitVec 32 := Scalar.addi arg0 c1_i32
  let c2_i32 : BitVec 32 := 2#32
  let c0_i32_4 : BitVec 32 := 0#32
  let v14 : BitVec 1 := Scalar.cmpi .eq c2_i32 c0_i32_4
  let c1_i32_5 : BitVec 32 := 1#32
  let v15 : BitVec 32 := Scalar.select v14 c1_i32_5 c2_i32
  let v16 : BitVec 32 := Scalar.remsi v13 v15
  let c0_i32_7 : BitVec 32 := 0#32
  let v18 : BitVec 1 := Scalar.cmpi .slt v16 c0_i32_7
  let c0_i32_8 : BitVec 32 := 0#32
  let v19 : BitVec 1 := Scalar.cmpi .slt v15 c0_i32_8
  let v20 : BitVec 1 := Scalar.xori v18 v19
  let c0_i32_6 : BitVec 32 := 0#32
  let v17 : BitVec 1 := Scalar.cmpi .ne v16 c0_i32_6
  let v21 : BitVec 1 := Scalar.andi v20 v17
  let v22 : BitVec 32 := Scalar.addi v16 v15
  let v23 : BitVec 32 := Scalar.select v21 v22 v16
  let v24 : Index := Scalar.indexCast v23
  let c0_9 : Index := 0#32
  let c0_10 : Index := 0#32
  ![v24.toNat, 0, 0]
def k0_mult6 (i : grid0.Coords) : BitVec 32 :=
  let arg1 : BitVec 32 := BitVec.ofNat 32 (i 1).val
  let c64_i32 : BitVec 32 := 64#32
  let v37 : BitVec 32 := Scalar.muli arg1 c64_i32
  let c0_i32_16 : BitVec 32 := 0#32
  let v38 : BitVec 32 := Scalar.addi v37 c0_i32_16
  v38
def k0_off62 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v285 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v286 : Index := Scalar.indexCast v39
  let c0_98 : Index := 0#32
  ![v285.toNat, v286.toNat, 0]
def k0_off63 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v339 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v340 : Index := Scalar.indexCast v39
  let c128 : Index := 128#32
  ![v339.toNat, v340.toNat, 128]
def k0_off64 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v526 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v527 : Index := Scalar.indexCast v39
  let c256 : Index := 256#32
  ![v526.toNat, v527.toNat, 256]
def k0_off65 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v580 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v581 : Index := Scalar.indexCast v39
  let c384 : Index := 384#32
  ![v580.toNat, v581.toNat, 384]
def k0_off66 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v767 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v768 : Index := Scalar.indexCast v39
  let c512 : Index := 512#32
  ![v767.toNat, v768.toNat, 512]
def k0_off67 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v821 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v822 : Index := Scalar.indexCast v39
  let c640 : Index := 640#32
  ![v821.toNat, v822.toNat, 640]
def k0_off68 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1008 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1009 : Index := Scalar.indexCast v39
  let c768 : Index := 768#32
  ![v1008.toNat, v1009.toNat, 768]
def k0_off69 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1062 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1063 : Index := Scalar.indexCast v39
  let c896 : Index := 896#32
  ![v1062.toNat, v1063.toNat, 896]
def k0_off70 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1249 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1250 : Index := Scalar.indexCast v39
  let c1024 : Index := 1024#32
  ![v1249.toNat, v1250.toNat, 1024]
def k0_off71 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1303 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1304 : Index := Scalar.indexCast v39
  let c1152 : Index := 1152#32
  ![v1303.toNat, v1304.toNat, 1152]
def k0_off72 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1490 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1491 : Index := Scalar.indexCast v39
  let c1280 : Index := 1280#32
  ![v1490.toNat, v1491.toNat, 1280]
def k0_off73 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1544 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1545 : Index := Scalar.indexCast v39
  let c1408 : Index := 1408#32
  ![v1544.toNat, v1545.toNat, 1408]
def k0_off74 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1731 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1732 : Index := Scalar.indexCast v39
  let c1536 : Index := 1536#32
  ![v1731.toNat, v1732.toNat, 1536]
def k0_off75 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1785 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1786 : Index := Scalar.indexCast v39
  let c1664 : Index := 1664#32
  ![v1785.toNat, v1786.toNat, 1664]
def k0_off76 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v1972 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v1973 : Index := Scalar.indexCast v39
  let c1792 : Index := 1792#32
  ![v1972.toNat, v1973.toNat, 1792]
def k0_off77 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2026 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2027 : Index := Scalar.indexCast v39
  let c1920 : Index := 1920#32
  ![v2026.toNat, v2027.toNat, 1920]
def k0_off78 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2213 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2214 : Index := Scalar.indexCast v39
  let c2048 : Index := 2048#32
  ![v2213.toNat, v2214.toNat, 2048]
def k0_off79 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2267 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2268 : Index := Scalar.indexCast v39
  let c2176 : Index := 2176#32
  ![v2267.toNat, v2268.toNat, 2176]
def k0_off80 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2454 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2455 : Index := Scalar.indexCast v39
  let c2304 : Index := 2304#32
  ![v2454.toNat, v2455.toNat, 2304]
def k0_off81 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2508 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2509 : Index := Scalar.indexCast v39
  let c2432 : Index := 2432#32
  ![v2508.toNat, v2509.toNat, 2432]
def k0_off82 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2695 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2696 : Index := Scalar.indexCast v39
  let c2560 : Index := 2560#32
  ![v2695.toNat, v2696.toNat, 2560]
def k0_off83 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2749 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2750 : Index := Scalar.indexCast v39
  let c2688 : Index := 2688#32
  ![v2749.toNat, v2750.toNat, 2688]
def k0_off84 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2936 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2937 : Index := Scalar.indexCast v39
  let c2816 : Index := 2816#32
  ![v2936.toNat, v2937.toNat, 2816]
def k0_off85 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v2990 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v2991 : Index := Scalar.indexCast v39
  let c2944 : Index := 2944#32
  ![v2990.toNat, v2991.toNat, 2944]
def k0_off86 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3177 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3178 : Index := Scalar.indexCast v39
  let c3072 : Index := 3072#32
  ![v3177.toNat, v3178.toNat, 3072]
def k0_off87 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3231 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3232 : Index := Scalar.indexCast v39
  let c3200 : Index := 3200#32
  ![v3231.toNat, v3232.toNat, 3200]
def k0_off88 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3418 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3419 : Index := Scalar.indexCast v39
  let c3328 : Index := 3328#32
  ![v3418.toNat, v3419.toNat, 3328]
def k0_off89 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3472 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3473 : Index := Scalar.indexCast v39
  let c3456 : Index := 3456#32
  ![v3472.toNat, v3473.toNat, 3456]
def k0_off90 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3659 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3660 : Index := Scalar.indexCast v39
  let c3584 : Index := 3584#32
  ![v3659.toNat, v3660.toNat, 3584]
def k0_off91 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3713 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3714 : Index := Scalar.indexCast v39
  let c3712 : Index := 3712#32
  ![v3713.toNat, v3714.toNat, 3712]
def k0_off92 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3900 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3901 : Index := Scalar.indexCast v39
  let c3840 : Index := 3840#32
  ![v3900.toNat, v3901.toNat, 3840]
def k0_off93 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v3954 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v3955 : Index := Scalar.indexCast v39
  let c3968 : Index := 3968#32
  ![v3954.toNat, v3955.toNat, 3968]
def k0_off94 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4141 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4142 : Index := Scalar.indexCast v39
  let c4096 : Index := 4096#32
  ![v4141.toNat, v4142.toNat, 4096]
def k0_off95 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4195 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4196 : Index := Scalar.indexCast v39
  let c4224 : Index := 4224#32
  ![v4195.toNat, v4196.toNat, 4224]
def k0_off96 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4382 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4383 : Index := Scalar.indexCast v39
  let c4352 : Index := 4352#32
  ![v4382.toNat, v4383.toNat, 4352]
def k0_off97 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4436 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4437 : Index := Scalar.indexCast v39
  let c4480 : Index := 4480#32
  ![v4436.toNat, v4437.toNat, 4480]
def k0_off98 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4623 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4624 : Index := Scalar.indexCast v39
  let c4608 : Index := 4608#32
  ![v4623.toNat, v4624.toNat, 4608]
def k0_off99 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4677 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4678 : Index := Scalar.indexCast v39
  let c4736 : Index := 4736#32
  ![v4677.toNat, v4678.toNat, 4736]
def k0_off100 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4864 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4865 : Index := Scalar.indexCast v39
  let c4864 : Index := 4864#32
  ![v4864.toNat, v4865.toNat, 4864]
def k0_off101 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v4918 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v4919 : Index := Scalar.indexCast v39
  let c4992 : Index := 4992#32
  ![v4918.toNat, v4919.toNat, 4992]
def k0_off102 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5105 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5106 : Index := Scalar.indexCast v39
  let c5120 : Index := 5120#32
  ![v5105.toNat, v5106.toNat, 5120]
def k0_off103 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5159 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5160 : Index := Scalar.indexCast v39
  let c5248 : Index := 5248#32
  ![v5159.toNat, v5160.toNat, 5248]
def k0_off104 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5346 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5347 : Index := Scalar.indexCast v39
  let c5376 : Index := 5376#32
  ![v5346.toNat, v5347.toNat, 5376]
def k0_off105 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5400 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5401 : Index := Scalar.indexCast v39
  let c5504 : Index := 5504#32
  ![v5400.toNat, v5401.toNat, 5504]
def k0_off106 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5587 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5588 : Index := Scalar.indexCast v39
  let c5632 : Index := 5632#32
  ![v5587.toNat, v5588.toNat, 5632]
def k0_off107 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5641 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5642 : Index := Scalar.indexCast v39
  let c5760 : Index := 5760#32
  ![v5641.toNat, v5642.toNat, 5760]
def k0_off108 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5828 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5829 : Index := Scalar.indexCast v39
  let c5888 : Index := 5888#32
  ![v5828.toNat, v5829.toNat, 5888]
def k0_off109 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v5882 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v5883 : Index := Scalar.indexCast v39
  let c6016 : Index := 6016#32
  ![v5882.toNat, v5883.toNat, 6016]
def k0_off110 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6069 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6070 : Index := Scalar.indexCast v39
  let c6144 : Index := 6144#32
  ![v6069.toNat, v6070.toNat, 6144]
def k0_off111 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6123 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6124 : Index := Scalar.indexCast v39
  let c6272 : Index := 6272#32
  ![v6123.toNat, v6124.toNat, 6272]
def k0_off112 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6310 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6311 : Index := Scalar.indexCast v39
  let c6400 : Index := 6400#32
  ![v6310.toNat, v6311.toNat, 6400]
def k0_off113 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6364 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6365 : Index := Scalar.indexCast v39
  let c6528 : Index := 6528#32
  ![v6364.toNat, v6365.toNat, 6528]
def k0_off114 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6551 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6552 : Index := Scalar.indexCast v39
  let c6656 : Index := 6656#32
  ![v6551.toNat, v6552.toNat, 6656]
def k0_off115 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6605 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6606 : Index := Scalar.indexCast v39
  let c6784 : Index := 6784#32
  ![v6605.toNat, v6606.toNat, 6784]
def k0_off116 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6792 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6793 : Index := Scalar.indexCast v39
  let c6912 : Index := 6912#32
  ![v6792.toNat, v6793.toNat, 6912]
def k0_off117 (i : grid0.Coords) (c0_i32_16 : BitVec 32) : Fin 3 → Nat :=
  let arg0 : BitVec 32 := BitVec.ofNat 32 (i 0).val
  let c2_i32_17 : BitVec 32 := 2#32
  let c0_i32_18 : BitVec 32 := 0#32
  let v40 : BitVec 1 := Scalar.cmpi .eq c2_i32_17 c0_i32_18
  let c1_i32_19 : BitVec 32 := 1#32
  let v41 : BitVec 32 := Scalar.select v40 c1_i32_19 c2_i32_17
  let v42 : BitVec 32 := Scalar.remsi arg0 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let v6846 : Index := Scalar.indexCast v49
  let arg1 : BitVec 32 := BitVec.ofNat 32 (i 1).val
  let c64_i32 : BitVec 32 := 64#32
  let v37 : BitVec 32 := Scalar.muli arg1 c64_i32
  let v38 : BitVec 32 := Scalar.addi v37 c0_i32_16
  let v39 : BitVec 32 := v38
  let v6847 : Index := Scalar.indexCast v39
  let c7040 : Index := 7040#32
  ![v6846.toNat, v6847.toNat, 7040]
def k0_mult7 (i : grid0.Coords) : BitVec 32 :=
  let arg1 : BitVec 32 := BitVec.ofNat 32 (i 1).val
  let c64_i32_1965 : BitVec 32 := 64#32
  let v6851 : BitVec 32 := Scalar.muli arg1 c64_i32_1965
  let c32_i32_1966 : BitVec 32 := 32#32
  let v6852 : BitVec 32 := Scalar.addi v6851 c32_i32_1966
  v6852
def k0_cond5 (i : grid0.Coords) : BitVec 1 :=
  let arg0 : BitVec 32 := BitVec.ofNat 32 (i 0).val
  let c36_i32 : BitVec 32 := 36#32
  let v8 : BitVec 1 := Scalar.cmpi .eq arg0 c36_i32
  let v9 : BitVec 32 := Scalar.extui v8
  let c0_i32_3 : BitVec 32 := 0#32
  let v10 : BitVec 1 := Scalar.cmpi .ne v9 c0_i32_3
  v10

def k0_off118 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let c0_i32_4 : BitVec 32 := 0#32
  ![v1.toNat, 0]
def k0_cond3 (i : grid0.Coords) : BitVec 1 :=
  let arg1 : BitVec 32 := BitVec.ofNat 32 (i 1).val
  let c7_i32_3984 : BitVec 32 := 7#32
  let v13646 : BitVec 1 := Scalar.cmpi .eq arg1 c7_i32_3984
  let v13647 : BitVec 32 := Scalar.extui v13646
  let c0_i32_3985 : BitVec 32 := 0#32
  let v13648 : BitVec 1 := Scalar.cmpi .ne v13647 c0_i32_3985
  v13648

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c8_i32 : BitVec 32 := 8#32
  let v1 : BitVec 32 := Scalar.muli v0 c8_i32
  let v2 : BitVec 32 := Scalar.addi v1 arg1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c8_i32 : BitVec 32 := 8#32
  let v1 : BitVec 32 := Scalar.muli v0 c8_i32
  let v2 : BitVec 32 := Scalar.addi v1 arg1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c35_i32 : BitVec 32 := 35#32
  let v0 : BitVec 32 := Scalar.minsi arg0 c35_i32
  let c8_i32 : BitVec 32 := 8#32
  let v1 : BitVec 32 := Scalar.muli v0 c8_i32
  let v2 : BitVec 32 := Scalar.addi v1 arg1
  let c1_i32 : BitVec 32 := 1#32
  let c0_i32 : BitVec 32 := 0#32
  ![v2.toNat, c1_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x3584 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S4x1024x7168 : Shape := ⟨3, ![4, 1024, 7168]⟩
abbrev S16 : Shape := ⟨1, ![16]⟩
abbrev S18432x3584 : Shape := ⟨2, ![18432, 3584]⟩
abbrev S18432x224 : Shape := ⟨2, ![18432, 224]⟩
abbrev S18432 : Shape := ⟨1, ![18432]⟩
abbrev S_ : Shape := ⟨0, ![]⟩
abbrev S1 : Shape := ⟨1, ![1]⟩
abbrev S1x254 : Shape := ⟨2, ![1, 254]⟩
abbrev S1x1 : Shape := ⟨2, ![1, 1]⟩
abbrev S18432x224x1x1 : Shape := ⟨4, ![18432, 224, 1, 1]⟩
abbrev S18432x224x8x4 : Shape := ⟨4, ![18432, 224, 8, 4]⟩
abbrev S18432x224x8x2 : Shape := ⟨4, ![18432, 224, 8, 2]⟩
abbrev S18432x224x8x1 : Shape := ⟨4, ![18432, 224, 8, 1]⟩
abbrev S18432x7168 : Shape := ⟨2, ![18432, 7168]⟩
abbrev S2 : Shape := ⟨1, ![2]⟩
abbrev S4096x7168 : Shape := ⟨2, ![4096, 7168]⟩
abbrev S1x18432 : Shape := ⟨2, ![1, 18432]⟩
abbrev S4096x18432 : Shape := ⟨2, ![4096, 18432]⟩
abbrev S1x4096x7168 : Shape := ⟨3, ![1, 4096, 7168]⟩
abbrev S1x1x1 : Shape := ⟨3, ![1, 1, 1]⟩
abbrev S15 : Shape := ⟨1, ![15]⟩
abbrev S4x1024x18432 : Shape := ⟨3, ![4, 1024, 18432]⟩

abbrev nBuf : Space → Nat
  | .hbm => 89
  | .vmem => 5
  | .smem => 2
  | _ => 0

abbrev bufTy : (tb : Table) → Fin (tcTables nBuf tb) → BufTy
  | .hbm, ⟨0, _⟩ => ⟨S4x1024x7168, .bf16⟩
  | .hbm, ⟨1, _⟩ => ⟨S16, .f32⟩
  | .hbm, ⟨2, _⟩ => ⟨S18432x3584, .i8⟩
  | .hbm, ⟨3, _⟩ => ⟨S18432x224, .i32⟩
  | .hbm, ⟨4, _⟩ => ⟨S18432, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1x254, .i32⟩
  | .hbm, ⟨9, _⟩ => ⟨S_, .i32⟩
  | .hbm, ⟨10, _⟩ => ⟨S1x254, .i32⟩
  | .hbm, ⟨11, _⟩ => ⟨S1x254, .i32⟩
  | .hbm, ⟨12, _⟩ => ⟨S_, .i32⟩
  | .hbm, ⟨13, _⟩ => ⟨S1x254, .i32⟩
  | .hbm, ⟨14, _⟩ => ⟨S1x254, .i32⟩
  | .hbm, ⟨15, _⟩ => ⟨S1x254, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1x1, .f32⟩
  | .hbm, ⟨20, _⟩ => ⟨S1x254, .f32⟩
  | .hbm, ⟨21, _⟩ => ⟨S1x254, .i1⟩
  | .hbm, ⟨22, _⟩ => ⟨S1x254, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S1, .i32⟩
  | .hbm, ⟨28, _⟩ => ⟨S_, .f32⟩
  | .hbm, ⟨29, _⟩ => ⟨S1, .f32⟩
  | .hbm, ⟨30, _⟩ => ⟨S1, .i1⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S1, .i32⟩
  | .hbm, ⟨41, _⟩ => ⟨S1, .f32⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .f32⟩
  | .hbm, ⟨49, _⟩ => ⟨S18432x224x1x1, .i32⟩
  | .hbm, ⟨50, _⟩ => ⟨S18432x224x8x4, .i32⟩
  | .hbm, ⟨51, _⟩ => ⟨S18432x224x8x4, .i32⟩
  | .hbm, ⟨52, _⟩ => ⟨S_, .i32⟩
  | .hbm, ⟨53, _⟩ => ⟨S18432x224x8x4, .i32⟩
  | .hbm, ⟨54, _⟩ => ⟨S18432x224x8x4, .i32⟩
  | .hbm, ⟨55, _⟩ => ⟨S18432x224x8x4, .i32⟩
  | .hbm, ⟨56, _⟩ => ⟨S18432x224x8x4, .i32⟩
  | .hbm, ⟨57, _⟩ => ⟨S_, .i32⟩
  | .hbm, ⟨58, _⟩ => ⟨S18432x224x8x4, .i32⟩
  | .hbm, ⟨59, _⟩ => ⟨S18432x224x8x4, .i32⟩
  | .hbm, ⟨60, _⟩ => ⟨S_, .i32⟩
  | .hbm, ⟨61, _⟩ => ⟨S18432x224x8x4, .i32⟩
  | .hbm, ⟨62, _⟩ => ⟨S18432x224x8x4, .i32⟩
  | .hbm, ⟨63, _⟩ => ⟨S18432x224x8x4, .i32⟩
  | .hbm, ⟨64, _⟩ => ⟨S_, .i32⟩
  | .hbm, ⟨65, _⟩ => ⟨S18432x224x8x4, .i32⟩
  | .hbm, ⟨66, _⟩ => ⟨S18432x224x8x4, .i32⟩
  | .hbm, ⟨67, _⟩ => ⟨S18432x224x8x2, .i8⟩
  | .hbm, ⟨68, _⟩ => ⟨S18432x224x8x1, .i8⟩
  | .hbm, ⟨69, _⟩ => ⟨S18432x224x8x4, .i8⟩
  | .hbm, ⟨70, _⟩ => ⟨S18432x224x8x1, .i8⟩
  | .hbm, ⟨71, _⟩ => ⟨S18432x224x8x4, .i8⟩
  | .hbm, ⟨72, _⟩ => ⟨S18432x224x8x4, .i1⟩
  | .hbm, ⟨73, _⟩ => ⟨S18432x224x8x4, .i1⟩
  | .hbm, ⟨74, _⟩ => ⟨S_, .i8⟩
  | .hbm, ⟨75, _⟩ => ⟨S18432x224x8x4, .i8⟩
  | .hbm, ⟨76, _⟩ => ⟨S18432x224x8x4, .i8⟩
  | .hbm, ⟨77, _⟩ => ⟨S18432x224x8x4, .i8⟩
  | .hbm, ⟨78, _⟩ => ⟨S18432x7168, .i8⟩
  | .hbm, ⟨79, _⟩ => ⟨S2, .f32⟩
  | .hbm, ⟨80, _⟩ => ⟨S4096x7168, .bf16⟩
  | .hbm, ⟨81, _⟩ => ⟨S1x18432, .f32⟩
  | .hbm, ⟨82, _⟩ => ⟨S4096x18432, .bf16⟩
  | .hbm, ⟨83, _⟩ => ⟨S4096x7168, .fp8e4m3⟩
  | .hbm, ⟨84, _⟩ => ⟨S1, .f32⟩
  | .hbm, ⟨85, _⟩ => ⟨S15, .f32⟩
  | .hbm, ⟨86, _⟩ => ⟨S16, .f32⟩
  | .hbm, ⟨87, _⟩ => ⟨S4x1024x18432, .bf16⟩
  | .hbm, ⟨88, _⟩ => ⟨S4x1024x7168, .fp8e4m3⟩
  | .local _ .vmem, ⟨0, _⟩ => ⟨S4096x7168, .bf16⟩
  | .local _ .vmem, ⟨1, _⟩ => ⟨S18432x7168, .i8⟩
  | .local _ .vmem, ⟨2, _⟩ => ⟨S1x18432, .f32⟩
  | .local _ .vmem, ⟨3, _⟩ => ⟨S4096x18432, .bf16⟩
  | .local _ .vmem, ⟨4, _⟩ => ⟨S4096x7168, .fp8e4m3⟩
  | .local _ .smem, ⟨0, _⟩ => ⟨S2, .f32⟩
  | .local _ .smem, ⟨1, _⟩ => ⟨S1, .f32⟩
  | _, _ => ⟨S4x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_v25 : Ref sig .tc := ⟨.hbm, 43, rfl⟩
abbrev main_v26 : Ref sig .tc := ⟨.hbm, 44, rfl⟩
abbrev main_c_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57_0 : Ref sig .tc := ⟨.hbm, 82, rfl⟩
abbrev main_v57_1 : Ref sig .tc := ⟨.hbm, 83, rfl⟩
abbrev main_v57_2 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Unpack.lean ====
/-  The kernel's unpacking of two-out-of-four weights, written once for a lane pair `p`.

    The printed body repeats the same operations for 28 lane pairs, twice per grid point; the
    definitions here state one lane pair with `p` a number, and the loops over the lane pairs and
    the two row groups as recursions. -/
module

public import proofs.«01_k».proof.Proof.Gen.Kernel

@[expose] public section

noncomputable section

namespace Cert.Kernel

open Idealize.ShloMosaic Idealize.SL.Sem
open Idealize.ShloMosaic.RefSig (ofTc tcTables tileCredit tileCredit_eq_zero tileCredit_pos)

variable {F : FTy → Type} [FloatOps F]
variable [Facts]
open Facts₀ Facts

/-! ## The scalars -/

/-- The dense weight's slot the point writes: `n % 2`, as the kernel computes it. -/
def slotW (i : grid0.Coords) : BitVec 32 :=
  let arg0 : BitVec 32 := BitVec.ofNat 32 (i 0).val
  let v22 : BitVec 32 := Scalar.select (Scalar.cmpi .eq 2#32 0#32) 1#32 2#32
  let v23 : BitVec 32 := Scalar.remsi arg0 v22
  Scalar.select (Scalar.andi (Scalar.xori (Scalar.cmpi .slt v23 0#32) (Scalar.cmpi .slt v22 0#32))
    (Scalar.cmpi .ne v23 0#32)) (Scalar.addi v23 v22) v23

/-- The first of the 32 dense rows that row group `w = 32 g` writes: `64 m + w`. -/
def rowW (i : grid0.Coords) (w : BitVec 32) : BitVec 32 :=
  Scalar.addi (Scalar.muli (BitVec.ofNat 32 (i 1).val) 64#32) w

/-- Where a block of 32 rows and 128 columns of the dense weight is stored. -/
def offU (i : grid0.Coords) (w : BitVec 32) (c : ℕ) : Fin 3 → ℕ :=
  ![(Scalar.indexCast (slotW i)).toNat, (Scalar.indexCast (rowW i w)).toNat, c]

theorem slotW_isInt (i : grid0.Coords) :
    Affine.IsInt (Scalar.indexCast (slotW i)) (((i 0).val : Int) % 2) := by
  have r_i0 : (i 0).val < 37 := (i 0).isLt
  have h_arg0 : Affine.IsInt (BitVec.ofNat 32 (i 0).val) (((i 0).val : Int)) := Affine.ofNat _ (by omega)
  have h2 : Affine.IsInt 2#32 (2) := Affine.ofNat _ (by omega)
  have h0 : Affine.IsInt 0#32 (0) := Affine.ofNat _ (by omega)
  have h1 : Affine.IsInt 1#32 (1) := Affine.ofNat _ (by omega)
  have h_v21 : Affine.Fails _ := Affine.eq_fails h2 h0 (by omega)
  have h_v22 : Affine.IsInt _ (2) := Affine.select_fails h_v21 h1 h2 (by omega)
  have h_v23 : Affine.IsInt _ ((((i 0).val : Int) % 2)) := Affine.remsi h_arg0 h_v22 (by omega)
  have h_v25 : Affine.Fails _ := Affine.slt_fails h_v23 h0 (by omega)
  have h_v26 : Affine.Fails _ := Affine.slt_fails h_v22 h0 (by omega)
  have h_v27 : Affine.Fails _ := Affine.xori_ff h_v25 h_v26
  have h_v24 : Affine.Term _ := Affine.cmpi_term .ne h_v23 h0
  have h_v28 : Affine.Fails _ := Affine.andi_fails_left h_v27 h_v24
  have h_v29 : Affine.IsInt _ ((((i 0).val : Int) % 2) + 2) := Affine.addi h_v23 h_v22 (by omega)
  exact Affine.indexCast (Affine.select_fails h_v28 h_v29 h_v23 (by omega))

theorem rowW_isInt (i : grid0.Coords) (g : Fin 2) :
    Affine.IsInt (Scalar.indexCast (rowW i (BitVec.ofNat 32 (32 * g.val))))
      (64 * ((i 1).val : Int) + 32 * (g.val : Int)) := by
  have r_i1 : (i 1).val < 8 := (i 1).isLt
  have hw : Affine.IsInt (BitVec.ofNat 32 (32 * g.val)) (32 * (g.val : Int)) :=
    Affine.ofNat _ (by omega)
  have h_arg1 : Affine.IsInt (BitVec.ofNat 32 (i 1).val) (((i 1).val : Int)) := Affine.ofNat _ (by omega)
  have h64 : Affine.IsInt 64#32 (64) := Affine.ofNat _ (by omega)
  have h_v18 : Affine.IsInt _ (64 * ((i 1).val : Int)) := Affine.muli h_arg1 h64 (by omega)
  exact Affine.indexCast (Affine.addi h_v18 hw (by omega))

theorem offU_eq (i : grid0.Coords) (g : Fin 2) (c : ℕ) :
    offU i (BitVec.ofNat 32 (32 * g.val)) c = ![(i 0).val % 2, 64 * (i 1).val + 32 * g.val, c] := by
  have h1 := Affine.nat_eq (slotW_isInt i) ((i 0).val % 2) (by omega)
  have h2 := Affine.nat_eq (rowW_isInt i g) (64 * (i 1).val + 32 * g.val) (by omega)
  unfold offU
  rw [h1, h2]

theorem offU_inb (i : grid0.Coords) (g : Fin 2) (c : ℕ) (hc : c + 128 ≤ 7168) :
    ∀ a, offU i (BitVec.ofNat 32 (32 * g.val)) c a + S1x32x128.size a ≤ S2x512x7168.size a := by
  have r_i1 : (i 1).val < 8 := (i 1).isLt
  rw [offU_eq]
  intro a
  fin_cases a
  · show (i 0).val % 2 + 1 ≤ 2; omega
  · show 64 * (i 1).val + 32 * g.val + 32 ≤ 512; omega
  · show c + 128 ≤ 7168; omega

theorem offU_packed (i : grid0.Coords) (g : Fin 2) (c : ℕ) (hc : c + 128 ≤ 7168) :
    (Rect.unit (s := S2x512x7168) (offU i (BitVec.ofNat 32 (32 * g.val)) c) S1x32x128.size
      (offU_inb i g c hc)).PackedRows (EltTy.packing .fp8e4m3) :=
  Affine.packed_dvd (of_decide_eq_true rfl) (Affine.dvd_of (rowW_isInt i g) 4 (by omega)) (by decide)

theorem valsInb (g : Fin 2) (p : ℕ) (hp : p < 28) :
    ∀ a, (![32 * g.val, 128 * p] : Fin 2 → Nat) a + S32x128.size a ≤ S64x3584.size a := by
  intro a
  fin_cases a
  · show 32 * g.val + 32 ≤ 64; omega
  · show 128 * p + 128 ≤ 3584; omega

theorem wordInb (g : Fin 2) (r : ℕ) (hr : r < 4) : ∀ a, S8x128.size a = 0 ∨
    (![32 * g.val + r, 0] : Fin 2 → Nat) a +
      (![4, 1] : Fin 2 → Nat) a * (S8x128.size a - 1) < S64x128.size a := by
  intro a
  refine .inr ?_
  fin_cases a
  · show 32 * g.val + r + 4 * (8 - 1) < 64; omega
  · show 0 + 1 * (128 - 1) < 128; omega

/-! ## The vectors that do not depend on the lane pair -/

/-- The lane number. -/
def lane : IVec S8x128 32 := iota .tc S8x128 32 [1] iota_S8x128_d1_w32
/-- The lane number with its lowest bit flipped. -/
def laneSw : IVec S8x128 32 := xori lane (broadcast S8x128 1#32)
/-- Whether the lane is odd. -/
def laneOdd : IVec S8x128 1 := cmpi .eq (andi lane (broadcast S8x128 1#32)) (broadcast S8x128 1#32)
/-- The lane number divided by `c`, rounded down, as jax writes it. -/
def laneDiv (c : BitVec 32) : IVec S8x128 32 :=
  have v39 : IVec S8x128 32 := divsi lane (broadcast S8x128 c)
  have v42 : IVec S8x128 32 := extui 32 (cmpi .sgt lane (broadcast S8x128 0#32)) natLt_1_32
  have v45 : IVec S8x128 32 := extui 32 (cmpi .slt lane (broadcast S8x128 0#32)) natLt_1_32
  have v46 : IVec S8x128 32 := subi v42 v45
  let v51 : BitVec 32 := Scalar.subi (Scalar.extui (Scalar.cmpi .sgt c 0#32)) (Scalar.extui (Scalar.cmpi .slt c 0#32))
  have v53 : IVec S8x128 1 := cmpi .ne v46 (broadcast S8x128 v51)
  have v57 : IVec S8x128 1 := cmpi .ne (remsi lane (broadcast S8x128 c)) (broadcast S8x128 0#32)
  select (andi v53 v57) (subi v39 (broadcast S8x128 1#32)) v39
/-- How far the lane's nibble is from the bottom of its word. -/
def nibShift : IVec S8x128 32 :=
  muli (broadcast S8x128 4#32) (andi (laneDiv 2#32) (broadcast S8x128 7#32))
/-- What a nibble is compared with for the first output of a lane. -/
def slotXor0 : IVec S8x128 32 := select laneOdd (broadcast S8x128 84215045#32) (broadcast S8x128 0#32)
/-- What a nibble is compared with for the second output of a lane. -/
def slotXor1 : IVec S8x128 32 := select laneOdd (broadcast S8x128 252645135#32) (broadcast S8x128 168430090#32)
/-- Whether the output lane comes from the second plane. -/
def fromB : IVec S8x128 1 := cmpi .ne (andi lane (broadcast S8x128 2#32)) (broadcast S8x128 0#32)

/-! ## One lane pair -/

/-- A gather along the lanes, with jax's treatment of negative indices. -/
def laneGather (v idx : IVec S8x128 32) : IVec S8x128 32 :=
  dynamicGather 1 v (shapeCast S8x128 (shapeCast S8x128x1
    (select (cmpi .slt idx (broadcast S8x128 0#32)) (addi idx (broadcast S8x128 128#32)) idx)
    shapeCasts_S8x128_S8x128x1) shapeCasts_S8x128x1_S8x128)

/-- One byte's nibble of index word `w`. -/
def nibOf (w idx : IVec S8x128 32) : IVec S8x128 32 :=
  andi (shrui (laneGather w idx) nibShift) (broadcast S8x128 15#32)

/-- Which lane of the index words lane pair `p` reads. -/
def wordLane (p : ℕ) : IVec S8x128 32 :=
  addi (laneDiv 16#32) (broadcast S8x128 (BitVec.ofNat 32 (8 * p % 128)))

/-- The four bytes' nibbles of lane pair `p`. -/
def nibs (w : Fin 4 → IVec S8x128 32) (p : ℕ) : IVec S8x128 32 :=
  ori (ori (ori (nibOf (w 0) (wordLane p))
    (shli (nibOf (w 1) (wordLane p)) (broadcast S8x128 8#32)))
    (shli (nibOf (w 2) (wordLane p)) (broadcast S8x128 16#32)))
    (shli (nibOf (w 3) (wordLane p)) (broadcast S8x128 24#32))

/-- One plane: per byte the first kept value, the second, or zero. -/
def plane (nib sx v0 v1 : IVec S8x128 32) : IVec S8x128 32 :=
  have y : IVec S8x128 32 := xori nib sx
  have nz : IVec S8x128 32 := ori y (shrui y (broadcast S8x128 1#32))
  have n0 : IVec S8x128 32 := andi nz (broadcast S8x128 16843009#32)
  have n1 : IVec S8x128 32 := andi (shrui nz (broadcast S8x128 2#32)) (broadcast S8x128 16843009#32)
  have k0 : IVec S8x128 32 := subi (shli n0 (broadcast S8x128 8#32)) n0
  have k1 : IVec S8x128 32 := subi (shli n1 (broadcast S8x128 8#32)) n1
  xori v0 (andi (xori v0 (andi v1 (xori k1 (constantI S8x128 32 4294967295#32)))) k0)

/-- Which lane of the planes half `h` of the output reads. -/
def srcLane (h : BitVec 32) : IVec S8x128 32 :=
  addi (addi (broadcast S8x128 h) (muli (broadcast S8x128 2#32) (laneDiv 4#32)))
    (andi lane (broadcast S8x128 1#32))

/-- The words of half `h` (`h` is `0` or `64`) of the output. -/
def halfWords (h : BitVec 32) (pl0 pl1 : IVec S8x128 32) : IVec S8x128 32 :=
  select fromB (laneGather pl1 (srcLane h)) (laneGather pl0 (srcLane h))

/-- The bytes loaded as words. -/
def valWords (x : Vec F S32x128 .i8) : IVec S8x128 32 :=
  bitcast S8x128 32 x bitcasts_S32x128_w8_S8x128_w32

/-- The plane of `sx` for the loaded bytes `x` and index words `w`. -/
def planeOf (w : Fin 4 → IVec S8x128 32) (p : ℕ) (sx : IVec S8x128 32) (x : Vec F S32x128 .i8) :
    IVec S8x128 32 :=
  plane (nibs w p) sx (select laneOdd (laneGather (valWords (F := F) x) laneSw) (valWords (F := F) x))
    (select laneOdd (valWords (F := F) x) (laneGather (valWords (F := F) x) laneSw))

/-- What is stored for half `h` of lane pair `p`. -/
def pairPay (w : Fin 4 → IVec S8x128 32) (p : ℕ) (h : BitVec 32) (x : Vec F S32x128 .i8) :
    FVec F S1x32x128 .fp8e4m3 :=
  shapeCast S1x32x128 (bitcastToFloat (F := F) .fp8e4m3 (bitcast S32x128 8
    (halfWords h (planeOf (F := F) w p slotXor0 x) (planeOf (F := F) w p slotXor1 x))
    bitcasts_S8x128_w32_S32x128_w8)) shapeCasts_S32x128_S1x32x128

section Program
variable (i : grid0.Coords) (arg4 : Memref sig .tc .vmem S64x3584 .i8)
  (arg5 arg6 : Memref sig .tc .vmem S64x128 .i32)
  (arg12 : Memref sig .tc .vmem S2x512x7168 .fp8e4m3) (harg12 : arg12.IsWhole)

/-- The store of one block of the dense weight, after the load whose value is not used. -/
def storeK (g : Fin 2) (c : ℕ) (hc : c + 128 ≤ 7168) (v : FVec F S1x32x128 .fp8e4m3) :
    Prog (TpuEff nD τ sig (Elt F) Λ₀ .tc) PUnit := do
  let _ : Vec F S1x32x128 .fp8e4m3 ← Prog.lift (.load arg12 (Rect.unit (s := S2x512x7168)
    (offU i (BitVec.ofNat 32 (32 * g.val)) c) S1x32x128.size (offU_inb i g c hc)).toLoadRect
    (View.loadsAt_vmem h_S1x32x128))
  Prog.lift (.store arg12 (Rect.unit (s := S2x512x7168)
    (offU i (BitVec.ofNat 32 (32 * g.val)) c) S1x32x128.size (offU_inb i g c hc)) v Finset.univ
    (View.stores_vmem h_S1x32x128 (harg12.storeExact_slice rfl _ (offU_packed i g c hc))
      (fun _ => rfl)) (.inl rfl))

/-- One lane pair of row group `g`. -/
def pairK (g : Fin 2) (wA wB : Fin 4 → IVec S8x128 32) (p : ℕ) (hp : p < 28) :
    Prog (TpuEff nD τ sig (Elt F) Λ₀ .tc) PUnit := do
  let x : Vec F S32x128 .i8 ← Prog.lift (.load arg4 (Rect.unit (s := S64x3584)
    ![32 * g.val, 128 * p] S32x128.size (valsInb g p hp)).toLoadRect (View.loadsAt_vmem h_S32x128))
  storeK i arg12 harg12 g (256 * p) (by omega)
    (pairPay (F := F) (if p < 16 then wA else wB) p 0#32 x)
  storeK i arg12 harg12 g (256 * p + 128) (by omega)
    (pairPay (F := F) (if p < 16 then wA else wB) p 64#32 x)

/-- The lane pairs from `28 - n` on. -/
def pairsK (g : Fin 2) (wA wB : Fin 4 → IVec S8x128 32) (n : ℕ) :
    Prog (TpuEff nD τ sig (Elt F) Λ₀ .tc) PUnit :=
  Nat.rec (motive := fun _ => Prog (TpuEff nD τ sig (Elt F) Λ₀ .tc) PUnit) (pure ⟨⟩)
    (fun n ih => pairK i arg4 arg12 harg12 g wA wB (27 - n) (by omega) >>= fun _ => ih) n

/-- One load of every fourth row of the index words. -/
def wordK (a : Memref sig .tc .vmem S64x128 .i32) (g : Fin 2) (r : ℕ) (hr : r < 4) :
    Prog (TpuEff nD τ sig (Elt F) Λ₀ .tc) (Vec F S8x128 .i32) :=
  Prog.lift (.load a (⟨![32 * g.val + r, 0], S8x128.size, ![4, 1], wordInb g r hr⟩ : LoadRect S64x128)
    (View.loadsAt_vmem h_S8x128))

/-- Row group `g`: its index words, then its 28 lane pairs. -/
def groupK (g : Fin 2) : Prog (TpuEff nD τ sig (Elt F) Λ₀ .tc) PUnit := do
  let a0 ← wordK (F := F) arg5 g 0 (by omega)
  let a1 ← wordK (F := F) arg5 g 1 (by omega)
  let a2 ← wordK (F := F) arg5 g 2 (by omega)
  let a3 ← wordK (F := F) arg5 g 3 (by omega)
  let b0 ← wordK (F := F) arg6 g 0 (by omega)
  let b1 ← wordK (F := F) arg6 g 1 (by omega)
  let b2 ← wordK (F := F) arg6 g 2 (by omega)
  let b3 ← wordK (F := F) arg6 g 3 (by omega)
  pairsK i arg4 arg12 harg12 g ![a0, a1, a2, a3] ![b0, b1, b2, b3] 28

/-- The whole unpacking of one grid point. -/
def unpackK : Prog (TpuEff nD τ sig (Elt F) Λ₀ .tc) PUnit := do
  groupK i arg4 arg5 arg6 arg12 harg12 0
  groupK i arg4 arg5 arg6 arg12 harg12 1

end Program
end Cert.Kernel
end
-- ==== Proof.Body.lean ====
/-  The kernel's body over the unpacking of `Unpack.lean`, and that the printed body is that program. -/
module

public import proofs.«01_k».proof.Proof.Unpack
public import Idealize.ShloMosaic.Lib.Tactic

@[expose] public section

noncomputable section

namespace Cert.Kernel

open Idealize.ShloMosaic Idealize.SL.Sem
open Idealize.ShloMosaic.RefSig (ofTc tcTables tileCredit tileCredit_eq_zero tileCredit_pos)

variable {F : FTy → Type} [FloatOps F]
variable [Facts]
open Facts₀ Facts

section Program
variable (i : grid0.Coords) (arg2 : Memref sig .tc .smem S2 .f32) (harg2 : arg2.IsWhole)
  (arg3 : Memref sig .tc .vmem S512x7168 .bf16) (harg3 : arg3.IsWhole)
  (arg4 : Memref sig .tc .vmem S64x3584 .i8) (harg4 : arg4.IsWhole)
  (arg5 : Memref sig .tc .vmem S64x128 .i32) (harg5 : arg5.IsWhole)
  (arg6 : Memref sig .tc .vmem S64x128 .i32) (harg6 : arg6.IsWhole)
  (arg7 : Memref sig .tc .vmem S1x512 .f32) (harg7 : arg7.IsWhole)
  (arg8 : Memref sig .tc .vmem S512x512 .bf16) (harg8 : arg8.IsWhole)
  (arg9 : Memref sig .tc .hbm S4096x7168 .fp8e4m3) (harg9 : arg9.IsWhole)
  (arg10 : Memref sig .tc .smem S1 .f32) (harg10 : arg10.IsWhole)
  (arg11 : Memref sig .tc .vmem S4096x7168 .fp8e4m3) (harg11 : arg11.IsWhole)
  (arg12 : Memref sig .tc .vmem S2x512x7168 .fp8e4m3) (harg12 : arg12.IsWhole)
  (arg13 : Memref sig .tc .vmem S8x7168 .f32) (harg13 : arg13.IsWhole)
  (arg14 : DmaSems sig S_)

/-! ## The payloads of the quantisation and of the product -/

/-- The running maximum of the absolute values after 32 more rows. -/
def amaxPay (x : Vec F S32x7168 .bf16) (a : Vec F S8x7168 .f32) : FVec F S8x7168 .f32 :=
  shapeCast S8x7168 (maximumf a (multiReduction .maximumf [0] S8x7168
    (shapeCast S4x8x7168 (absf (extf .f32 (shapeCast S32x7168 x shapeCasts_S32x7168_S32x7168)
      bitsLt_bf16_f32)) shapeCasts_S32x7168_S4x8x7168) 0xFF800000#32 reduces_S4x8x7168_S8x7168
      (.inl rfl) rfl)) shapeCasts_S8x7168_S8x7168

/-- The codes of 32 rows. -/
def codePay (inv : Elt F .f32) (x : Vec F S32x7168 .bf16) : FVec F S32x7168 .fp8e4m3 :=
  shapeCast S32x7168 (truncf .fp8e4m3
    (minimumf (broadcast S32x7168 (Scalar.ofBits .f32 0x43E00000#32))
      (maximumf (broadcast S32x7168 (Scalar.ofBits .f32 0xC3E00000#32))
        (mulf (extf .f32 (shapeCast S32x7168 x shapeCasts_S32x7168_S32x7168) bitsLt_bf16_f32)
          (broadcast S32x7168 inv)))) bitsLt_fp8e4m3_f32) shapeCasts_S32x7168_S32x7168

/-- The zeroed running maximum. -/
def zeroPay : FVec F S8x7168 .f32 :=
  shapeCast S8x7168 (broadcast S8x7168 (Scalar.ofBits .f32 0x00000000#32 : F .f32))
    shapeCasts_S8x7168_S8x7168

/-- The maximum of the running maxima. -/
def amaxOut (a : Vec F S8x7168 .f32) : F .f32 :=
  extractAt ![0, 0, 0] (shapeCast S1x1x1 (multiReduction .maximumf [1, 2] S1
    (shapeCast S1x8x7168 a shapeCasts_S8x7168_S1x8x7168) 0xFF800000#32 reduces_S1x8x7168_S1
    (.inl rfl) rfl) shapeCasts_S1_S1x1x1) inpos_S1x1x1_p0_0_0

/-- One tile of the product, scaled. -/
def yPay (q : Vec F S512x7168 .fp8e4m3) (w : Vec F S1x512x7168 .fp8e4m3) (s : Elt F .f32)
    (ws : Vec F S1x512 .f32) : FVec F S512x512 .bf16 :=
  truncf .bf16 (mulf (mulf (matmul dot_S512x7168_S512x7168_S512x512_1_1_0_0_n_n none q
    (shapeCast S512x7168 w shapeCasts_S1x512x7168_S512x7168)
    (constant S512x512 .f32 0x00000000#32)) (broadcast S512x512 s))
    (broadcastTo S512x512 (shapeCast S1x512 ws shapeCasts_S1x512_S1x512)
      broadcasts_S1x512_S512x512)) bitsLt_bf16_f32

/-! ## The three branches -/

/-- One trip of the quantisation loop. -/
def quantK (h1 : k0_cond1 i = 1#1) (inv : Elt F .f32) (t : Fin k0_t1_loop.trips) :
    Prog (TpuEff nD τ sig (Elt F) Λ₀ .tc) PUnit := do
  let x : Vec F S32x7168 .bf16 ← Prog.lift (.load arg3 (Rect.unit (s := S512x7168) (k0_off1 t) S32x7168.size (k0_off1_inb i t h1)).toLoadRect (View.loadsAt_vmem h_S32x7168))
  let a : Vec F S8x7168 .f32 ← Prog.lift (.load arg13 (Rect.unit (s := S8x7168) ![0, 0] S8x7168.size inb_S8x7168_S8x7168_0_0).toLoadRect (View.loadsAt_vmem h_S8x7168))
  let _ : Vec F S8x7168 .f32 ← Prog.lift (.load arg13 (Rect.unit (s := S8x7168) ![0, 0] S8x7168.size inb_S8x7168_S8x7168_0_0).toLoadRect (View.loadsAt_vmem h_S8x7168))
  Prog.lift (.store arg13 (Rect.unit (s := S8x7168) ![0, 0] S8x7168.size inb_S8x7168_S8x7168_0_0) (amaxPay x a) Finset.univ (View.stores_vmem_bits_univ h_S8x7168 rfl) (.inl rfl))
  let _ : Vec F S32x7168 .fp8e4m3 ← Prog.lift (.load arg11 (Rect.unit (s := S4096x7168) (k0_off2 i t) S32x7168.size (k0_off2_inb i t h1)).toLoadRect (View.loadsAt_vmem h_S32x7168))
  Prog.lift (.store arg11 (Rect.unit (s := S4096x7168) (k0_off2 i t) S32x7168.size (k0_off2_inb i t h1)) (codePay inv x) Finset.univ (View.stores_vmem h_S32x7168 (harg11.storeExact_slice rfl _ (k0_off2_packedfp8e4m3 i t h1)) (fun _ => rfl)) (.inl rfl))
  pure ⟨⟩

/-- The condition of the running maximum's first zeroing. -/
def condZero (i : grid0.Coords) : BitVec 1 :=
  Scalar.cmpi .ne (Scalar.extui (Scalar.cmpi .eq (BitVec.ofNat 32 (i 1).val) 0#32)) 0#32

/-- The zeroing of the running maximum. -/
def zeroK : Prog (TpuEff nD τ sig (Elt F) Λ₀ .tc) PUnit := do
  let _ : Vec F S8x7168 .f32 ← Prog.lift (.load arg13 (Rect.unit (s := S8x7168) ![0, 0] S8x7168.size inb_S8x7168_S8x7168_0_0).toLoadRect (View.loadsAt_vmem h_S8x7168))
  Prog.lift (.store arg13 (Rect.unit (s := S8x7168) ![0, 0] S8x7168.size inb_S8x7168_S8x7168_0_0) (zeroPay (F := F)) Finset.univ (View.stores_vmem_bits_univ h_S8x7168 rfl) (.inl rfl))
  pure ⟨⟩

/-- The first half of the points of the first grid row: quantise 512 rows, send them off. -/
def topK (h1 : k0_cond1 i = 1#1) : Prog (TpuEff nD τ sig (Elt F) Λ₀ .tc) PUnit := do
  let inv : Elt F .f32 ← smemLoad arg2 (Rect.unit (s := S2) ![1] S1.size inb_S2_S1_1) numel1_S1 rfl
  if h2 : condZero i = 1#1 then do
    zeroK arg13
  else do
    pure ⟨⟩
  Scf.Loop.for k0_t1_loop (k0_t1_ok i h1) ⟨⟩ fun t _ => quantK i arg3 arg11 harg11 arg13 h1 inv t
  Prog.lift (.enqueueDma (arg11.slice (Rect.unit (s := S4096x7168) (k0_off3 i) S512x7168.size (k0_off3_inb i h1)) (fun _ => rfl)) (.here (arg9.slice (Rect.unit (s := S4096x7168) (k0_off3 i) S512x7168.size (k0_off3_inb i h1)) (fun _ => rfl))) (.dma arg14.sem) (harg11.wordExact_slice rfl _ (k0_off3_wordsfp8e4m3 i h1)) (harg9.wordExact_slice rfl _ (k0_off3_wordsfp8e4m3 i h1)) ⟨Or.inl rfl, trivial⟩)

/-- The last step of the first grid row: the maximum of the running maxima. -/
def amaxK : Prog (TpuEff nD τ sig (Elt F) Λ₀ .tc) PUnit := do
  let a : Vec F S8x7168 .f32 ← Prog.lift (.load arg13 (Rect.unit (s := S8x7168) ![0, 0] S8x7168.size inb_S8x7168_S8x7168_0_0).toLoadRect (View.loadsAt_vmem h_S8x7168))
  let _ : Elt F .f32 ← smemLoad arg10 (Rect.unit (s := S1) ![0] S1.size inb_S1_S1_0) numel1_S1 rfl
  Prog.lift (.store arg10 (Rect.unit (s := S1) ![0] S1.size inb_S1_S1_0) (fun _ => amaxOut a) Finset.univ (View.stores_smem_one rfl numel1_S1) (.inl rfl))

/-- The printed body's first window is `topK`, then the vectors the rest reads. -/
theorem part1_eq (h1 : k0_cond1 i = 1#1) :
    k0_part1 (F := F) i arg2 harg2 arg3 harg3 arg4 harg4 arg5 harg5 arg6 harg6 arg7 harg7 arg8 harg8
      arg9 harg9 arg10 harg10 arg11 harg11 arg12 harg12 arg13 harg13 arg14
      (BitVec.ofNat 32 (i 0).val) (BitVec.ofNat 32 (i 1).val) h1
    = (topK i arg2 arg3 arg9 harg9 arg11 harg11 arg13 arg14 h1 >>= fun _ => pure
        ⟨rowW i 0#32, slotW i, lane, laneSw, laneOdd, 2#32, divsi lane (broadcast S8x128 2#32),
          extui 32 (cmpi .sgt lane (broadcast S8x128 0#32)) natLt_1_32,
          cmpi .slt lane (broadcast S8x128 0#32)⟩) := by
  by_cases h2 : condZero i = 1#1
  · have h2' := h2
    unfold condZero at h2'
    dsimp only [k0_part1, topK]
    simp only [dif_pos h2, dif_pos h2', Prog.bind_assoc, bind_assoc]
    sl_kernel_rfl
  · have h2' := h2
    unfold condZero at h2'
    dsimp only [k0_part1, topK]
    simp only [dif_neg h2, dif_neg h2', Prog.bind_assoc, bind_assoc]
    sl_kernel_rfl

/-- The points of the later grid rows: one tile of the product, then unpack. -/
def bodyB (h4 : k0_cond4 i = 1#1) : Prog (TpuEff nD τ sig (Elt F) Λ₀ .tc) PUnit := do
  let q : Vec F S512x7168 .fp8e4m3 ← Prog.lift (.load arg11 (Rect.unit (s := S4096x7168) (k0_off60 i) S512x7168.size (k0_off60_inb i h4)).toLoadRect (View.loadsAt_vmem h_S512x7168))
  let w : Vec F S1x512x7168 .fp8e4m3 ← Prog.lift (.load arg12 (Rect.unit (s := S2x512x7168) (k0_off61 i) S1x512x7168.size (k0_off61_inb i h4)).toLoadRect (View.loadsAt_vmem h_S1x512x7168))
  let s : Elt F .f32 ← smemLoad arg2 (Rect.unit (s := S2) ![0] S1.size inb_S2_S1_0) numel1_S1 rfl
  let ws : Vec F S1x512 .f32 ← Prog.lift (.load arg7 (Rect.unit (s := S1x512) ![0, 0] S1x512.size inb_S1x512_S1x512_0_0).toLoadRect (View.loadsAt_vmem h_S1x512))
  let _ : Vec F S512x512 .bf16 ← Prog.lift (.load arg8 (Rect.unit (s := S512x512) ![0, 0] S512x512.size inb_S512x512_S512x512_0_0).toLoadRect (View.loadsAt_vmem h_S512x512))
  Prog.lift (.store arg8 (Rect.unit (s := S512x512) ![0, 0] S512x512.size inb_S512x512_S512x512_0_0) (yPay q w s ws) Finset.univ (View.stores_vmem h_S512x512 (harg8.storeExact_slice rfl _ packedbf16_S512x512_S512x512_0_0) (fun _ => rfl)) (.inl rfl))
  unpackK i arg4 arg5 arg6 arg12 harg12
  pure ⟨⟩

/-- The points of the last grid row: wait for the codes' copy. -/
def bodyC (h5 : k0_cond5 i = 1#1) : Prog (TpuEff nD τ sig (Elt F) Λ₀ .tc) PUnit := do
  Prog.lift (.waitDma2 arg14.sem (arg11.slice (Rect.unit (s := S4096x7168) (k0_off118 i) S512x7168.size (k0_off118_inb i h5)) (fun _ => rfl)) (arg9.slice (Rect.unit (s := S4096x7168) (k0_off118 i) S512x7168.size (k0_off118_inb i h5)) (fun _ => rfl)) (harg11.wordExact_slice rfl _ (k0_off118_wordsfp8e4m3 i h5)) (harg9.wordExact_slice rfl _ (k0_off118_wordsfp8e4m3 i h5)))
  pure ⟨⟩

/-- The body. -/
def bodyK : Prog (TpuEff nD τ sig (Elt F) Λ₀ .tc) PUnit := do
  if h1 : k0_cond1 i = 1#1 then do
    topK i arg2 arg3 arg9 harg9 arg11 harg11 arg13 arg14 h1
    unpackK i arg4 arg5 arg6 arg12 harg12
    if h3 : k0_cond3 i = 1#1 then do
      amaxK arg10 arg13
      pure ⟨⟩
    else do
      pure ⟨⟩
    pure ⟨⟩
  else do
    pure ⟨⟩
  if h4 : k0_cond4 i = 1#1 then do
    bodyB i arg2 arg4 arg5 arg6 arg7 arg8 harg8 arg11 arg12 harg12 h4
  else do
    pure ⟨⟩
  if h5 : k0_cond5 i = 1#1 then do
    bodyC i arg9 harg9 arg11 harg11 arg14 h5
  else do
    pure ⟨⟩
  pure ⟨⟩

/-- The printed body is that program: they run the same operations in the same order. -/
theorem body_eq :
    cc0_sparse24_linear (F := F) i arg2 harg2 arg3 harg3 arg4 harg4 arg5 harg5 arg6 harg6 arg7 harg7 arg8 harg8
      arg9 harg9 arg10 harg10 arg11 harg11 arg12 harg12 arg13 harg13 arg14
    = bodyK i arg2 arg3 arg4 arg5 arg6 arg7 arg8 harg8 arg9 harg9 arg10 arg11 harg11 arg12 harg12 arg13 arg14 := by
  by_cases h1 : k0_cond1 i = 1#1
  · dsimp only [cc0_sparse24_linear, bodyK]
    rw [dif_pos h1, dif_pos h1]
    rw [k0_part298, part1_eq]
    simp only [Prog.bind_assoc, bind_assoc]
    refine congrArg (Prog.bind _) (funext fun _ => ?_)
    sl_kernel_rfl
  · dsimp only [cc0_sparse24_linear, bodyK]
    rw [dif_neg h1, dif_neg h1]
    sl_kernel_rfl

end Program
end Cert.Kernel
end
-- ==== Proof.Triples.lean ====
/-  What each part of the kernel's body does to the buffers it holds, as pure functions of their contents. -/
module

public import proofs.«01_k».proof.Proof.Body
public import proofs.«01_k».proof.Proof.Gen.Kernel.Frame
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The weakest precondition of a program of the body on core `c`. -/
abbrev wpB {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-! ## Rules -/

/-- Two programs in sequence. -/
theorem wpB_bind {α β : Type} {c : Dev nD} {a : Prog (TpuEff nD τ sig (Elt F) Λ₀ .tc) α}
    {b : α → Prog (TpuEff nD τ sig (Elt F) Λ₀ .tc) β} {P : sProp 𝕄} {R : α → sProp 𝕄} {Q : β → sProp 𝕄}
    (ha : P ⊢ wpB c a R) (hb : ∀ x, R x ⊢ wpB c (b x) Q) : P ⊢ wpB c (a >>= b) Q := by
  unfold wpB at *
  rw [wp_bind]
  exact ha.trans (wp_mono _ _ _ hb)

/-- A program that only returns. -/
theorem wpB_pure {α : Type} {c : Dev nD} {x : α} {P : sProp 𝕄} {Q : α → sProp 𝕄} (h : P ⊢ Q x) : P ⊢ wpB c (pure x) Q :=
  h.trans (le_wp_ret _ _ _ x Q)

/-- A resource beside a program's stays as it is. -/
theorem wpB_frame {α : Type} {c : Dev nD} {a : Prog (TpuEff nD τ sig (Elt F) Λ₀ .tc) α} {P R : sProp 𝕄} {Q : α → sProp 𝕄}
    (h : P ⊢ wpB c a Q) : iprop(P ∗ R) ⊢ wpB c a (fun x => iprop(Q x ∗ R)) :=
  (sep_mono_left h).trans (wp_frame_r _ _ _)

/-- A known fact beside a resource. -/
theorem pureL {φ : Prop} {P G : sProp 𝕄} (h : φ → (P ⊢ G)) : iprop(⌜φ⌝ ∗ P) ⊢ G := by
  iintro ⟨%hx, H⟩
  iapply (h hx)
  iexact H

/-- A resource at some contents. -/
theorem exL {ι : Type} {P : ι → sProp 𝕄} {G : sProp 𝕄} (h : ∀ x, P x ⊢ G) : iprop(∃ x, P x) ⊢ G := by
  iintro ⟨%x, H⟩
  iapply (h x)
  iexact H

theorem wpB_mono {α : Type} {c : Dev nD} {a : Prog (TpuEff nD τ sig (Elt F) Λ₀ .tc) α} {P : sProp 𝕄} {Q Q' : α → sProp 𝕄}
    (h : P ⊢ wpB c a Q) (hq : ∀ x, Q x ⊢ Q' x) : P ⊢ wpB c a Q' :=
  h.trans (wp_mono _ _ _ hq)

section Rules
variable {c : Dev nD} {cs : CoreSpace} {s : Shape} {e : EltTy} (m : Memref sig .tc cs s e)

/-- A load of a held memref reads what it holds there. -/
theorem wpB_load (r : LoadRect s) (hl : m.view.LoadsAt r) (q : PosShare TreeShare) (X : s.Idx → Elt F e) :
    (owns (c : Thread nD τ) m q X : sProp 𝕄)
      ⊢ wpB c (Prog.lift (.load m r hl)) (fun x => iprop(⌜x = fun j => X (r.idx j)⌝ ∗ owns (c : Thread nD τ) m q X)) := by
  unfold wpB owns Prog.lift
  iintro ⟨%f, %hf, H⟩
  iapply (wp_load Variants.none (c : Thread nD τ) none Set.univ (S := m.view.set) (Finset.map_subset_map.mpr (Finset.subset_univ _))) $$ [H]
  · iexact H
  iintro H
  iapply (le_wp_ret _ _ _ _ _)
  isplitr
  · ipureintro; subst hf; rfl
  iexists f
  isplitr
  · ipureintro; exact hf
  iexact H

/-- A store into a fully held memref puts the payload there. -/
theorem wpB_store {off size : Fin s.rank → ℕ} (inb : ∀ a, off a + size a ≤ s.size a)
    (w : (Rect.unit off size inb).shape.Idx → Elt F e) (hx) (hm) (X : s.Idx → Elt F e) (off' : Fin s.rank → ℕ) (ho : off = off') :
    (owns (c : Thread nD τ) m fullShare X : sProp 𝕄)
      ⊢ wpB c (Prog.lift (.store m (Rect.unit off size inb) w Finset.univ hx hm))
          (fun _ => owns (c : Thread nD τ) m fullShare (VecWindow.put X off' size w)) := by
  unfold wpB owns Prog.lift
  iintro ⟨%f, %hf, H⟩
  iapply (wp_store Variants.none (c : Thread nD τ) none Set.univ (S := m.view.set) (by
    rw [View.setOn_univ]; exact View.set_slice_subset _ _)) $$ [H]
  · iexact H
  iintro H
  iapply (le_wp_ret _ _ _ _ _)
  iexists _
  isplitr
  swap
  · iexact H
  ipureintro
  have h := View.read_writes_cons_put m.view f inb w [] ho
  rw [View.writes_nil, hf] at h
  exact h

end Rules

/-! ## The unpacking -/

section Unpack
variable (i : grid0.Coords)

/-- The dense weight with one block of row group `g` stored at column `col`. -/
def putU (g : Fin 2) (col : ℕ) (v : FVec F S1x32x128 .fp8e4m3) (X : S2x512x7168.Idx → Elt F .fp8e4m3) :
    S2x512x7168.Idx → Elt F .fp8e4m3 :=
  VecWindow.put X ![(i 0).val % 2, 64 * (i 1).val + 32 * g.val, col] S1x32x128.size v

/-- The words one strided load takes. -/
def wordF (W : S64x128.Idx → BitVec 32) (g : Fin 2) (r : ℕ) (hr : r < 4) : IVec S8x128 32 :=
  fun j => W ((⟨![32 * g.val + r, 0], S8x128.size, ![4, 1], wordInb g r hr⟩ : LoadRect S64x128).idx j)

/-- All four. -/
def wordsF (W : S64x128.Idx → BitVec 32) (g : Fin 2) : Fin 4 → IVec S8x128 32 :=
  ![wordF W g 0 (by omega), wordF W g 1 (by omega), wordF W g 2 (by omega), wordF W g 3 (by omega)]

/-- The bytes lane pair `p` reads. -/
def valsF (V : S64x3584.Idx → Elt F .i8) (g : Fin 2) (p : ℕ) (hp : p < 28) : Vec F S32x128 .i8 :=
  fun j => V ((Rect.unit (s := S64x3584) ![32 * g.val, 128 * p] S32x128.size (valsInb g p hp)).toLoadRect.idx j)

/-- The dense weight after one lane pair. -/
def pairF (g : Fin 2) (V : S64x3584.Idx → Elt F .i8) (wA wB : Fin 4 → IVec S8x128 32) (p : ℕ) (hp : p < 28)
    (X : S2x512x7168.Idx → Elt F .fp8e4m3) : S2x512x7168.Idx → Elt F .fp8e4m3 :=
  putU i g (256 * p + 128) (pairPay (F := F) (if p < 16 then wA else wB) p 64#32 (valsF V g p hp))
    (putU i g (256 * p) (pairPay (F := F) (if p < 16 then wA else wB) p 0#32 (valsF V g p hp)) X)

/-- The dense weight after the lane pairs from `28 - n` on. -/
def pairsF (g : Fin 2) (V : S64x3584.Idx → Elt F .i8) (wA wB : Fin 4 → IVec S8x128 32) (n : ℕ) :
    (S2x512x7168.Idx → Elt F .fp8e4m3) → S2x512x7168.Idx → Elt F .fp8e4m3 :=
  Nat.rec (motive := fun _ => (S2x512x7168.Idx → Elt F .fp8e4m3) → S2x512x7168.Idx → Elt F .fp8e4m3) (fun X => X)
    (fun n ih X => ih (pairF i g V wA wB (27 - n) (by omega) X)) n

/-- The dense weight after row group `g`. -/
def groupF (g : Fin 2) (V : S64x3584.Idx → Elt F .i8) (A B : S64x128.Idx → BitVec 32) (X : S2x512x7168.Idx → Elt F .fp8e4m3) :
    S2x512x7168.Idx → Elt F .fp8e4m3 :=
  pairsF i g V (wordsF A g) (wordsF B g) 28 X

/-- The dense weight after the unpacking of one grid point. -/
def unpackF (V : S64x3584.Idx → Elt F .i8) (A B : S64x128.Idx → BitVec 32) (X : S2x512x7168.Idx → Elt F .fp8e4m3) :
    S2x512x7168.Idx → Elt F .fp8e4m3 :=
  groupF i 1 V A B (groupF i 0 V A B X)

variable (c : Dev nD) (arg4 : Memref sig .tc .vmem S64x3584 .i8)
  (arg5 arg6 : Memref sig .tc .vmem S64x128 .i32)
  (arg12 : Memref sig .tc .vmem S2x512x7168 .fp8e4m3) (harg12 : arg12.IsWhole)

theorem storeK_sound (g : Fin 2) (col : ℕ) (hc : col + 128 ≤ 7168) (v : FVec F S1x32x128 .fp8e4m3)
    (X : S2x512x7168.Idx → Elt F .fp8e4m3) :
    (owns (c : Thread nD τ) arg12 fullShare X : sProp 𝕄)
      ⊢ wpB c (storeK i arg12 harg12 g col hc v) (fun _ => owns (c : Thread nD τ) arg12 fullShare (putU i g col v X)) := by
  unfold storeK
  refine wpB_bind (wpB_load arg12 _ _ _ X) fun x => ?_
  refine (show iprop(⌜_⌝ ∗ owns (c : Thread nD τ) arg12 fullShare X) ⊢ owns (c : Thread nD τ) arg12 fullShare X from by
    iintro ⟨-, H⟩; iexact H).trans ?_
  exact wpB_store arg12 _ v _ _ X _ (offU_eq i g col)

theorem pairK_sound (g : Fin 2) (wA wB : Fin 4 → IVec S8x128 32) (p : ℕ) (hp : p < 28) (q : PosShare TreeShare)
    (V : S64x3584.Idx → Elt F .i8) (X : S2x512x7168.Idx → Elt F .fp8e4m3) :
    (iprop(owns (c : Thread nD τ) arg12 fullShare X ∗ owns (c : Thread nD τ) arg4 q V) : sProp 𝕄)
      ⊢ wpB c (pairK i arg4 arg12 harg12 g wA wB p hp)
          (fun _ => iprop(owns (c : Thread nD τ) arg12 fullShare (pairF i g V wA wB p hp X) ∗ owns (c : Thread nD τ) arg4 q V)) := by
  unfold pairK
  refine wpB_bind (R := fun x => iprop(⌜x = valsF V g p hp⌝ ∗ owns (c : Thread nD τ) arg12 fullShare X ∗ owns (c : Thread nD τ) arg4 q V))
    ((show iprop(owns (c : Thread nD τ) arg12 fullShare X ∗ owns (c : Thread nD τ) arg4 q V)
      ⊢ iprop(owns (c : Thread nD τ) arg4 q V ∗ owns (c : Thread nD τ) arg12 fullShare X) from by
        iintro ⟨H1, H2⟩; isplitl [H2] <;> iassumption).trans
      (wpB_mono (wpB_frame (wpB_load arg4 _ _ _ V)) fun x => by
        iintro ⟨⟨%hx, H4⟩, H12⟩
        isplitr; · ipureintro; exact hx
        isplitl [H12] <;> iassumption)) fun x => ?_
  refine pureL fun hx => ?_
  subst hx
  refine wpB_bind (wpB_frame (storeK_sound i c arg12 harg12 g _ _ _ X)) fun _ => ?_
  exact wpB_frame (storeK_sound i c arg12 harg12 g _ _ _ _)

theorem pairsK_sound (g : Fin 2) (wA wB : Fin 4 → IVec S8x128 32) (q : PosShare TreeShare)
    (V : S64x3584.Idx → Elt F .i8) (n : ℕ) : ∀ (X : S2x512x7168.Idx → Elt F .fp8e4m3),
    (iprop(owns (c : Thread nD τ) arg12 fullShare X ∗ owns (c : Thread nD τ) arg4 q V) : sProp 𝕄)
      ⊢ wpB c (pairsK i arg4 arg12 harg12 g wA wB n)
          (fun _ => iprop(owns (c : Thread nD τ) arg12 fullShare (pairsF i g V wA wB n X) ∗ owns (c : Thread nD τ) arg4 q V)) := by
  induction n with
  | zero => exact fun X => wpB_pure .rfl
  | succ n ih => exact fun X => wpB_bind (pairK_sound i c arg4 arg12 harg12 g wA wB _ _ q V X) fun _ => ih _

theorem wordK_sound (a : Memref sig .tc .vmem S64x128 .i32) (g : Fin 2) (r : ℕ) (hr : r < 4) (q : PosShare TreeShare)
    (W : S64x128.Idx → BitVec 32) (R : sProp 𝕄) {β : Type}
    (k : IVec S8x128 32 → Prog (TpuEff nD τ sig (Elt F) Λ₀ .tc) β) (Q : β → sProp 𝕄)
    (h : iprop(owns (c : Thread nD τ) a q W ∗ R) ⊢ wpB c (k (wordF W g r hr)) Q) :
    iprop(owns (c : Thread nD τ) a q W ∗ R) ⊢ wpB c (wordK (F := F) a g r hr >>= k) Q := by
  refine wpB_bind (wpB_frame (wpB_load a _ _ q W)) fun x => ?_
  iintro ⟨⟨%hx, H⟩, HR⟩
  rw [hx]
  iapply h
  isplitl [H] <;> iassumption

/-- What the unpacking holds of its three inputs and its output. -/
abbrev unpackRes (q4 q5 q6 : PosShare TreeShare) (V : S64x3584.Idx → Elt F .i8) (A B : S64x128.Idx → BitVec 32)
    (X : S2x512x7168.Idx → Elt F .fp8e4m3) : sProp 𝕄 :=
  iprop(owns (c : Thread nD τ) arg12 fullShare X ∗ owns (c : Thread nD τ) arg4 q4 V
    ∗ owns (c : Thread nD τ) arg5 q5 A ∗ owns (c : Thread nD τ) arg6 q6 B)

theorem groupK_sound (g : Fin 2) (q4 q5 q6 : PosShare TreeShare) (V : S64x3584.Idx → Elt F .i8) (A B : S64x128.Idx → BitVec 32)
    (X : S2x512x7168.Idx → Elt F .fp8e4m3) :
    (unpackRes c arg4 arg5 arg6 arg12 q4 q5 q6 V A B X : sProp 𝕄)
      ⊢ wpB c (groupK i arg4 arg5 arg6 arg12 harg12 g)
          (fun _ => unpackRes c arg4 arg5 arg6 arg12 q4 q5 q6 V A B (groupF i g V A B X)) := by
  have e1 : (unpackRes c arg4 arg5 arg6 arg12 q4 q5 q6 V A B X : sProp 𝕄)
      ⊢ iprop(owns (c : Thread nD τ) arg5 q5 A ∗ (owns (c : Thread nD τ) arg6 q6 B ∗ owns (c : Thread nD τ) arg12 fullShare X ∗ owns (c : Thread nD τ) arg4 q4 V)) := by
    iintro ⟨H12, H4, H5, H6⟩
    isplitl [H5]; · iexact H5
    isplitl [H6]; · iexact H6
    isplitl [H12] <;> iassumption
  have e2 : (iprop(owns (c : Thread nD τ) arg5 q5 A ∗ (owns (c : Thread nD τ) arg6 q6 B ∗ owns (c : Thread nD τ) arg12 fullShare X ∗ owns (c : Thread nD τ) arg4 q4 V)) : sProp 𝕄)
      ⊢ iprop(owns (c : Thread nD τ) arg6 q6 B ∗ (owns (c : Thread nD τ) arg5 q5 A ∗ owns (c : Thread nD τ) arg12 fullShare X ∗ owns (c : Thread nD τ) arg4 q4 V)) := by
    iintro ⟨H5, H6, H12, H4⟩
    isplitl [H6]; · iexact H6
    isplitl [H5]; · iexact H5
    isplitl [H12] <;> iassumption
  have e3 : (iprop(owns (c : Thread nD τ) arg6 q6 B ∗ (owns (c : Thread nD τ) arg5 q5 A ∗ owns (c : Thread nD τ) arg12 fullShare X ∗ owns (c : Thread nD τ) arg4 q4 V)) : sProp 𝕄)
      ⊢ iprop((owns (c : Thread nD τ) arg12 fullShare X ∗ owns (c : Thread nD τ) arg4 q4 V) ∗ (owns (c : Thread nD τ) arg5 q5 A ∗ owns (c : Thread nD τ) arg6 q6 B)) := by
    iintro ⟨H6, H5, H12, H4⟩
    isplitl [H12 H4]
    · isplitl [H12] <;> iassumption
    · isplitl [H5] <;> iassumption
  unfold groupK
  refine e1.trans ?_
  refine wordK_sound c arg5 g 0 _ q5 A _ _ _ ?_
  refine wordK_sound c arg5 g 1 _ q5 A _ _ _ ?_
  refine wordK_sound c arg5 g 2 _ q5 A _ _ _ ?_
  refine wordK_sound c arg5 g 3 _ q5 A _ _ _ ?_
  refine e2.trans ?_
  refine wordK_sound c arg6 g 0 _ q6 B _ _ _ ?_
  refine wordK_sound c arg6 g 1 _ q6 B _ _ _ ?_
  refine wordK_sound c arg6 g 2 _ q6 B _ _ _ ?_
  refine wordK_sound c arg6 g 3 _ q6 B _ _ _ ?_
  refine e3.trans ?_
  refine wpB_mono (wpB_frame (pairsK_sound i c arg4 arg12 harg12 g _ _ q4 V 28 X)) fun _ => ?_
  iintro ⟨⟨H12, H4⟩, H5, H6⟩
  isplitl [H12]; · iexact H12
  isplitl [H4]; · iexact H4
  isplitl [H5] <;> iassumption

/-- The unpacking writes `unpackF`. -/
theorem unpackK_sound (q4 q5 q6 : PosShare TreeShare) (V : S64x3584.Idx → Elt F .i8) (A B : S64x128.Idx → BitVec 32)
    (X : S2x512x7168.Idx → Elt F .fp8e4m3) :
    (unpackRes c arg4 arg5 arg6 arg12 q4 q5 q6 V A B X : sProp 𝕄)
      ⊢ wpB c (unpackK i arg4 arg5 arg6 arg12 harg12)
          (fun _ => unpackRes c arg4 arg5 arg6 arg12 q4 q5 q6 V A B (unpackF i V A B X)) := by
  unfold unpackK
  exact wpB_bind (groupK_sound i c arg4 arg5 arg6 arg12 harg12 0 q4 q5 q6 V A B X) fun _ =>
    groupK_sound i c arg4 arg5 arg6 arg12 harg12 1 q4 q5 q6 V A B _

end Unpack

end Cert.Kernel.Hand
end
-- ==== Proof.Quant.lean ====
/-  What the quantisation loop, the product and the copies of the kernel's body do to the buffers they hold. -/
module

public import proofs.«01_k».proof.Proof.Triples
public import Idealize.ShloMosaic.Lib.Batch
public import Idealize.ShloMosaic.Lib.Pointwise.Index

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Rules for parts of a whole buffer, and for words of scalar memory -/

section Rules
variable {c : Dev nD}

/-- A load of a buffer of which the part read is held. -/
theorem wpB_loadS {cs : CoreSpace} {s : Shape} {e : EltTy} (m : Memref sig .tc cs s e) (r : LoadRect s) (hl : m.view.LoadsAt r)
    (q : PosShare TreeShare) (S : Finset (Idx (m.view.loc (c : Thread nD τ)))) (f : Buf (Elt F) (m.view.loc (c : Thread nD τ)))
    (hS : m.view.setOn r.set ⊆ S) :
    ((m.view.loc (c : Thread nD τ) ↦[S]{q} f) : sProp 𝕄)
      ⊢ wpB c (Prog.lift (.load m r hl)) (fun x => iprop(⌜x = fun j => m.view.read (Elt F) f (r.idx j)⌝ ∗ (m.view.loc (c : Thread nD τ) ↦[S]{q} f))) := by
  unfold wpB Prog.lift
  iintro H
  iapply (wp_load Variants.none (c : Thread nD τ) none Set.univ (S := S) hS) $$ [H]
  · iexact H
  iintro H
  iapply (le_wp_ret _ _ _ _ _)
  isplitr
  · ipureintro; rfl
  iexact H

/-- A store into a buffer of which the part written is held. -/
theorem wpB_storeS {cs : CoreSpace} {s : Shape} {e : EltTy} (m : Memref sig .tc cs s e) {r : Rect s}
    (w : r.shape.Idx → Elt F e) (hx) (hm) (S : Finset (Idx (m.view.loc (c : Thread nD τ)))) (f : Buf (Elt F) (m.view.loc (c : Thread nD τ)))
    (hS : (m.access r).setOn Finset.univ ⊆ S) :
    ((m.view.loc (c : Thread nD τ) ↦[S]{fullShare} f) : sProp 𝕄)
      ⊢ wpB c (Prog.lift (.store m r w Finset.univ hx hm))
          (fun _ => (m.view.loc (c : Thread nD τ) ↦[S]{fullShare} (m.view.writes (Elt F) f [⟨r, w⟩]))) := by
  unfold wpB Prog.lift
  iintro H
  iapply (wp_store Variants.none (c : Thread nD τ) none Set.univ (S := S) hS) $$ [H]
  · iexact H
  iintro H
  iapply (le_wp_ret _ _ _ _ _)
  iexact H

/-- A load of one word of a held scalar memory. -/
theorem wpB_smem {s : Shape} {e : EltTy} (m : Memref sig .tc .smem s e) {off size : Fin s.rank → ℕ} (inb : ∀ a, off a + size a ≤ s.size a)
    (h1 : (Rect.unit off size inb).shape.numel = 1) (hp : e.packing = 1) (hs : ∀ a, size a = 1) (q : PosShare TreeShare) (X : s.Idx → Elt F e)
    (j : s.Idx) (hj : ∀ a, (j a).val = off a) :
    (owns (c : Thread nD τ) m q X : sProp 𝕄)
      ⊢ wpB c (smemLoad m (Rect.unit off size inb) h1 hp) (fun x => iprop(⌜x = X j⌝ ∗ owns (c : Thread nD τ) m q X)) := by
  unfold wpB smemLoad owns
  iintro ⟨%f, %hf, H⟩
  iapply (wp_smemLoadElt Variants.none (c : Thread nD τ) none Set.univ (S := m.view.set) (View.set_slice_subset _ _)) $$ [H]
  · iexact H
  iintro H
  iapply (le_wp_ret _ _ _ _ _)
  isplitr
  · ipureintro
    subst hf
    refine congrArg (m.view.read (Elt F) f) (funext fun a => Fin.ext ?_)
    have h := (Shape.Idx.first (h1.symm ▸ Nat.one_pos : 0 < (Rect.unit off size inb).shape.numel) a).isLt
    have h' : (Rect.unit off size inb).shape.size a = 1 := hs a
    show off a + 1 * (Shape.Idx.first (h1.symm ▸ Nat.one_pos : 0 < (Rect.unit off size inb).shape.numel) a).val = (j a).val
    rw [hj a]
    omega
  iexists f
  isplitr
  · ipureintro; exact hf
  iexact H

end Rules

/-- A window of the shape's own sizes reads everything. -/
theorem idx_full {s : Shape} {off : Fin s.rank → ℕ} (inb : ∀ a, off a + s.size a ≤ s.size a) (j : s.Idx) :
    (Rect.unit off s.size inb).toLoadRect.idx j = j :=
  funext fun a => Fin.ext (by
    show off a + 1 * (j a).val = (j a).val
    have := inb a; omega)

/-- A put of the shape's own sizes leaves the payload. -/
theorem put_full {α : Type} {s : Shape} (off : Fin s.rank → ℕ) (h0 : ∀ a, off a = 0) (x w : s.Idx → α) :
    VecWindow.put x off s.size w = w := by
  funext y
  have h : ∀ a, off a ≤ (y a).val ∧ (y a).val < off a + s.size a := fun a => by have := h0 a; have := (y a).isLt; omega
  refine (dif_pos h).trans (congrArg w (funext fun a => Fin.ext ?_))
  show (y a).val - off a = (y a).val
  rw [h0 a, Nat.sub_zero]

/-! ## The buffers -/

/-- The codes of every row of `x`, in the core's memory. -/
abbrev mXQ : Memref sig .tc .vmem S4096x7168 .fp8e4m3 := Memref.whole cc0_scratch0
/-- The dense weight's two slots. -/
abbrev mWD : Memref sig .tc .vmem S2x512x7168 .fp8e4m3 := Memref.whole cc0_scratch1
/-- The running maximum. -/
abbrev mAM : Memref sig .tc .vmem S8x7168 .f32 := Memref.whole cc0_scratch2
/-- The codes left in the device's memory. -/
abbrev mCO : Memref sig .tc .hbm S4096x7168 .fp8e4m3 := Memref.whole main_v34_1

/-- A store into a whole buffer puts the payload there. -/
theorem writes_whole (b : Ref sig .tc) (g : b.ty.Contents (Elt F)) {off off' size : Fin b.ty.shape.rank → ℕ}
    (inb : ∀ a, off a + size a ≤ b.ty.shape.size a) (w : (Rect.unit off size inb).shape.Idx → Elt F b.ty.elt) (h : off = off') :
    (Memref.whole b).view.writes (Elt F) g [⟨Rect.unit off size inb, w⟩] = VecWindow.put g off' size w := by
  have hw := View.read_writes_cons_put (Memref.whole b).view g inb w [] h
  rw [View.writes_nil] at hw
  simp only [Memref.view_whole, View.read_whole] at hw ⊢
  exact hw

/-- Rows `512 k` to `512 k + 511`. -/
def blk (k : ℕ) : Finset S4096x7168.Idx := Finset.univ.filter fun y => (y 0).val / 512 = k

theorem mem_blk {k : ℕ} {y : S4096x7168.Idx} : y ∈ blk k ↔ (y 0).val / 512 = k := by
  unfold blk; rw [Finset.mem_filter]; exact ⟨fun h => h.2, fun h => ⟨Finset.mem_univ _, h⟩⟩

/-- The codes' buffer, the part `S` of it, at share `q`. -/
abbrev xqP (c : Dev nD) (S : Finset S4096x7168.Idx) (q : PosShare TreeShare) (f : S4096x7168.Idx → Elt F .fp8e4m3) : sProp 𝕄 :=
  (mXQ.view.loc (c : Thread nD τ)) ↦[S]{q} f
/-- The codes in the device's memory, the part `S` of it, at the full share. -/
abbrev coP (c : Dev nD) (S : Finset S4096x7168.Idx) (f : S4096x7168.Idx → Elt F .fp8e4m3) : sProp 𝕄 :=
  (mCO.view.loc (c : Thread nD τ)) ↦[S]{fullShare} f

/-! ## The offsets and the conditions -/

theorem trips_eq : k0_t1_loop.trips = 16 := by decide

theorem off1_eq (t : Fin k0_t1_loop.trips) : k0_off1 t = ![32 * t.val, 0] := by
  have h_c0_i32_3987 : Affine.IsInt 0#32 (0) := Affine.ofNat _ (by omega)
  have h_c0_i32_6 : Affine.IsInt 0#32 (0) := Affine.ofNat _ (by omega)
  have h_c1_i32 : Affine.IsInt 1#32 (1) := Affine.ofNat _ (by omega)
  have r_t : t.val < 16 := trips_eq ▸ t.isLt
  have h_arg15 : Affine.IsInt _ ((t.val : Int)) := Affine.iv h_c0_i32_6 h_c1_i32 t.val (by omega)
  have h_c1_i32_3986 : Affine.IsInt 1#32 (1) := Affine.ofNat _ (by omega)
  have h_v13649 : Affine.IsInt _ ((t.val : Int)) := Affine.muli h_arg15 h_c1_i32_3986 (by omega)
  have h_v13650 : Affine.IsInt _ ((t.val : Int)) := Affine.addi h_c0_i32_3987 h_v13649 (by omega)
  have h_c32_i32_3988 : Affine.IsInt 32#32 (32) := Affine.ofNat _ (by omega)
  have h_v13651 : Affine.IsInt _ (32 * (t.val : Int)) := Affine.muli h_v13650 h_c32_i32_3988 (by omega)
  have e := Affine.nat_eq (Affine.indexCast h_v13651) (32 * t.val) (by omega)
  exact congrArg (fun z : ℕ => (![z, 0] : Fin 2 → ℕ)) e

theorem off2_eq (i : grid0.Coords) (t : Fin k0_t1_loop.trips) : k0_off2 i t = ![512 * (i 1).val + 32 * t.val, 0] := by
  have k0_t1 := t
  have r_i1 : (i 1).val < 8 := (i 1).isLt
  have h_arg1 : Affine.IsInt (BitVec.ofNat 32 (i 1).val) (((i 1).val : Int)) := Affine.ofNat _ (by omega)
  have h_c512_i32_3997 : Affine.IsInt 512#32 (512) := Affine.ofNat _ (by omega)
  have h_v13672 : Affine.IsInt _ (512 * ((i 1).val : Int)) := Affine.muli h_arg1 h_c512_i32_3997 (by omega)
  have h_c0_i32_3987 : Affine.IsInt 0#32 (0) := Affine.ofNat _ (by omega)
  have h_c0_i32_6 : Affine.IsInt 0#32 (0) := Affine.ofNat _ (by omega)
  have h_c1_i32 : Affine.IsInt 1#32 (1) := Affine.ofNat _ (by omega)
  have r_t : t.val < 16 := trips_eq ▸ t.isLt
  have h_arg15 : Affine.IsInt _ ((t.val : Int)) := Affine.iv h_c0_i32_6 h_c1_i32 t.val (by omega)
  have h_c1_i32_3986 : Affine.IsInt 1#32 (1) := Affine.ofNat _ (by omega)
  have h_v13649 : Affine.IsInt _ ((t.val : Int)) := Affine.muli h_arg15 h_c1_i32_3986 (by omega)
  have h_v13650 : Affine.IsInt _ ((t.val : Int)) := Affine.addi h_c0_i32_3987 h_v13649 (by omega)
  have h_c32_i32_3988 : Affine.IsInt 32#32 (32) := Affine.ofNat _ (by omega)
  have h_v13651 : Affine.IsInt _ (32 * (t.val : Int)) := Affine.muli h_v13650 h_c32_i32_3988 (by omega)
  have h_v13673 : Affine.IsInt _ (512 * ((i 1).val : Int) + 32 * (t.val : Int)) := Affine.addi h_v13672 h_v13651 (by omega)
  have h_v13675 : Affine.IsInt _ (512 * ((i 1).val : Int) + 32 * (t.val : Int)) := Affine.indexCast h_v13673
  have e := Affine.nat_eq h_v13675 (512 * (i 1).val + 32 * t.val) (by omega)
  exact congrArg (fun z : ℕ => (![z, 0] : Fin 2 → ℕ)) e

theorem offM_isInt (i : grid0.Coords) : Affine.IsInt (Scalar.muli (BitVec.ofNat 32 (i 1).val) 512#32) (512 * ((i 1).val : Int)) := by
  have r_i1 : (i 1).val < 8 := (i 1).isLt
  have h_arg1 : Affine.IsInt (BitVec.ofNat 32 (i 1).val) (((i 1).val : Int)) := Affine.ofNat _ (by omega)
  have h_c512_i32 : Affine.IsInt 512#32 (512) := Affine.ofNat _ (by omega)
  exact Affine.muli h_arg1 h_c512_i32 (by omega)

theorem off3_eq (i : grid0.Coords) : k0_off3 i = ![512 * (i 1).val, 0] :=
  congrArg (fun z : ℕ => (![z, 0] : Fin 2 → ℕ)) (Affine.nat_eq (offM_isInt i) (512 * (i 1).val) (by omega))
theorem off118_eq (i : grid0.Coords) : k0_off118 i = ![512 * (i 1).val, 0] :=
  congrArg (fun z : ℕ => (![z, 0] : Fin 2 → ℕ)) (Affine.nat_eq (offM_isInt i) (512 * (i 1).val) (by omega))
theorem off60_eq (i : grid0.Coords) : k0_off60 i = ![512 * (i 1).val, 0] :=
  congrArg (fun z : ℕ => (![z, 0] : Fin 2 → ℕ)) (Affine.nat_eq (Affine.indexCast (offM_isInt i)) (512 * (i 1).val) (by omega))

theorem off61_eq (i : grid0.Coords) : k0_off61 i = ![((i 0).val + 1) % 2, 0, 0] := by
  have r_i0 : (i 0).val < 37 := (i 0).isLt
  have h_arg0 : Affine.IsInt (BitVec.ofNat 32 (i 0).val) (((i 0).val : Int)) := Affine.ofNat _ (by omega)
  have h_c1_i32 : Affine.IsInt 1#32 (1) := Affine.ofNat _ (by omega)
  have h_v13 : Affine.IsInt _ (((i 0).val : Int) + 1) := Affine.addi h_arg0 h_c1_i32 (by omega)
  have h_c2_i32 : Affine.IsInt 2#32 (2) := Affine.ofNat _ (by omega)
  have h_c0_i32_4 : Affine.IsInt 0#32 (0) := Affine.ofNat _ (by omega)
  have h_v14 : Affine.Fails _ := Affine.eq_fails h_c2_i32 h_c0_i32_4 (by omega)
  have h_c1_i32_5 : Affine.IsInt 1#32 (1) := Affine.ofNat _ (by omega)
  have h_v15 : Affine.IsInt _ (2) := Affine.select_fails h_v14 h_c1_i32_5 h_c2_i32 (by omega)
  have h_v16 : Affine.IsInt _ (((((i 0).val : Int) + 1) % 2)) := Affine.remsi h_v13 h_v15 (by omega)
  have h_c0_i32_7 : Affine.IsInt 0#32 (0) := Affine.ofNat _ (by omega)
  have h_v18 : Affine.Fails _ := Affine.slt_fails h_v16 h_c0_i32_7 (by omega)
  have h_c0_i32_8 : Affine.IsInt 0#32 (0) := Affine.ofNat _ (by omega)
  have h_v19 : Affine.Fails _ := Affine.slt_fails h_v15 h_c0_i32_8 (by omega)
  have h_v20 : Affine.Fails _ := Affine.xori_ff h_v18 h_v19
  have h_c0_i32_6 : Affine.IsInt 0#32 (0) := Affine.ofNat _ (by omega)
  have h_v17 : Affine.Term _ := Affine.cmpi_term .ne h_v16 h_c0_i32_6
  have h_v21 : Affine.Fails _ := Affine.andi_fails_left h_v20 h_v17
  have h_v22 : Affine.IsInt _ (((((i 0).val : Int) + 1) % 2) + 2) := Affine.addi h_v16 h_v15 (by omega)
  have h_v23 : Affine.IsInt _ (((((i 0).val : Int) + 1) % 2)) := Affine.select_fails h_v21 h_v22 h_v16 (by omega)
  have e := Affine.nat_eq (Affine.indexCast h_v23) (((i 0).val + 1) % 2) (by omega)
  exact congrArg (fun z : ℕ => (![z, 0, 0] : Fin 3 → ℕ)) e

theorem cond1_iff (i : grid0.Coords) : k0_cond1 i = 1#1 ↔ (i 0).val = 0 := by
  have h : ∀ n : Fin 37, (Scalar.cmpi .ne (Scalar.extui (Scalar.cmpi .eq (BitVec.ofNat 32 n.val) 0#32) : BitVec 32) 0#32) = 1#1 ↔ n.val = 0 := by decide
  exact h (i 0)
theorem condZero_iff (i : grid0.Coords) : condZero i = 1#1 ↔ (i 1).val = 0 := by
  have h : ∀ n : Fin 8, (Scalar.cmpi .ne (Scalar.extui (Scalar.cmpi .eq (BitVec.ofNat 32 n.val) 0#32) : BitVec 32) 0#32) = 1#1 ↔ n.val = 0 := by decide
  exact h (i 1)
theorem cond3_iff (i : grid0.Coords) : k0_cond3 i = 1#1 ↔ (i 1).val = 7 := by
  have h : ∀ n : Fin 8, (Scalar.cmpi .ne (Scalar.extui (Scalar.cmpi .eq (BitVec.ofNat 32 n.val) 7#32) : BitVec 32) 0#32) = 1#1 ↔ n.val = 7 := by decide
  exact h (i 1)
theorem cond4_iff (i : grid0.Coords) : k0_cond4 i = 1#1 ↔ 0 < (i 0).val := by
  have h : ∀ n : Fin 37, (Scalar.cmpi .ne (Scalar.extui (Scalar.cmpi .sgt (BitVec.ofNat 32 n.val) 0#32) : BitVec 32) 0#32) = 1#1 ↔ 0 < n.val := by decide
  exact h (i 0)
theorem cond5_iff (i : grid0.Coords) : k0_cond5 i = 1#1 ↔ (i 0).val = 36 := by
  have h : ∀ n : Fin 37, (Scalar.cmpi .ne (Scalar.extui (Scalar.cmpi .eq (BitVec.ofNat 32 n.val) 36#32) : BitVec 32) 0#32) = 1#1 ↔ n.val = 36 := by decide
  exact h (i 0)

/-! ## The quantisation of 512 rows -/

/-- Rows `32 t` to `32 t + 31` of a block of `x`. -/
def rows32 (X : S512x7168.Idx → Elt F .bf16) (t : ℕ) : Vec F S32x7168 .bf16 := fun j =>
  X (ix2 ⟨(32 * t + (j 0).val) % 512, Nat.mod_lt _ (by decide)⟩ (j 1))

/-- The running maximum after `n` trips. -/
def amaxN (X : S512x7168.Idx → Elt F .bf16) (a : Vec F S8x7168 .f32) (n : ℕ) : Vec F S8x7168 .f32 :=
  Nat.rec (motive := fun _ => Vec F S8x7168 .f32) a (fun n r => amaxPay (rows32 X n) r) n

/-- The code of element `y` of a block of rows. -/
def codeAt (inv : Elt F .f32) (X : S512x7168.Idx → Elt F .bf16) (y : S4096x7168.Idx) : Elt F .fp8e4m3 :=
  codePay inv (rows32 X ((y 0).val % 512 / 32)) (ix2 ⟨(y 0).val % 32, Nat.mod_lt _ (by decide)⟩ (y 1))

/-- The codes' block after `k` trips. -/
def codesUpTo (i : grid0.Coords) (inv : Elt F .f32) (X : S512x7168.Idx → Elt F .bf16) (k : ℕ) (g : S4096x7168.Idx → Elt F .fp8e4m3) : Prop :=
  ∀ y, (y 0).val / 512 = (i 1).val → (y 0).val % 512 < 32 * k → g y = codeAt inv X y

section Quant
variable (i : grid0.Coords) (c : Dev nD) (arg3 : Memref sig .tc .vmem S512x7168 .bf16)

theorem set2_sub (t : Fin k0_t1_loop.trips) (h1 : k0_cond1 i = 1#1) :
    (Rect.unit (s := S4096x7168) (k0_off2 i t) S32x7168.size (k0_off2_inb i t h1)).set ⊆ blk (i 1).val := by
  intro y hy
  have ht : t.val < 16 := trips_eq ▸ t.isLt
  have h := (Rect.mem_set_unit.mp hy) 0
  rw [off2_eq] at h
  have h' : 512 * (i 1).val + 32 * t.val ≤ (y 0).val ∧ (y 0).val < 512 * (i 1).val + 32 * t.val + 32 := h
  rw [mem_blk]
  omega

theorem codes_step (inv : Elt F .f32) (X : S512x7168.Idx → Elt F .bf16) (t : ℕ) (ht : t < 16) (g : S4096x7168.Idx → Elt F .fp8e4m3)
    (hg : codesUpTo i inv X t g) :
    codesUpTo i inv X (t + 1) (VecWindow.put g ![512 * (i 1).val + 32 * t, 0] S32x7168.size (codePay inv (rows32 X t))) := by
  intro y hy hlt
  unfold VecWindow.put
  by_cases hin : 32 * t ≤ (y 0).val % 512
  · have h : ∀ a, (![512 * (i 1).val + 32 * t, 0] : Fin 2 → ℕ) a ≤ (y a).val ∧ (y a).val < (![512 * (i 1).val + 32 * t, 0] : Fin 2 → ℕ) a + S32x7168.size a := by
      intro a
      fin_cases a
      · show 512 * (i 1).val + 32 * t ≤ (y 0).val ∧ (y 0).val < 512 * (i 1).val + 32 * t + 32
        omega
      · show 0 ≤ (y 1).val ∧ (y 1).val < 0 + 7168
        have : (y 1).val < 7168 := (y 1).isLt
        omega
    rw [dif_pos h]
    unfold codeAt
    rw [show (y 0).val % 512 / 32 = t by omega]
    refine congrArg (codePay inv (rows32 X t)) (funext fun a => Fin.ext ?_)
    fin_cases a
    · show (y 0).val - (512 * (i 1).val + 32 * t) = (y 0).val % 32
      omega
    · show (y 1).val - 0 = (y 1).val
      omega
  · rw [dif_neg (fun h => by
      have h0 : 512 * (i 1).val + 32 * t ≤ (y 0).val ∧ (y 0).val < 512 * (i 1).val + 32 * t + 32 := h 0
      omega)]
    exact hg y hy (by omega)

/-- What the quantisation loop holds before trip `k`. -/
def quantInv (inv : Elt F .f32) (q3 : PosShare TreeShare) (X : S512x7168.Idx → Elt F .bf16) (a : Vec F S8x7168 .f32) (k : ℕ) : sProp 𝕄 :=
  iprop(owns (c : Thread nD τ) arg3 q3 X ∗ owns (c : Thread nD τ) mAM fullShare (amaxN X a k)
    ∗ (∃ g, ⌜codesUpTo i inv X k g⌝ ∗ xqP c (blk (i 1).val) fullShare g))

theorem quantK_sound (h1 : k0_cond1 i = 1#1) (inv : Elt F .f32) (q3 : PosShare TreeShare) (X : S512x7168.Idx → Elt F .bf16)
    (a : Vec F S8x7168 .f32) (t : Fin k0_t1_loop.trips) :
    (quantInv i c arg3 inv q3 X a t.val : sProp 𝕄)
      ⊢ wpB c (quantK i arg3 mXQ (Memref.isWhole_whole _) mAM h1 inv t) (fun _ => quantInv i c arg3 inv q3 X a (t.val + 1)) := by
  have ht : t.val < 16 := trips_eq ▸ t.isLt
  unfold quantInv quantK
  refine wpB_bind (wpB_frame (wpB_load arg3 _ _ q3 X)) fun x => ?_
  have hx : (fun j => X ((Rect.unit (s := S512x7168) (k0_off1 t) S32x7168.size (k0_off1_inb i t h1)).toLoadRect.idx j)) = rows32 X t.val := by
    funext j
    refine congrArg X (funext fun a => Fin.ext ?_)
    have hj : (j 0).val < 32 := (j 0).isLt
    fin_cases a
    · show k0_off1 t 0 + 1 * (j 0).val = (32 * t.val + (j 0).val) % 512
      have e : k0_off1 t 0 = 32 * t.val := congrFun (off1_eq t) 0
      omega
    · show k0_off1 t 1 + 1 * (j 1).val = (j 1).val
      have e : k0_off1 t 1 = 0 := congrFun (off1_eq t) 1
      omega
  rw [hx]
  refine (show _ ⊢ iprop(⌜x = rows32 X t.val⌝ ∗ (owns (c : Thread nD τ) mAM fullShare (amaxN X a t.val) ∗ (owns (c : Thread nD τ) arg3 q3 X
      ∗ (∃ g, ⌜codesUpTo i inv X t.val g⌝ ∗ xqP c (blk (i 1).val) fullShare g)))) from by
    iintro ⟨⟨%hx, H3⟩, HA, HG⟩
    isplitr; · ipureintro; exact hx
    isplitl [HA]; · iexact HA
    isplitl [H3] <;> iassumption).trans (pureL fun hx => ?_)
  subst hx
  refine wpB_bind (wpB_frame (wpB_load mAM _ _ _ _)) fun av => ?_
  refine (show _ ⊢ iprop(⌜av = amaxN X a t.val⌝ ∗ (owns (c : Thread nD τ) mAM fullShare (amaxN X a t.val) ∗ (owns (c : Thread nD τ) arg3 q3 X
      ∗ (∃ g, ⌜codesUpTo i inv X t.val g⌝ ∗ xqP c (blk (i 1).val) fullShare g)))) from by
    iintro ⟨⟨%hx, H3⟩, HR⟩
    isplitr
    · ipureintro
      rw [hx]
      exact funext fun j => congrArg _ (idx_full (s := S8x7168) _ j)
    isplitl [H3] <;> iassumption).trans (pureL fun hx => ?_)
  subst hx
  refine wpB_bind (wpB_frame (wpB_load mAM _ _ _ _)) fun av => ?_
  refine (show _ ⊢ iprop(owns (c : Thread nD τ) mAM fullShare (amaxN X a t.val) ∗ (owns (c : Thread nD τ) arg3 q3 X
      ∗ (∃ g, ⌜codesUpTo i inv X t.val g⌝ ∗ xqP c (blk (i 1).val) fullShare g))) from by
    iintro ⟨⟨-, H3⟩, HR⟩
    isplitl [H3] <;> iassumption).trans ?_
  refine wpB_bind (wpB_frame (wpB_store mAM _ _ _ _ _ ![0, 0] rfl)) fun _ => ?_
  rw [put_full (s := S8x7168) ![0, 0] (fun a => by fin_cases a <;> rfl)]
  refine (show _ ⊢ iprop(∃ g, ⌜codesUpTo i inv X t.val g⌝ ∗ (xqP c (blk (i 1).val) fullShare g
      ∗ (owns (c : Thread nD τ) arg3 q3 X ∗ owns (c : Thread nD τ) mAM fullShare (amaxN X a (t.val + 1))))) from by
    iintro ⟨HA, H3, %g, %hg, HG⟩
    iexists g
    isplitr; · ipureintro; exact hg
    isplitl [HG]; · iexact HG
    isplitl [H3]; · iexact H3
    iexact HA).trans (exL fun g => pureL fun hg => ?_)
  refine wpB_bind (wpB_frame (wpB_loadS mXQ _ _ fullShare (blk (i 1).val) g ?_)) fun z => ?_
  · show View.setOn mXQ.view (Rect.unit (s := S4096x7168) (k0_off2 i t) S32x7168.size (k0_off2_inb i t h1)).set ⊆ _
    intro y hy
    obtain ⟨y', hy', rfl⟩ := Finset.mem_map.mp hy
    exact set2_sub i t h1 hy'
  refine (show _ ⊢ iprop(xqP c (blk (i 1).val) fullShare g
      ∗ (owns (c : Thread nD τ) arg3 q3 X ∗ owns (c : Thread nD τ) mAM fullShare (amaxN X a (t.val + 1)))) from by
    iintro ⟨⟨-, H3⟩, HR⟩
    isplitl [H3] <;> iassumption).trans ?_
  refine wpB_bind (wpB_frame (wpB_storeS mXQ _ _ _ (blk (i 1).val) g ?_)) fun _ => ?_
  · intro y hy
    obtain ⟨y', hy', rfl⟩ := Finset.mem_map.mp hy
    refine set2_sub i t h1 ?_
    rw [← Rect.map_emb_univ]; exact Finset.mem_map_of_mem _ (Finset.mem_univ y')
  have hw := writes_whole cc0_scratch0 g (k0_off2_inb i t h1) (codePay inv (rows32 X t.val)) (off2_eq i t)
  refine wpB_pure ?_
  iintro ⟨HG, H3, HA⟩
  isplitl [H3]; · iexact H3
  isplitl [HA]; · iexact HA
  iexists _
  isplitr
  swap
  · iexact HG
  ipureintro
  exact (congrArg (codesUpTo i inv X (t.val + 1)) hw).mpr (codes_step i inv X t.val ht g hg)

end Quant

end Cert.Kernel.Hand
end
-- ==== Proof.Steps.lean ====
/-  The three branches of the kernel's body: what each holds before and after. -/
module

public import proofs.«01_k».proof.Proof.Quant

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The copies of the codes -/

theorem rows_inb (k : ℕ) (hk : k < 8) : ∀ a, (![512 * k, 0] : Fin 2 → ℕ) a + S512x7168.size a ≤ S4096x7168.size a := by
  intro a
  fin_cases a
  · show 512 * k + 512 ≤ 4096; omega
  · show 0 + 7168 ≤ 7168; omega

/-- The rectangle of the rows of `blk k`. -/
theorem rows_set {off : Fin 2 → ℕ} (k : ℕ) (ho : off = ![512 * k, 0]) (inb : ∀ a, off a + S512x7168.size a ≤ S4096x7168.size a) :
    (Rect.unit (s := S4096x7168) off S512x7168.size inb).set = blk k := by
  subst ho
  ext y
  rw [Rect.mem_set_unit, mem_blk]
  have h1 : (y 1).val < 7168 := (y 1).isLt
  constructor
  · intro h
    have h0 : 512 * k ≤ (y 0).val ∧ (y 0).val < 512 * k + 512 := h 0
    omega
  · intro h a
    fin_cases a
    · show 512 * k ≤ (y 0).val ∧ (y 0).val < 512 * k + 512; omega
    · show 0 ≤ (y 1).val ∧ (y 1).val < 0 + 7168; omega

theorem xq_slice_set {off : Fin 2 → ℕ} (k : ℕ) (ho : off = ![512 * k, 0]) (inb : ∀ a, off a + S512x7168.size a ≤ S4096x7168.size a) :
    (mXQ.slice (Rect.unit (s := S4096x7168) off S512x7168.size inb) (fun _ => rfl)).view.set = blk k := by
  rw [← rows_set k ho inb]
  show (mXQ.view.slice _).set = _
  rw [View.set_slice]
  exact Finset.map_refl

theorem co_slice_set {off : Fin 2 → ℕ} (k : ℕ) (ho : off = ![512 * k, 0]) (inb : ∀ a, off a + S512x7168.size a ≤ S4096x7168.size a) :
    (mCO.slice (Rect.unit (s := S4096x7168) off S512x7168.size inb) (fun _ => rfl)).view.set = blk k := by
  rw [← rows_set k ho inb]
  show (mCO.view.slice _).set = _
  rw [View.set_slice]
  exact Finset.map_refl

/-- The units one copy of 512 rows counts. -/
def cN : ℕ := Ref.dmaCredit main_v34_1 S512x7168 .fp8e4m3

/-- What copy `k` hands back: the codes' rows in the device's memory, and the share of the source lent to it. -/
def deliv (c : Dev nD) (G : S4096x7168.Idx → Elt F .fp8e4m3) (k : Fin 8) : sProp 𝕄 :=
  iprop(coP c (blk k.val) G ∗ xqP c (blk k.val) fullShare.right G)

instance deliv_storable (c : Dev nD) (G : S4096x7168.Idx → Elt F .fp8e4m3) (k : Fin 8) :
    Storable (upEmb : UEmb _ 𝕄) (deliv c G k) := by
  unfold deliv; infer_instance

/-- The copies in flight: `k` of them sent off, `u` units waited for. -/
abbrev flight (c : Dev nD) (G : S4096x7168.Idx → Elt F .fp8e4m3) (k u : ℕ) : sProp 𝕄 :=
  Transfers.Batch (countersEmb (U := Pipeline.UD sig nD τ)) (c : Thread nD τ) (.dma (cc0_scratch3 : DmaSems sig S_).sem) () cN (deliv c G) k u

theorem slice_amount (r : Rect S4096x7168) (hr) (sm : DmaSem sig) :
    (mCO.slice r hr).view.amount (.dma sm) = Ref.dmaCredit main_v34_1 r.shape .fp8e4m3 := rfl

theorem slice_credit (r : Rect S4096x7168) (hr) :
    (mCO.slice r hr).view.dmaCredit = Ref.dmaCredit main_v34_1 r.shape .fp8e4m3 := rfl

theorem unit_shape {off : Fin 2 → ℕ} (inb : ∀ a, off a + S512x7168.size a ≤ S4096x7168.size a) :
    (Rect.unit (s := S4096x7168) off S512x7168.size inb).shape = S512x7168 := rfl

/-- Rows lent to a copy land unchanged. -/
theorem landed (r : Rect S4096x7168) (hr) (G fd : S4096x7168.Idx → Elt F .fp8e4m3) : ∀ y ∈ r.set,
    (mCO.slice r hr).view.write (Elt F) fd
      (ReadAs.same.apply ((mXQ.slice r hr).view.read (Elt F) G)) Finset.univ y = G y := by
  intro y hy
  rw [← Rect.map_emb_univ] at hy
  obtain ⟨z, -, rfl⟩ := Finset.mem_map.mp hy
  have h := congrFun (View.read_write_univ (Val := Elt F) (v := (mCO.slice r hr).view)
    (f := fd) ((mXQ.slice r hr).view.read (Elt F) G)) z
  exact h

/-- Sending the rows of a rectangle off. -/
theorem send_rect (c : Dev nD) (r : Rect S4096x7168) (hr) (k : ℕ) (hk : k < 8) (hset : r.set = blk k)
    (hX : (mXQ.slice r hr).view.set = blk k) (hC : (mCO.slice r hr).view.set = blk k)
    (hN : (mCO.slice r hr).view.amount (.dma (cc0_scratch3 : DmaSems sig S_).sem) = cN) (G fd : S4096x7168.Idx → Elt F .fp8e4m3) (hs hd ht) :
    (iprop(xqP c (blk k) fullShare G ∗ coP c (blk k) fd ∗ flight c G k 0) : sProp 𝕄)
      ⊢ wpB c (Prog.lift (.enqueueDma (mXQ.slice r hr) (.here (mCO.slice r hr)) (.dma (cc0_scratch3 : DmaSems sig S_).sem) hs hd ht))
        (fun _ => iprop(xqP c (blk k) fullShare.left G ∗ flight c G (k + 1) 0)) := by
  unfold wpB Prog.lift
  iintro ⟨HX, HC, HB⟩
  ihave HX' := (pointsTo_share (PosShare.mem_left_op_right fullShare)).1 $$ HX
  icases HX' with ⟨HL, HR⟩
  iapply (Transfers.wp_dmaBatch (countersEmb (U := Pipeline.UD sig nD τ)) Variants.none (c : Thread nD τ) none
    (src := mXQ.slice r hr) (dst := mCO.slice r hr)
    (Sd := blk k) (fd := fd) (fs := G) (q := fullShare.right) (D := deliv c G) (j := k) (u := 0) () cN hN
    (by rw [hC]) hk (Nat.zero_le _) (by
      rw [hX]
      unfold deliv
      refine sep_mono_left (Entails.of_eq (pointsTo_congr (hset ▸ landed r hr G fd))))) $$ [HR HC HB]
  · rw [hX]
    isplitl [HR]; · iexact HR
    isplitl [HC] <;> iassumption
  iintro HB
  iapply (le_wp_ret _ _ _ _ _)
  isplitl [HL] <;> iassumption

section Branches
variable (i : grid0.Coords) (c : Dev nD) (arg2 : Memref sig .tc .smem S2 .f32)
  (arg3 : Memref sig .tc .vmem S512x7168 .bf16)
  (arg4 : Memref sig .tc .vmem S64x3584 .i8) (arg5 arg6 : Memref sig .tc .vmem S64x128 .i32)
  (arg7 : Memref sig .tc .vmem S1x512 .f32) (arg8 : Memref sig .tc .vmem S512x512 .bf16) (harg8 : arg8.IsWhole)
  (arg10 : Memref sig .tc .smem S1 .f32)

theorem zeroK_sound (a : Vec F S8x7168 .f32) :
    (owns (c : Thread nD τ) mAM fullShare a : sProp 𝕄) ⊢ wpB c (zeroK mAM) (fun _ => owns (c : Thread nD τ) mAM fullShare (zeroPay (F := F))) := by
  unfold zeroK
  refine wpB_bind (wpB_load mAM _ _ _ _) fun z => ?_
  refine (show iprop(⌜_⌝ ∗ owns (c : Thread nD τ) mAM fullShare a) ⊢ owns (c : Thread nD τ) mAM fullShare a from by
    iintro ⟨-, H⟩; iexact H).trans ?_
  refine wpB_bind (wpB_store mAM _ _ _ _ _ ![0, 0] rfl) fun _ => ?_
  rw [put_full (s := S8x7168) ![0, 0] (fun a => by fin_cases a <;> rfl)]
  exact wpB_pure .rfl

/-- Sending 512 rows of codes off. -/
theorem send_sound (h1 : k0_cond1 i = 1#1) (G fd : S4096x7168.Idx → Elt F .fp8e4m3) (hs hd ht) :
    (iprop(xqP c (blk (i 1).val) fullShare G ∗ coP c (blk (i 1).val) fd ∗ flight c G (i 1).val 0) : sProp 𝕄)
      ⊢ wpB c (Prog.lift (.enqueueDma (mXQ.slice (Rect.unit (s := S4096x7168) (k0_off3 i) S512x7168.size (k0_off3_inb i h1)) (fun _ => rfl)) (.here (mCO.slice (Rect.unit (s := S4096x7168) (k0_off3 i) S512x7168.size (k0_off3_inb i h1)) (fun _ => rfl))) (.dma (cc0_scratch3 : DmaSems sig S_).sem) hs hd ht))
        (fun _ => iprop(xqP c (blk (i 1).val) fullShare.left G ∗ flight c G ((i 1).val + 1) 0)) :=
  send_rect c _ _ _ (i 1).isLt (rows_set _ (off3_eq i) _) (xq_slice_set _ (off3_eq i) _) (co_slice_set _ (off3_eq i) _)
    ((slice_amount _ _ _).trans (congrArg (fun s => Ref.dmaCredit main_v34_1 s .fp8e4m3) (unit_shape _))) G fd hs hd ht

theorem loop_sound (h1 : k0_cond1 i = 1#1) (inv : Elt F .f32) (q3 : PosShare TreeShare) (X : S512x7168.Idx → Elt F .bf16)
    (a' : Vec F S8x7168 .f32) :
    (quantInv i c arg3 inv q3 X a' 0 : sProp 𝕄) ⊢ wpB c (Scf.Loop.for k0_t1_loop (k0_t1_ok i h1) PUnit.unit fun t _ =>
        quantK i arg3 mXQ (Memref.isWhole_whole _) mAM h1 inv t) (fun _ => quantInv i c arg3 inv q3 X a' 16) := by
  unfold wpB
  iintro H
  iapply (Scf.wp_for frame (wpE defs₀ Variants.none (c : Thread nD τ) none) Set.univ k0_t1_loop.lb k0_t1_loop.ub k0_t1_loop.st
    (k0_t1_ok i h1) PUnit.unit _ (fun k _ => quantInv i c arg3 inv q3 X a' k) (fun t _ => quantK_sound i c arg3 h1 inv q3 X a' t))
  isplitl [H]; · iexact H
  iintro %_ H
  rw [show Scf.trips k0_t1_loop.lb k0_t1_loop.ub k0_t1_loop.st = 16 from trips_eq]
  iexact H

/-- The loop and the sending. -/
theorem tailK_sound (h1 : k0_cond1 i = 1#1) (inv : Elt F .f32) (q2 q3 : PosShare TreeShare) (S : Vec F S2 .f32) (X : S512x7168.Idx → Elt F .bf16)
    (a' : Vec F S8x7168 .f32) (G : S4096x7168.Idx → Elt F .fp8e4m3)
    (hG : ∀ y, (y 0).val / 512 = (i 1).val → G y = codeAt inv X y) (hs hd ht) :
    (iprop(owns (c : Thread nD τ) mAM fullShare a'
      ∗ (owns (c : Thread nD τ) arg2 q2 S ∗ owns (c : Thread nD τ) arg3 q3 X
      ∗ (∃ g, xqP c (blk (i 1).val) fullShare g) ∗ (∃ g, coP c (blk (i 1).val) g) ∗ flight c G (i 1).val 0)) : sProp 𝕄)
      ⊢ wpB c (do
          Scf.Loop.for k0_t1_loop (k0_t1_ok i h1) PUnit.unit fun t _ => quantK i arg3 mXQ (Memref.isWhole_whole _) mAM h1 inv t
          Prog.lift (.enqueueDma (mXQ.slice (Rect.unit (s := S4096x7168) (k0_off3 i) S512x7168.size (k0_off3_inb i h1)) (fun _ => rfl)) (.here (mCO.slice (Rect.unit (s := S4096x7168) (k0_off3 i) S512x7168.size (k0_off3_inb i h1)) (fun _ => rfl))) (.dma (cc0_scratch3 : DmaSems sig S_).sem) hs hd ht))
        (fun _ => iprop(owns (c : Thread nD τ) arg2 q2 S ∗ owns (c : Thread nD τ) arg3 q3 X
          ∗ owns (c : Thread nD τ) mAM fullShare (amaxN X a' 16)
          ∗ xqP c (blk (i 1).val) fullShare.left G ∗ flight c G ((i 1).val + 1) 0)) := by
  refine (show _ ⊢ iprop(quantInv i c arg3 inv q3 X a' 0 ∗ (owns (c : Thread nD τ) arg2 q2 S
      ∗ (∃ g, coP c (blk (i 1).val) g) ∗ flight c G (i 1).val 0)) from by
    unfold quantInv
    iintro ⟨HA, H2, H3, ⟨%g, HX⟩, HC, HB⟩
    isplitl [HA H3 HX]
    · isplitl [H3]; · iexact H3
      isplitl [HA]; · iexact HA
      iexists g
      isplitr
      · ipureintro; intro y _ h; exact absurd h (by omega)
      iexact HX
    isplitl [H2]; · iexact H2
    isplitl [HC] <;> iassumption).trans ?_
  refine wpB_bind (wpB_frame (loop_sound i c arg3 h1 inv q3 X a')) fun _ => ?_
  unfold quantInv
  refine (show _ ⊢ iprop((xqP c (blk (i 1).val) fullShare G ∗ (∃ g, coP c (blk (i 1).val) g) ∗ flight c G (i 1).val 0)
      ∗ (owns (c : Thread nD τ) arg2 q2 S ∗ owns (c : Thread nD τ) arg3 q3 X ∗ owns (c : Thread nD τ) mAM fullShare (amaxN X a' 16))) from by
    iintro ⟨⟨H3, HA, ⟨%g, %hg, HX⟩⟩, H2, HC, HB⟩
    isplitl [HX HC HB]
    · isplitl [HX]
      · ihave HX' := (Entails.of_eq (pointsTo_congr (ℓ := _) (I := blk (i 1).val) (q := fullShare) (f := g) (g := G) (fun y hy => by
          have h := mem_blk.mp hy
          exact (hg y h (by omega)).trans (hG y h).symm))) $$ HX
        iexact HX'
      isplitl [HC] <;> iassumption
    isplitl [H2]; · iexact H2
    isplitl [H3] <;> iassumption).trans ?_
  refine wpB_mono (wpB_frame (Q := fun _ => iprop(xqP c (blk (i 1).val) fullShare.left G ∗ flight c G ((i 1).val + 1) 0)) ?_) fun _ => ?_
  · iintro ⟨HX, ⟨%g, HC⟩, HB⟩
    iapply (send_sound i c h1 G g hs hd ht)
    isplitl [HX]; · iexact HX
    isplitl [HC] <;> iassumption
  · iintro ⟨⟨HX, HB⟩, H2, H3, HA⟩
    isplitl [H2]; · iexact H2
    isplitl [H3]; · iexact H3
    isplitl [HA]; · iexact HA
    isplitl [HX] <;> iassumption

/-- What the first half of a point of the first grid row holds. -/
theorem topK_sound (h1 : k0_cond1 i = 1#1) (q2 q3 : PosShare TreeShare) (S : Vec F S2 .f32) (X : S512x7168.Idx → Elt F .bf16)
    (a' : Vec F S8x7168 .f32) (ha : (i 1).val = 0 → a' = zeroPay (F := F)) (G : S4096x7168.Idx → Elt F .fp8e4m3)
    (hG : ∀ y, (y 0).val / 512 = (i 1).val → G y = codeAt (S (ix1 1)) X y) :
    (iprop(owns (c : Thread nD τ) arg2 q2 S ∗ owns (c : Thread nD τ) arg3 q3 X
      ∗ (∃ a, ⌜(i 1).val ≠ 0 → a = a'⌝ ∗ owns (c : Thread nD τ) mAM fullShare a)
      ∗ (∃ g, xqP c (blk (i 1).val) fullShare g) ∗ (∃ g, coP c (blk (i 1).val) g) ∗ flight c G (i 1).val 0) : sProp 𝕄)
      ⊢ wpB c (topK i arg2 arg3 mCO (Memref.isWhole_whole _) mXQ (Memref.isWhole_whole _) mAM cc0_scratch3 h1)
        (fun _ => iprop(owns (c : Thread nD τ) arg2 q2 S ∗ owns (c : Thread nD τ) arg3 q3 X
          ∗ owns (c : Thread nD τ) mAM fullShare (amaxN X a' 16)
          ∗ xqP c (blk (i 1).val) fullShare.left G ∗ flight c G ((i 1).val + 1) 0)) := by
  unfold topK
  refine (show _ ⊢ iprop(owns (c : Thread nD τ) arg2 q2 S ∗ (owns (c : Thread nD τ) arg3 q3 X
      ∗ (∃ a, ⌜(i 1).val ≠ 0 → a = a'⌝ ∗ owns (c : Thread nD τ) mAM fullShare a)
      ∗ (∃ g, xqP c (blk (i 1).val) fullShare g) ∗ (∃ g, coP c (blk (i 1).val) g) ∗ flight c G (i 1).val 0)) from .rfl).trans ?_
  refine wpB_bind (wpB_frame (wpB_smem arg2 _ _ _ (fun a => by fin_cases a; rfl) q2 S (ix1 1) (fun a => by fin_cases a; rfl))) fun inv => ?_
  refine (show _ ⊢ iprop(⌜inv = S (ix1 1)⌝ ∗ ((∃ a, ⌜(i 1).val ≠ 0 → a = a'⌝ ∗ owns (c : Thread nD τ) mAM fullShare a)
      ∗ (owns (c : Thread nD τ) arg2 q2 S ∗ owns (c : Thread nD τ) arg3 q3 X
      ∗ (∃ g, xqP c (blk (i 1).val) fullShare g) ∗ (∃ g, coP c (blk (i 1).val) g) ∗ flight c G (i 1).val 0))) from by
    iintro ⟨⟨%h, H2⟩, H3, HA, HX, HC, HB⟩
    isplitr; · ipureintro; exact h
    isplitl [HA]; · iexact HA
    isplitl [H2]; · iexact H2
    isplitl [H3]; · iexact H3
    isplitl [HX]; · iexact HX
    isplitl [HC] <;> iassumption).trans ?_
  refine pureL ?_
  rintro rfl
  dsimp only
  split
  · next h2 =>
    refine wpB_bind (wpB_frame (Q := fun _ => owns (c : Thread nD τ) mAM fullShare a') ?_) fun _ => tailK_sound i c arg2 arg3 h1 _ q2 q3 S X a' G hG _ _ _
    refine exL fun a => pureL fun haa => ?_
    rw [ha ((condZero_iff i).mp h2)]
    exact zeroK_sound c a
  · next h2 =>
    refine (show _ ⊢ _ from ?_).trans (tailK_sound i c arg2 arg3 h1 _ q2 q3 S X a' G hG _ _ _)
    refine sep_mono_left (exL fun a => pureL fun haa => ?_)
    rw [haa (fun h => h2 ((condZero_iff i).mpr h))]

theorem amaxK_sound (a : Vec F S8x7168 .f32) :
    (iprop(owns (c : Thread nD τ) mAM fullShare a ∗ (∃ m0, owns (c : Thread nD τ) arg10 fullShare m0)) : sProp 𝕄)
      ⊢ wpB c (amaxK arg10 mAM) (fun _ => iprop(owns (c : Thread nD τ) mAM fullShare a ∗ owns (c : Thread nD τ) arg10 fullShare (fun _ => amaxOut a))) := by
  unfold amaxK
  refine wpB_bind (wpB_frame (wpB_load mAM _ _ _ _)) fun x => ?_
  refine (show _ ⊢ iprop(⌜x = a⌝ ∗ (∃ m0, (owns (c : Thread nD τ) arg10 fullShare m0 ∗ owns (c : Thread nD τ) mAM fullShare a))) from by
    iintro ⟨⟨%h, HA⟩, ⟨%m0, HM⟩⟩
    isplitr
    · ipureintro
      exact h.trans (funext fun j => congrArg a (idx_full (s := S8x7168) _ j))
    iexists m0
    isplitl [HM] <;> iassumption).trans ?_
  refine pureL ?_
  rintro rfl
  refine exL fun m0 => ?_
  refine wpB_bind (wpB_frame (wpB_smem arg10 _ _ _ (fun a => by fin_cases a; rfl) _ m0 (ix1 0) (fun a => by fin_cases a; rfl))) fun z => ?_
  refine (show _ ⊢ iprop(owns (c : Thread nD τ) arg10 fullShare m0 ∗ owns (c : Thread nD τ) mAM fullShare x) from by
    iintro ⟨⟨-, HA⟩, HM⟩
    isplitl [HA] <;> iassumption).trans ?_
  refine wpB_mono (wpB_frame (wpB_store arg10 _ _ _ _ _ ![0] rfl)) fun _ => ?_
  rw [put_full (s := S1) ![0] (fun a => by fin_cases a; rfl)]
  iintro ⟨HM, HA⟩
  isplitl [HA]
  · iexact HA
  iexact HM

/-- The codes' rows of one block, as one load reads them. -/
def rowsOf (G : S4096x7168.Idx → Elt F .fp8e4m3) (m : ℕ) (hm : m < 8) : Vec F S512x7168 .fp8e4m3 := fun j =>
  G (ix2 ⟨512 * m + (j 0).val, by have h : (j 0).val < 512 := (j 0).isLt; omega⟩ (j 1))

/-- One slot of the unpacked tiles, as one load reads it. -/
def slotOf (W : S2x512x7168.Idx → Elt F .fp8e4m3) (k : ℕ) (hk : k < 2) : Vec F S1x512x7168 .fp8e4m3 := fun j =>
  W (ix3 ⟨k, hk⟩ (j 1) (j 2))

/-- What a point of the later grid rows holds. -/
theorem bodyB_sound (h4 : k0_cond4 i = 1#1) (q2 q4 q5 q6 q7 : PosShare TreeShare) (S : Vec F S2 .f32)
    (V : S64x3584.Idx → Elt F .i8) (A B : S64x128.Idx → Elt F .i32) (ws : Vec F S1x512 .f32)
    (G : S4096x7168.Idx → Elt F .fp8e4m3) (W : S2x512x7168.Idx → Elt F .fp8e4m3) (harg12) (arg4 : Memref sig .tc .vmem S64x3584 .i8) (arg5 arg6 : Memref sig .tc .vmem S64x128 .i32) :
    (iprop(xqP c (blk (i 1).val) fullShare.left G ∗ unpackRes c arg4 arg5 arg6 mWD q4 q5 q6 V A B W
      ∗ owns (c : Thread nD τ) arg2 q2 S ∗ owns (c : Thread nD τ) arg7 q7 ws ∗ (∃ y, owns (c : Thread nD τ) arg8 fullShare y)) : sProp 𝕄)
      ⊢ wpB c (bodyB i arg2 arg4 arg5 arg6 arg7 arg8 harg8 mXQ mWD harg12 h4)
        (fun _ => iprop(xqP c (blk (i 1).val) fullShare.left G ∗ unpackRes c arg4 arg5 arg6 mWD q4 q5 q6 V A B (unpackF i V A B W)
          ∗ owns (c : Thread nD τ) arg2 q2 S ∗ owns (c : Thread nD τ) arg7 q7 ws
          ∗ owns (c : Thread nD τ) arg8 fullShare (yPay (rowsOf G (i 1).val (i 1).isLt) (slotOf W (((i 0).val + 1) % 2) (Nat.mod_lt _ (by decide))) (S (ix1 0)) ws))) := by
  unfold bodyB
  have hi : (i 1).val < 8 := (i 1).isLt
  unfold unpackRes
  refine wpB_bind (wpB_frame (wpB_loadS mXQ _ _ fullShare.left (blk (i 1).val) G ?_)) fun x => ?_
  · show View.setOn mXQ.view (Rect.unit (s := S4096x7168) (k0_off60 i) S512x7168.size (k0_off60_inb i h4)).set ⊆ _
    intro y hy
    obtain ⟨y', hy', rfl⟩ := Finset.mem_map.mp hy
    rw [rows_set _ (off60_eq i)] at hy'
    exact hy'
  have hx : (fun j => G ((Rect.unit (s := S4096x7168) (k0_off60 i) S512x7168.size (k0_off60_inb i h4)).toLoadRect.idx j)) = rowsOf G (i 1).val hi := by
    funext j
    refine congrArg G (funext fun a => Fin.ext ?_)
    fin_cases a
    · show k0_off60 i 0 + 1 * (j 0).val = 512 * (i 1).val + (j 0).val
      have e : k0_off60 i 0 = 512 * (i 1).val := congrFun (off60_eq i) 0
      omega
    · show k0_off60 i 1 + 1 * (j 1).val = (j 1).val
      have e : k0_off60 i 1 = 0 := congrFun (off60_eq i) 1
      omega
  refine (show _ ⊢ iprop(⌜x = rowsOf G (i 1).val hi⌝ ∗ (owns (c : Thread nD τ) mWD fullShare W ∗ (xqP c (blk (i 1).val) fullShare.left G
      ∗ (owns (c : Thread nD τ) arg4 q4 V ∗ owns (c : Thread nD τ) arg5 q5 A ∗ owns (c : Thread nD τ) arg6 q6 B)
      ∗ owns (c : Thread nD τ) arg2 q2 S ∗ owns (c : Thread nD τ) arg7 q7 ws ∗ (∃ y, owns (c : Thread nD τ) arg8 fullShare y)))) from by
    iintro ⟨⟨%h, HX⟩, ⟨HW, H456⟩, H2, H7, H8⟩
    isplitr; · ipureintro; exact h.trans hx
    isplitl [HW]; · iexact HW
    isplitl [HX]; · iexact HX
    isplitl [H456]; · iexact H456
    isplitl [H2]; · iexact H2
    isplitl [H7] <;> iassumption).trans (pureL ?_)
  rintro rfl
  refine wpB_bind (wpB_frame (wpB_load mWD _ _ _ _)) fun w => ?_
  have hw : (fun j => W ((Rect.unit (s := S2x512x7168) (k0_off61 i) S1x512x7168.size (k0_off61_inb i h4)).toLoadRect.idx j)) = slotOf W (((i 0).val + 1) % 2) (Nat.mod_lt _ (by decide)) := by
    funext j
    refine congrArg W (funext fun a => Fin.ext ?_)
    have h0 : (j 0).val < 1 := (j 0).isLt
    fin_cases a
    · show k0_off61 i 0 + 1 * (j 0).val = ((i 0).val + 1) % 2
      have e : k0_off61 i 0 = ((i 0).val + 1) % 2 := congrFun (off61_eq i) 0
      omega
    · show k0_off61 i 1 + 1 * (j 1).val = (j 1).val
      have e : k0_off61 i 1 = 0 := congrFun (off61_eq i) 1
      omega
    · show k0_off61 i 2 + 1 * (j 2).val = (j 2).val
      have e : k0_off61 i 2 = 0 := congrFun (off61_eq i) 2
      omega
  refine (show _ ⊢ iprop(⌜w = slotOf W (((i 0).val + 1) % 2) (Nat.mod_lt _ (by decide))⌝ ∗ (owns (c : Thread nD τ) arg2 q2 S
      ∗ (owns (c : Thread nD τ) mWD fullShare W ∗ xqP c (blk (i 1).val) fullShare.left G
      ∗ (owns (c : Thread nD τ) arg4 q4 V ∗ owns (c : Thread nD τ) arg5 q5 A ∗ owns (c : Thread nD τ) arg6 q6 B)
      ∗ owns (c : Thread nD τ) arg7 q7 ws ∗ (∃ y, owns (c : Thread nD τ) arg8 fullShare y)))) from by
    iintro ⟨⟨%h, HW⟩, HX, H456, H2, H7, H8⟩
    isplitr; · ipureintro; exact h.trans hw
    isplitl [H2]; · iexact H2
    isplitl [HW]; · iexact HW
    isplitl [HX]; · iexact HX
    isplitl [H456]; · iexact H456
    isplitl [H7] <;> iassumption).trans (pureL ?_)
  rintro rfl
  refine wpB_bind (wpB_frame (wpB_smem arg2 _ _ _ (fun a => by fin_cases a; rfl) q2 S (ix1 0) (fun a => by fin_cases a; rfl))) fun s => ?_
  refine (show _ ⊢ iprop(⌜s = S (ix1 0)⌝ ∗ (owns (c : Thread nD τ) arg7 q7 ws ∗ (owns (c : Thread nD τ) arg2 q2 S
      ∗ owns (c : Thread nD τ) mWD fullShare W ∗ xqP c (blk (i 1).val) fullShare.left G
      ∗ (owns (c : Thread nD τ) arg4 q4 V ∗ owns (c : Thread nD τ) arg5 q5 A ∗ owns (c : Thread nD τ) arg6 q6 B)
      ∗ (∃ y, owns (c : Thread nD τ) arg8 fullShare y)))) from by
    iintro ⟨⟨%h, H2⟩, HW, HX, H456, H7, H8⟩
    isplitr; · ipureintro; exact h
    isplitl [H7]; · iexact H7
    isplitl [H2]; · iexact H2
    isplitl [HW]; · iexact HW
    isplitl [HX]; · iexact HX
    isplitl [H456] <;> iassumption).trans (pureL ?_)
  rintro rfl
  refine wpB_bind (wpB_frame (wpB_load arg7 _ _ _ _)) fun v => ?_
  refine (show _ ⊢ iprop(⌜v = ws⌝ ∗ (∃ y, (owns (c : Thread nD τ) arg8 fullShare y ∗ (owns (c : Thread nD τ) arg7 q7 ws ∗ owns (c : Thread nD τ) arg2 q2 S
      ∗ owns (c : Thread nD τ) mWD fullShare W ∗ xqP c (blk (i 1).val) fullShare.left G
      ∗ (owns (c : Thread nD τ) arg4 q4 V ∗ owns (c : Thread nD τ) arg5 q5 A ∗ owns (c : Thread nD τ) arg6 q6 B))))) from by
    iintro ⟨⟨%h, H7⟩, H2, HW, HX, H456, ⟨%y, H8⟩⟩
    isplitr; · ipureintro; exact h.trans (funext fun j => congrArg ws (idx_full (s := S1x512) _ j))
    iexists y
    isplitl [H8]; · iexact H8
    isplitl [H7]; · iexact H7
    isplitl [H2]; · iexact H2
    isplitl [HW]; · iexact HW
    isplitl [HX] <;> iassumption).trans (pureL ?_)
  rintro rfl
  refine exL fun y => ?_
  refine wpB_bind (wpB_frame (wpB_load arg8 _ _ _ _)) fun _ => ?_
  refine (show _ ⊢ iprop(owns (c : Thread nD τ) arg8 fullShare y ∗ (owns (c : Thread nD τ) arg7 q7 v ∗ owns (c : Thread nD τ) arg2 q2 S
      ∗ owns (c : Thread nD τ) mWD fullShare W ∗ xqP c (blk (i 1).val) fullShare.left G
      ∗ (owns (c : Thread nD τ) arg4 q4 V ∗ owns (c : Thread nD τ) arg5 q5 A ∗ owns (c : Thread nD τ) arg6 q6 B))) from by
    iintro ⟨⟨-, H8⟩, HR⟩
    isplitl [H8] <;> iassumption).trans ?_
  refine wpB_bind (wpB_frame (wpB_store arg8 _ _ _ _ _ ![0, 0] rfl)) fun _ => ?_
  rw [put_full (s := S512x512) ![0, 0] (fun a => by fin_cases a <;> rfl)]
  refine (show _ ⊢ iprop(unpackRes c arg4 arg5 arg6 mWD q4 q5 q6 V A B W ∗ (owns (c : Thread nD τ) arg8 fullShare _
      ∗ owns (c : Thread nD τ) arg7 q7 v ∗ owns (c : Thread nD τ) arg2 q2 S ∗ xqP c (blk (i 1).val) fullShare.left G)) from by
    unfold unpackRes
    iintro ⟨H8, H7, H2, HW, HX, H456⟩
    isplitl [HW H456]
    · isplitl [HW] <;> iassumption
    isplitl [H8]; · iexact H8
    isplitl [H7]; · iexact H7
    isplitl [H2] <;> iassumption).trans ?_
  refine wpB_bind (wpB_frame (unpackK_sound i c arg4 arg5 arg6 mWD harg12 q4 q5 q6 V A B W)) fun _ => wpB_pure ?_
  unfold unpackRes
  iintro ⟨HU, H8, H7, H2, HX⟩
  isplitl [HX]; · iexact HX
  isplitl [HU]; · iexact HU
  isplitl [H2]; · iexact H2
  isplitl [H7] <;> iassumption

theorem cN_pos : 0 < cN := sig.dmaCredit_pos _ _ _ S512x7168 .fp8e4m3 (by decide)

/-- A wait that is not the last. -/
theorem bodyC_sound (h5 : k0_cond5 i = 1#1) (hm : (i 1).val < 7) (G : S4096x7168.Idx → Elt F .fp8e4m3) (Wt : Waits sig Unit) :
    (iprop(flight c G 8 ((i 1).val * cN) ∗ owes (c : Thread nD τ) 0 Wt) : sProp 𝕄)
      ⊢ wpB c (bodyC i mCO (Memref.isWhole_whole _) mXQ (Memref.isWhole_whole _) cc0_scratch3 h5)
        (fun _ => iprop(flight c G 8 (((i 1).val + 1) * cN) ∗ ∃ Wt', owes (c : Thread nD τ) 0 Wt')) := by
  have hp := cN_pos
  unfold bodyC wpB
  iintro ⟨HB, HO⟩
  iapply (Transfers.wp_waitBatch (countersEmb (U := Pipeline.UD sig nD τ)) Variants.none (c : Thread nD τ) none () (N := cN)
    ((slice_amount _ _ (cc0_scratch3 : DmaSems sig S_).sem).trans (congrArg (fun s => Ref.dmaCredit main_v34_1 s .fp8e4m3) (unit_shape _)))
    (D := deliv c G) (u := (i 1).val * cN) (by
      calc (i 1).val * cN + cN = ((i 1).val + 1) * cN := (Nat.succ_mul _ _).symm
        _ < 8 * cN := Nat.mul_lt_mul_of_pos_right (by omega) hp
        _ = cN * 8 := Nat.mul_comm _ _) (W := Wt)) $$ [HB HO]
  · isplitl [HB] <;> iassumption
  iintro ⟨HB, HO⟩
  iapply (le_wp_ret _ _ _ _ _)
  isplitl [HB]
  · rw [Nat.succ_mul]; iexact HB
  iexists _; iexact HO

/-- The last wait: the copies' rows and the semaphore come back. -/
theorem bodyC_last (h5 : k0_cond5 i = 1#1) (hm : (i 1).val = 7) (G : S4096x7168.Idx → Elt F .fp8e4m3) (Wt : Waits sig Unit) :
    (iprop(flight c G 8 ((i 1).val * cN) ∗ owes (c : Thread nD τ) 0 Wt) : sProp 𝕄)
      ⊢ wpB c (bodyC i mCO (Memref.isWhole_whole _) mXQ (Memref.isWhole_whole _) cc0_scratch3 h5)
        (fun _ => iprop((bigSep Finset.univ (deliv c G) ∗ semVal ((c : Thread nD τ), .dma (cc0_scratch3 : DmaSems sig S_).sem) 0) ∗ ∃ Wt', owes (c : Thread nD τ) 0 Wt')) := by
  have hp := cN_pos
  unfold bodyC wpB
  iintro ⟨HB, HO⟩
  iapply (Transfers.wp_waitBatchLast (countersEmb (U := Pipeline.UD sig nD τ)) Variants.none (c : Thread nD τ) none () (N := cN)
    ((slice_amount _ _ (cc0_scratch3 : DmaSems sig S_).sem).trans (congrArg (fun s => Ref.dmaCredit main_v34_1 s .fp8e4m3) (unit_shape _))) hp
    (D := deliv c G) (u := (i 1).val * cN) (by rw [hm, ← Nat.succ_mul, Nat.mul_comm]) (W := Wt)) $$ [HB HO]
  · isplitl [HB] <;> iassumption
  iintro ⟨HD, HS, HO⟩
  iapply (le_wp_ret _ _ _ _ _)
  isplitl [HD HS]
  · isplitl [HD] <;> iassumption
  iexists _; iexact HO

end Branches

end Cert.Kernel.Hand
end
-- ==== Proof.Tile.lean ====
/-  The unpacking, element by element: which block of the dense weight a grid point fills, and with what. -/
module

public import proofs.«01_k».proof.Proof.Triples
public import Idealize.ShloMosaic.Lib.Pointwise

@[expose] public section

set_option maxRecDepth 16384

noncomputable section

namespace Cert.Kernel.Hand

open Cert.Kernel Cert.Kernel.Gen
open Idealize.ShloMosaic Idealize.ShloMosaic.TcCoe

variable {F : FTy → Type} [FloatOps F]

/-- One element a grid point unpacks: row group `g`, row `r` of it, column `128 q + l`. -/
def tileAt (V : S64x3584.Idx → Elt F .i8) (A B : S64x128.Idx → BitVec 32) (g : Fin 2) (r : Fin 32) (q : Fin 56) (l : Fin 128) :
    Elt F .fp8e4m3 :=
  pairPay (F := F) (if q.val / 2 < 16 then wordsF A g else wordsF B g) (q.val / 2) (if q.val % 2 = 0 then 0#32 else 64#32)
    (valsF V g (q.val / 2) (by have := q.isLt; omega)) (ix3 0 r l)

section
variable (i : grid0.Coords)

theorem putU_apply (g : Fin 2) (q : ℕ) (v : FVec F S1x32x128 .fp8e4m3) (X : S2x512x7168.Idx → Elt F .fp8e4m3) (y : S2x512x7168.Idx) :
    putU i g (128 * q) v X y = if (y 0).val = (i 0).val % 2 ∧ (y 1).val / 32 = 2 * (i 1).val + g.val ∧ (y 2).val / 128 = q
      then v (ix3 0 ⟨(y 1).val % 32, Nat.mod_lt _ (by decide)⟩ ⟨(y 2).val % 128, Nat.mod_lt _ (by decide)⟩) else X y := by
  have hiff : (∀ a, (![(i 0).val % 2, 64 * (i 1).val + 32 * g.val, 128 * q] : Fin 3 → ℕ) a ≤ (y a).val ∧ (y a).val < (![(i 0).val % 2, 64 * (i 1).val + 32 * g.val, 128 * q] : Fin 3 → ℕ) a + S1x32x128.size a)
      ↔ ((y 0).val = (i 0).val % 2 ∧ (y 1).val / 32 = 2 * (i 1).val + g.val ∧ (y 2).val / 128 = q) := by
    constructor
    · intro h
      have h0 : (i 0).val % 2 ≤ (y 0).val ∧ (y 0).val < (i 0).val % 2 + 1 := h 0
      have h1 : 64 * (i 1).val + 32 * g.val ≤ (y 1).val ∧ (y 1).val < 64 * (i 1).val + 32 * g.val + 32 := h 1
      have h2 : 128 * q ≤ (y 2).val ∧ (y 2).val < 128 * q + 128 := h 2
      omega
    · rintro ⟨h0, h1, h2⟩ a
      fin_cases a
      · show (i 0).val % 2 ≤ (y 0).val ∧ (y 0).val < (i 0).val % 2 + 1; omega
      · show 64 * (i 1).val + 32 * g.val ≤ (y 1).val ∧ (y 1).val < 64 * (i 1).val + 32 * g.val + 32; omega
      · show 128 * q ≤ (y 2).val ∧ (y 2).val < 128 * q + 128; omega
  by_cases h : (y 0).val = (i 0).val % 2 ∧ (y 1).val / 32 = 2 * (i 1).val + g.val ∧ (y 2).val / 128 = q
  · rw [if_pos h]
    refine (dif_pos (hiff.mpr h)).trans (congrArg v (funext fun a => Fin.ext ?_))
    obtain ⟨h0, h1, h2⟩ := h
    fin_cases a
    · show (y 0).val - (i 0).val % 2 = 0; omega
    · show (y 1).val - (64 * (i 1).val + 32 * g.val) = (y 1).val % 32; omega
    · show (y 2).val - 128 * q = (y 2).val % 128; omega
  · rw [if_neg h]
    exact dif_neg fun h' => h (hiff.mp h')

/-- The element of a dense row and column, in the row group's coordinates. -/
abbrev tileY (V : S64x3584.Idx → Elt F .i8) (A B : S64x128.Idx → BitVec 32) (g : Fin 2) (y : S2x512x7168.Idx) : Elt F .fp8e4m3 :=
  tileAt V A B g ⟨(y 1).val % 32, Nat.mod_lt _ (by decide)⟩ ⟨(y 2).val / 128, by have h : (y 2).val < 7168 := (y 2).isLt; omega⟩
    ⟨(y 2).val % 128, Nat.mod_lt _ (by decide)⟩

theorem tileY_of (V : S64x3584.Idx → Elt F .i8) (A B : S64x128.Idx → BitVec 32) (g : Fin 2) (y : S2x512x7168.Idx) (p : ℕ) (hp : p < 28)
    (e : ℕ) (he : e < 2) (h : (y 2).val / 128 = 2 * p + e) :
    tileY V A B g y = pairPay (F := F) (if p < 16 then wordsF A g else wordsF B g) p (if e = 0 then 0#32 else 64#32) (valsF V g p hp)
      (ix3 0 ⟨(y 1).val % 32, Nat.mod_lt _ (by decide)⟩ ⟨(y 2).val % 128, Nat.mod_lt _ (by decide)⟩) := by
  have e1 : (y 2).val / 128 / 2 = p := by omega
  have e2 : (y 2).val / 128 % 2 = e := by omega
  have e : ∀ (p' : ℕ) (hp' : p' < 28), p' = p → valsF V g p' hp' = valsF V g p hp := by rintro _ _ rfl; rfl
  unfold tileY tileAt
  dsimp only
  rw [e _ _ e1, e1, e2]

theorem pairF_apply (g : Fin 2) (V : S64x3584.Idx → Elt F .i8) (A B : S64x128.Idx → BitVec 32) (p : ℕ) (hp : p < 28)
    (X : S2x512x7168.Idx → Elt F .fp8e4m3) (y : S2x512x7168.Idx) :
    pairF i g V (wordsF A g) (wordsF B g) p hp X y
      = if (y 0).val = (i 0).val % 2 ∧ (y 1).val / 32 = 2 * (i 1).val + g.val ∧ (y 2).val / 256 = p then tileY V A B g y else X y := by
  unfold pairF
  rw [show 256 * p + 128 = 128 * (2 * p + 1) by omega, show 256 * p = 128 * (2 * p) by omega, putU_apply, putU_apply]
  by_cases h : (y 0).val = (i 0).val % 2 ∧ (y 1).val / 32 = 2 * (i 1).val + g.val ∧ (y 2).val / 256 = p
  · rw [if_pos h]
    obtain ⟨h0, h1, h2⟩ := h
    by_cases hq : (y 2).val / 128 = 2 * p + 1
    · rw [if_pos ⟨h0, h1, hq⟩, tileY_of V A B g y p hp 1 (by decide) hq]; rfl
    · have hq' : (y 2).val / 128 = 2 * p := by omega
      rw [if_neg (fun h => hq h.2.2), if_pos ⟨h0, h1, hq'⟩, tileY_of V A B g y p hp 0 (by decide) hq']; rfl
  · rw [if_neg h, if_neg (fun h' => h ⟨h'.1, h'.2.1, by omega⟩), if_neg (fun h' => h ⟨h'.1, h'.2.1, by omega⟩)]

theorem pairsF_apply (g : Fin 2) (V : S64x3584.Idx → Elt F .i8) (A B : S64x128.Idx → BitVec 32) (n : ℕ) (hn : n ≤ 28) :
    ∀ (X : S2x512x7168.Idx → Elt F .fp8e4m3) (y : S2x512x7168.Idx),
    pairsF i g V (wordsF A g) (wordsF B g) n X y
      = if (y 0).val = (i 0).val % 2 ∧ (y 1).val / 32 = 2 * (i 1).val + g.val ∧ 28 - n ≤ (y 2).val / 256 then tileY V A B g y else X y := by
  induction n with
  | zero =>
    intro X y
    have h2 : (y 2).val < 7168 := (y 2).isLt
    rw [if_neg (fun h => by omega)]; rfl
  | succ n ih =>
    intro X y
    refine (ih (by omega) (pairF i g V (wordsF A g) (wordsF B g) (27 - n) (by omega) X) y).trans ?_
    rw [pairF_apply]
    by_cases h : (y 0).val = (i 0).val % 2 ∧ (y 1).val / 32 = 2 * (i 1).val + g.val ∧ 28 - (n + 1) ≤ (y 2).val / 256
    · rw [if_pos h]
      by_cases hq : 28 - n ≤ (y 2).val / 256
      · rw [if_pos ⟨h.1, h.2.1, hq⟩]
      · rw [if_neg (fun h' => hq h'.2.2), if_pos ⟨h.1, h.2.1, by omega⟩]
    · rw [if_neg h, if_neg (fun h' => h ⟨h'.1, h'.2.1, by omega⟩), if_neg (fun h' => h ⟨h'.1, h'.2.1, by omega⟩)]

theorem groupF_apply (g : Fin 2) (V : S64x3584.Idx → Elt F .i8) (A B : S64x128.Idx → BitVec 32)
    (X : S2x512x7168.Idx → Elt F .fp8e4m3) (y : S2x512x7168.Idx) :
    groupF i g V A B X y = if (y 0).val = (i 0).val % 2 ∧ (y 1).val / 32 = 2 * (i 1).val + g.val then tileY V A B g y else X y := by
  unfold groupF
  rw [pairsF_apply i g V A B 28 le_rfl]
  simp only [Nat.sub_self, Nat.zero_le, and_true]

/-- What the unpacking of one grid point leaves at `y`. -/
theorem unpackF_apply (V : S64x3584.Idx → Elt F .i8) (A B : S64x128.Idx → BitVec 32)
    (X : S2x512x7168.Idx → Elt F .fp8e4m3) (y : S2x512x7168.Idx) :
    unpackF i V A B X y = if (y 0).val = (i 0).val % 2 ∧ (y 1).val / 64 = (i 1).val
      then tileY V A B ⟨(y 1).val / 32 % 2, Nat.mod_lt _ (by decide)⟩ y else X y := by
  unfold unpackF
  rw [groupF_apply, groupF_apply]
  by_cases h : (y 0).val = (i 0).val % 2 ∧ (y 1).val / 64 = (i 1).val
  · rw [if_pos h]
    by_cases h1 : (y 1).val / 32 % 2 = 1
    · rw [if_pos ⟨h.1, by show (y 1).val / 32 = 2 * (i 1).val + 1; omega⟩]
      exact congrArg (fun g => tileY V A B g y) (Fin.ext h1.symm)
    · have h0 : (y 1).val / 32 % 2 = 0 := by omega
      rw [if_neg (fun h' => h1 (by have h2 : (y 1).val / 32 = 2 * (i 1).val + 1 := h'.2; omega)),
        if_pos ⟨h.1, by show (y 1).val / 32 = 2 * (i 1).val + 0; omega⟩]
      exact congrArg (fun g => tileY V A B g y) (Fin.ext h0.symm)
  · rw [if_neg h, if_neg (fun h' => h ⟨h'.1, by have h2 : (y 1).val / 32 = 2 * (i 1).val + 1 := h'.2; omega⟩),
      if_neg (fun h' => h ⟨h'.1, by have h2 : (y 1).val / 32 = 2 * (i 1).val + 0 := h'.2; omega⟩)]

end

/-! ## The lanes the second window's words are read at -/

theorem lane_apply (j : S8x128.Idx) : lane j = BitVec.ofNat 32 (j 1).val := by
  unfold lane
  rw [iota_apply]
  simp

/-- Lane `l` divided by `16`, as the kernel computes it. -/
theorem laneDiv16 (j : S8x128.Idx) : laneDiv 16#32 j = BitVec.ofNat 32 ((j 1).val / 16) := by
  have e : laneDiv 16#32 j = laneDiv 16#32 (ix2 (0 : Fin 8) (j 1)) := by
    unfold laneDiv
    simp only [select, andi, subi, divsi, remsi, cmpi, extui, broadcast, lane_apply]
    rfl
  have h : ∀ l : Fin 128, laneDiv 16#32 (ix2 (0 : Fin 8) l) = BitVec.ofNat 32 (l.val / 16) := by
    intro l
    unfold laneDiv
    simp only [select, andi, subi, divsi, remsi, cmpi, extui, broadcast, lane_apply]
    revert l
    decide +kernel
  exact e.trans (h (j 1))

theorem laneGather_apply (v idx : IVec S8x128 32) (j : S8x128.Idx) (k : ℕ) (hk : k < 128) (hi : idx j = BitVec.ofNat 32 k) :
    laneGather v idx j = v (ix2 (j 0) ⟨k, hk⟩) := by
  have hc : ∀ x : IVec S8x128 32, shapeCast S8x128 (shapeCast S8x128x1 x shapeCasts_S8x128_S8x128x1) shapeCasts_S8x128x1_S8x128 = x := fun x => by
    rw [shapeCast_comp, shapeCast_id]
  have hs : ∀ k : Fin 128, (Scalar.select (Scalar.cmpi .slt (BitVec.ofNat 32 k.val) 0#32) (Scalar.addi (BitVec.ofNat 32 k.val) 128#32) (BitVec.ofNat 32 k.val)).toNat % 128 = k.val := by
    decide +kernel
  unfold laneGather
  rw [hc]
  unfold dynamicGather
  refine congrArg v (funext fun a => ?_)
  fin_cases a
  · rfl
  · refine Fin.ext ?_
    show (Scalar.select (Scalar.cmpi .slt (idx j) 0#32) (Scalar.addi (idx j) 128#32) (idx j)).toNat % 128 = k
    rw [hi]
    exact hs ⟨k, hk⟩

theorem wordLane_apply (p : ℕ) (j : S8x128.Idx) : wordLane p j = BitVec.ofNat 32 ((j 1).val / 16 + 8 * p % 128) := by
  unfold wordLane
  show Scalar.addi (laneDiv 16#32 j) (BitVec.ofNat 32 (8 * p % 128)) = _
  rw [laneDiv16]
  exact (BitVec.ofNat_add _ _).symm

/-- The nibbles of lane pair `p` read 8 lanes of the index words. -/
theorem nibOf_apply (w : IVec S8x128 32) (p : ℕ) (j : S8x128.Idx) (hk : (j 1).val / 16 + 8 * p % 128 < 128) :
    nibOf w (wordLane p) j = Scalar.andi (Scalar.shrui (w (ix2 (j 0) ⟨(j 1).val / 16 + 8 * p % 128, hk⟩)) (nibShift j)) 15#32 := by
  unfold nibOf
  show Scalar.andi (Scalar.shrui (laneGather w (wordLane p) j) (nibShift j)) 15#32 = _
  rw [laneGather_apply w (wordLane p) j _ hk (wordLane_apply p j)]

theorem lanes_lt (p : ℕ) (j : S8x128.Idx) : (j 1).val / 16 + 8 * p % 128 < 128 := by
  have h : (j 1).val < 128 := (j 1).isLt
  omega

/-- The second window's lanes from 96 on are not read. -/
theorem nibs_congr (w w' : Fin 4 → IVec S8x128 32) (p : ℕ)
    (h : ∀ a (j : S8x128.Idx), 8 * p % 128 ≤ (j 1).val → (j 1).val < 8 * p % 128 + 8 → w a j = w' a j) : nibs w p = nibs w' p := by
  have e : ∀ a, nibOf (w a) (wordLane p) = nibOf (w' a) (wordLane p) := fun a => funext fun j => by
    have hj : (j 1).val < 128 := (j 1).isLt
    rw [nibOf_apply _ _ _ (lanes_lt p j), nibOf_apply _ _ _ (lanes_lt p j), h a]
    · show 8 * p % 128 ≤ (j 1).val / 16 + 8 * p % 128; omega
    · show (j 1).val / 16 + 8 * p % 128 < 8 * p % 128 + 8; omega
  unfold nibs
  rw [e, e, e, e]

theorem tileAt_congr (V : S64x3584.Idx → Elt F .i8) (A B B' : S64x128.Idx → BitVec 32)
    (hB : ∀ j : S64x128.Idx, (j 1).val < 96 → B j = B' j) (g : Fin 2) (r : Fin 32) (q : Fin 56) (l : Fin 128) :
    tileAt V A B g r q l = tileAt V A B' g r q l := by
  unfold tileAt
  by_cases hq : q.val / 2 < 16
  · rw [if_pos hq, if_pos hq]
  · rw [if_neg hq, if_neg hq]
    have hn : nibs (wordsF B g) (q.val / 2) = nibs (wordsF B' g) (q.val / 2) := by
      refine nibs_congr _ _ _ fun a j h1 h2 => ?_
      have hq' := q.isLt
      have hj : ∀ (x : ℕ) (hx : x < 4), wordF B g x hx j = wordF B' g x hx j := fun x hx => hB _ (by
        show 0 + 1 * (j 1).val < 96
        omega)
      fin_cases a
      · exact hj 0 (by omega)
      · exact hj 1 (by omega)
      · exact hj 2 (by omega)
      · exact hj 3 (by omega)
    unfold pairPay planeOf
    rw [hn]

end Cert.Kernel.Hand
end
-- ==== Proof.Inv.lean ====
/-  What the kernel's buffers hold between grid points: the running maximum, the codes and their copies in flight, the
    unpacked tiles; how the region enters that state and leaves it. -/
module

public import proofs.«01_k».proof.Proof.Steps
public import proofs.«01_k».proof.Proof.Tile
public import proofs.«01_k».proof.Proof.Gen.Kernel.Frame
public import Idealize.ShloMosaic.Lib.Pipeline.FrameSuffixV

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem exR {ι : Type} (P : ι → sProp 𝕄) (x : ι) : P x ⊢ iprop(∃ x, P x) := by
  iintro H
  iexists x
  iexact H

/-- Point `k` of the grid. -/
def pt (k : ℕ) : Fin cfg0.N := ⟨k % 296, Nat.mod_lt _ (by decide)⟩

theorem pt_val (t : Fin cfg0.N) : pt t.val = t := Fin.ext (Nat.mod_eq_of_lt t.isLt)

theorem coord0 (t : Fin cfg0.N) : ((grid0.coords t) 0).val = t.val / 8 := by
  exact (by decide +kernel : ∀ t : Fin grid0.N, ((grid0.coords t) 0).val = t.val / 8) t
theorem coord1 (t : Fin cfg0.N) : ((grid0.coords t) 1).val = t.val % 8 := by
  exact (by decide +kernel : ∀ t : Fin grid0.N, ((grid0.coords t) 1).val = t.val % 8) t

section Contents
variable (m : (ℓ : Loc nD τ sig) → Buf (Elt F) ℓ) (c : Dev nD)

/-! ## The blocks a point sees -/

/-- The scale and its inverse. -/
def scB (t : Fin cfg0.N) : Vec F S2 .f32 := iblk m c 0 t
/-- 512 rows of the activations. -/
def xB (t : Fin cfg0.N) : S512x7168.Idx → Elt F .bf16 := iblk m c 1 t
/-- 64 rows of the stored weights. -/
def vB (t : Fin cfg0.N) : S64x3584.Idx → Elt F .i8 := iblk m c 2 t
/-- Their index words, the first 128 columns. -/
def aB (t : Fin cfg0.N) : S64x128.Idx → Elt F .i32 := X0_3 m c t
/-- Their index words from column 128 on: 96 columns, and `d` in the rest. -/
def bB (t : Fin cfg0.N) (d : (cfg0.win 4).block.Idx → Elt F (cfg0.win 4).elt) : S64x128.Idx → Elt F .i32 :=
  (cfg0.win 4).fill (cfg0.grid.coords t) d (iblk m c 4 t)
/-- 512 of the weights' scales. -/
def wsB (t : Fin cfg0.N) : Vec F S1x512 .f32 := iblk m c 5 t
/-- A default for the columns nothing fills. -/
def dflt0_4 : (cfg0.win 4).block.Idx → Elt F (cfg0.win 4).elt := fun _ => Classical.choice inferInstance

theorem scB_const (t t' : Fin cfg0.N) : scB m c t = scB m c t' := rfl

theorem xsize0_4 : ∀ t : Fin cfg0.N, (cfg0.win 4).xsize (cfg0.grid.coords t) 0 = 64 ∧ (cfg0.win 4).xsize (cfg0.grid.coords t) 1 = 96 := by
  decide +kernel

/-- The filled columns do not depend on `d`. -/
theorem bB_congr (t : Fin cfg0.N) (d d') (j : S64x128.Idx) (hj : (j 1).val < 96) : bB m c t d j = bB m c t d' j := by
  have hm : (cfg0.win 4).moved (cfg0.grid.coords t) j = true :=
    ((cfg0.win 4).moved_iff _ j).mpr fun a => by
      have h0 : (j 0).val < 64 := (j 0).isLt
      have hx := xsize0_4 t
      match a with
      | ⟨0, _⟩ => exact lt_of_lt_of_eq h0 hx.1.symm
      | ⟨1, _⟩ => exact lt_of_lt_of_eq hj hx.2.symm
      | ⟨_ + 2, h⟩ => exact absurd h (Nat.not_lt.2 (Nat.le_add_left _ _))
  unfold bB Pipeline.Window.fill
  rw [dif_pos hm, dif_pos hm]

/-! ## What the points compute -/

/-- The codes. -/
def codesG : S4096x7168.Idx → Elt F .fp8e4m3 := fun y => codeAt (scB m c (pt 0) (ix1 1)) (xB m c (pt ((y 0).val / 512))) y

/-- The running maximum after `k` points. -/
def runMax (k : ℕ) : Vec F S8x7168 .f32 := Nat.rec (motive := fun _ => Vec F S8x7168 .f32) (zeroPay (F := F)) (fun k a => amaxN (xB m c (pt k)) a 16) k

/-- Row `r`, column `k` of the `n`-th 512 rows of the dense weights. -/
def dense (n : ℕ) (r : Fin 512) (k : Fin 7168) : Elt F .fp8e4m3 :=
  tileY (vB m c (pt (8 * n + r.val / 64))) (aB m c (pt (8 * n + r.val / 64))) (bB m c (pt (8 * n + r.val / 64)) dflt0_4)
    ⟨r.val / 32 % 2, Nat.mod_lt _ (by decide)⟩ (ix3 0 r k)

/-- The same as one slot of the buffer holds it. -/
def denseSlot (n : ℕ) : Vec F S1x512x7168 .fp8e4m3 := fun j => dense m c n (j 1) (j 2)

/-- The result's block of a point. -/
def yB (t : Fin cfg0.N) : Vec F S512x512 .bf16 :=
  yPay (rowsOf (codesG m c) (t.val % 8) (Nat.mod_lt _ (by decide))) (denseSlot m c (t.val / 8 - 1)) (scB m c (pt 0) (ix1 0)) (wsB m c t)

/-- The tiles' buffer before point `k`: one slot filling, the other full. -/
def wdAt (k : ℕ) (W : S2x512x7168.Idx → Elt F .fp8e4m3) : Prop :=
  (∀ y : S2x512x7168.Idx, (y 0).val = k / 8 % 2 → (y 1).val / 64 < k % 8 → W y = dense m c (k / 8) (y 1) (y 2))
  ∧ (1 ≤ k / 8 → ∀ y : S2x512x7168.Idx, (y 0).val = (k / 8 + 1) % 2 → W y = dense m c (k / 8 - 1) (y 1) (y 2))

theorem unpack_at (t : Fin cfg0.N) (d) (W : S2x512x7168.Idx → Elt F .fp8e4m3) (y : S2x512x7168.Idx) :
    unpackF (grid0.coords t) (vB m c t) (aB m c t) (bB m c t d) W y
      = if (y 0).val = t.val / 8 % 2 ∧ (y 1).val / 64 = t.val % 8 then dense m c (t.val / 8) (y 1) (y 2) else W y := by
  rw [unpackF_apply, coord0, coord1]
  by_cases h : (y 0).val = t.val / 8 % 2 ∧ (y 1).val / 64 = t.val % 8
  · rw [if_pos h, if_pos h]
    have e : pt (8 * (t.val / 8) + (y 1).val / 64) = t := by
      rw [h.2, Nat.div_add_mod]; exact pt_val t
    unfold dense
    rw [e]
    exact tileAt_congr _ _ _ _ (fun j hj => bB_congr m c t d dflt0_4 j hj) _ _ _ _
  · rw [if_neg h, if_neg h]

theorem wd_step (t : Fin cfg0.N) (d) (W : S2x512x7168.Idx → Elt F .fp8e4m3) (h : wdAt m c t.val W) :
    wdAt m c (t.val + 1) (unpackF (grid0.coords t) (vB m c t) (aB m c t) (bB m c t d) W) := by
  obtain ⟨h1, h2⟩ := h
  by_cases h7 : t.val % 8 = 7
  · have e1 : (t.val + 1) / 8 = t.val / 8 + 1 := by omega
    have e2 : (t.val + 1) % 8 = 0 := by omega
    refine ⟨fun y hy hlt => by omega, fun _ y hy => ?_⟩
    have hy' : (y 0).val = t.val / 8 % 2 := by omega
    have hb : (y 1).val < 512 := (y 1).isLt
    rw [unpack_at, e1, Nat.add_sub_cancel]
    by_cases hc : (y 1).val / 64 = t.val % 8
    · rw [if_pos ⟨hy', hc⟩]
    · rw [if_neg (fun h => hc h.2)]
      exact h1 y hy' (by omega)
  · have e1 : (t.val + 1) / 8 = t.val / 8 := by omega
    have e2 : (t.val + 1) % 8 = t.val % 8 + 1 := by omega
    unfold wdAt
    rw [e1, e2]
    refine ⟨fun y hy hlt => ?_, fun hn y hy => ?_⟩
    · rw [unpack_at]
      by_cases hc : (y 1).val / 64 = t.val % 8
      · rw [if_pos ⟨hy, hc⟩]
      · rw [if_neg (fun h => hc h.2)]
        exact h1 y hy (by omega)
    · rw [unpack_at, if_neg (fun h => by omega)]
      exact h2 hn y hy

theorem wd_slot (t : Fin cfg0.N) (W : S2x512x7168.Idx → Elt F .fp8e4m3) (h : wdAt m c t.val W) (hn : 1 ≤ t.val / 8) (h2) :
    slotOf W ((((grid0.coords t) 0).val + 1) % 2) h2 = denseSlot m c (t.val / 8 - 1) := by
  funext j
  unfold slotOf denseSlot
  refine h.2 hn (ix3 ⟨_, h2⟩ (j 1) (j 2)) ?_
  show (((grid0.coords t) 0).val + 1) % 2 = _
  rw [coord0]

/-! ## The state between points -/

/-- The tiles' buffer. -/
def wdP (k : ℕ) : sProp 𝕄 := iprop(∃ W, ⌜wdAt m c k W⌝ ∗ owns (c : Thread nD τ) mWD fullShare W)
/-- The running maximum's buffer. -/
def maxP (k : ℕ) : sProp 𝕄 := iprop(∃ a, ⌜k ≤ 8 → k ≠ 0 → a = runMax m c k⌝ ∗ owns (c : Thread nD τ) mAM fullShare a)
/-- One block of the codes: before its point, untouched in both places; after it, half of it lent to the copy. -/
def codeP (k : ℕ) (j : Fin 8) : sProp 𝕄 :=
  if j.val < k then xqP c (blk j.val) fullShare.left (codesG m c)
  else iprop((∃ g, xqP c (blk j.val) fullShare g) ∗ (∃ g, coP c (blk j.val) g))

/-- Everything between points. -/
def midP (k : ℕ) : sProp 𝕄 :=
  iprop(wdP m c k ∗ maxP m c k ∗ bigSep Finset.univ (codeP m c k) ∗ flight c (codesG m c) (min k 8) ((k - 288) * cN))

/-- The kernel's own semaphore. -/
abbrev osem0 : Fin 1 → SemLoc sig := ![SemLoc.dma 14]
theorem ownSemFacts0 : Pipeline.OwnSemFacts spec0 osem0 := by decide

/-- The buffer the body writes itself, at the end: the codes. -/
def endG (c : Dev nD) (b : Ref sig .tc) : Buf (Elt F) ((c : Thread nD τ).loc b) :=
  if h : b = main_v34_1 then h ▸ (codesG m c : Buf (Elt F) ((c : Thread nD τ).loc main_v34_1)) else V m c b

theorem endG_codes : endG m c main_v34_1 = codesG m c := dif_pos rfl

theorem blk_univ : (Finset.univ : Finset (Fin 8)).biUnion (fun j => blk j.val) = Finset.univ := by
  ext y
  have h : (y 0).val < 4096 := (y 0).isLt
  exact ⟨fun _ => Finset.mem_univ _, fun _ => Finset.mem_biUnion.mpr ⟨⟨(y 0).val / 512, by omega⟩, Finset.mem_univ _, mem_blk.mpr rfl⟩⟩

theorem blk_disj : ∀ j ∈ (Finset.univ : Finset (Fin 8)), ∀ j' ∈ (Finset.univ : Finset (Fin 8)), j ≠ j' → Disjoint (blk j.val) (blk j'.val) :=
  fun j _ j' _ h => Finset.disjoint_left.mpr fun y h1 h2 => h (Fin.ext ((mem_blk.mp h1).symm.trans (mem_blk.mp h2)))

theorem xq_blocks (q : PosShare TreeShare) (f : S4096x7168.Idx → Elt F .fp8e4m3) :
    (xqP c Finset.univ q f : sProp 𝕄) = bigSep Finset.univ fun j : Fin 8 => xqP c (blk j.val) q f := by
  have h := pointsTo_biUnion (ℓ := mXQ.view.loc (c : Thread nD τ)) (q := q) (f := f) (Ix := Unit) (Name := ℕ) (U := Pipeline.UD sig nD τ) (Lvl := ℕ) Finset.univ (fun j : Fin 8 => blk j.val) blk_disj
  rw [blk_univ] at h
  exact h
theorem co_blocks (f : S4096x7168.Idx → Elt F .fp8e4m3) :
    (coP c Finset.univ f : sProp 𝕄) = bigSep Finset.univ fun j : Fin 8 => coP c (blk j.val) f := by
  have h := pointsTo_biUnion (ℓ := mCO.view.loc (c : Thread nD τ)) (q := fullShare) (f := f) (Ix := Unit) (Name := ℕ) (U := Pipeline.UD sig nD τ) (Lvl := ℕ) Finset.univ (fun j : Fin 8 => blk j.val) blk_disj
  rw [blk_univ] at h
  exact h

/-- The region's own resources, spelled out. -/
theorem own_eq (G : (c : Dev nD) → (b : Ref sig .tc) → Buf (Elt F) ((c.tc : Thread nD τ).loc b)) :
    (Pipeline.ΦDRV osem0 spec0 ∅ {main_v34_1} (V m) G c : sProp 𝕄)
      = iprop(((∃ f, xqP c Finset.univ fullShare f) ∗ (∃ f, owns (c : Thread nD τ) mWD fullShare f) ∗ (∃ f, owns (c : Thread nD τ) mAM fullShare f))
          ∗ semVal ((c : Thread nD τ), .dma (cc0_scratch3 : DmaSems sig S_).sem) 0 ∗ emp ∗ coP c Finset.univ (G c main_v34_1)) := by
  unfold Pipeline.ΦDRV
  rw [scopedRest0_eq, Pipeline.ownSems0_eq_of_list c osem0 [0] (by decide) (by decide), bigSep_singleton, bigSep_empty]
  have e1 : ∀ f : S2x512x7168.Idx → Elt F .fp8e4m3, (owns (c : Thread nD τ) mWD fullShare f : sProp 𝕄) = (((c : Thread nD τ).loc cc0_scratch1) ↦{fullShare} f) :=
    fun f => owns_whole (c : Thread nD τ) cc0_scratch1 fullShare f
  have e2 : ∀ f : S8x7168.Idx → Elt F .f32, (owns (c : Thread nD τ) mAM fullShare f : sProp 𝕄) = (((c : Thread nD τ).loc cc0_scratch2) ↦{fullShare} f) :=
    fun f => owns_whole (c : Thread nD τ) cc0_scratch2 fullShare f
  simp only [e1, e2]
  rfl

/-- Into the loop. -/
theorem enter : (Pipeline.ΦDRV osem0 spec0 ∅ {main_v34_1} (V m) (V m) c : sProp 𝕄) ⊢ |={Set.univ}=> midP m c 0 := by
  rw [own_eq]
  iintro ⟨⟨⟨%f, HX⟩, ⟨%w, HW⟩, ⟨%a, HA⟩⟩, HS, -, HC⟩
  imod (Transfers.batch_alloc' (Lvl := ℕ) (countersEmb (U := Pipeline.UD sig nD τ)) (c : Thread nD τ) () cN (deliv c (codesG m c))
    (sm := .dma (cc0_scratch3 : DmaSems sig S_).sem) (E := Set.univ)) $$ HS with HB
  imodintro
  unfold midP wdP maxP
  isplitl [HW]
  · iexists w
    isplitr
    · ipureintro
      exact ⟨fun y _ h => absurd h (Nat.not_lt_zero _), fun h => absurd h (by decide)⟩
    iexact HW
  isplitl [HA]
  · iexists a
    isplitr
    · ipureintro; exact fun _ h => absurd rfl h
    iexact HA
  isplitl [HX HC]
  · have e : (bigSep Finset.univ (codeP m c 0) : sProp 𝕄) = iprop((bigSep Finset.univ fun j : Fin 8 => iprop(∃ g, xqP c (blk j.val) fullShare g))
        ∗ bigSep Finset.univ fun j : Fin 8 => iprop(∃ g, coP c (blk j.val) g)) := by
      exact (bigSep_congr fun j _ => if_neg (Nat.not_lt_zero _)).trans (BI.bigSep_sep _ _ _)
    rw [e]
    isplitl [HX]
    · iapply (show (xqP c Finset.univ fullShare f : sProp 𝕄) ⊢ bigSep Finset.univ fun j : Fin 8 => iprop(∃ g, xqP c (blk j.val) fullShare g) from by
        rw [xq_blocks]
        exact bigSep_mono fun j _ => exR (fun g => xqP c (blk j.val) fullShare g) f)
      iexact HX
    · iapply (show (coP c Finset.univ (V m c main_v34_1) : sProp 𝕄) ⊢ bigSep Finset.univ fun j : Fin 8 => iprop(∃ g, coP c (blk j.val) g) from by
        rw [co_blocks]
        exact bigSep_mono fun j _ => exR (fun g => coP c (blk j.val) g) (V m c main_v34_1))
      iexact HC
  · rw [show min 0 8 = 0 from rfl, show (0 - 288) * cN = 0 from Nat.zero_mul _]
    iexact HB

/-- Out of the loop: the copies have arrived, so the codes are whole again in both places. -/
theorem leave (k : ℕ) (hk : 8 ≤ k) :
    (iprop(wdP m c k ∗ maxP m c k ∗ bigSep Finset.univ (codeP m c k)
      ∗ bigSep Finset.univ (deliv c (codesG m c)) ∗ semVal ((c : Thread nD τ), .dma (cc0_scratch3 : DmaSems sig S_).sem) 0) : sProp 𝕄)
      ⊢ Pipeline.ΦDRV osem0 spec0 ∅ {main_v34_1} (V m) (endG m) c := by
  rw [own_eq, endG_codes]
  have e : (bigSep Finset.univ (codeP m c k) : sProp 𝕄) = bigSep Finset.univ fun j : Fin 8 => xqP c (blk j.val) fullShare.left (codesG m c) :=
    bigSep_congr fun j _ => if_pos (lt_of_lt_of_le j.isLt hk)
  have e2 : (bigSep Finset.univ (deliv c (codesG m c)) : sProp 𝕄)
      = iprop((bigSep Finset.univ fun j : Fin 8 => coP c (blk j.val) (codesG m c)) ∗ bigSep Finset.univ fun j : Fin 8 => xqP c (blk j.val) fullShare.right (codesG m c)) := by
    exact BI.bigSep_sep _ _ _
  rw [e, e2, ← co_blocks, ← xq_blocks, ← xq_blocks]
  unfold wdP maxP
  iintro ⟨⟨%W, -, HW⟩, ⟨%a, -, HA⟩, HL, ⟨HC, HR⟩, HS⟩
  isplitl [HW HA HL HR]
  · isplitl [HL HR]
    · iexists (codesG m c)
      iapply (pointsTo_share (PosShare.mem_left_op_right fullShare)).2
      isplitl [HL] <;> iassumption
    isplitl [HW]
    · iexists W; iexact HW
    · iexists a; iexact HA
  isplitl [HS]; · iexact HS
  isplitr
  · iempintro
  iexact HC

end Contents

end Cert.Kernel.Hand
end
-- ==== Proof.Point.lean ====
/-  One grid point of each kind: from the state before it to the state after it. -/
module

public import proofs.«01_k».proof.Proof.Inv

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Points
variable (m : (ℓ : Loc nD τ sig) → Buf (Elt F) ℓ) (c : Dev nD) (t : Fin cfg0.N)
variable (arg2 : Memref sig .tc .smem S2 .f32) (arg3 : Memref sig .tc .vmem S512x7168 .bf16) (arg4 : Memref sig .tc .vmem S64x3584 .i8)
  (arg5 arg6 : Memref sig .tc .vmem S64x128 .i32) (arg7 : Memref sig .tc .vmem S1x512 .f32) (arg8 : Memref sig .tc .vmem S512x512 .bf16)
  (harg8 : arg8.IsWhole) (arg10 : Memref sig .tc .smem S1 .f32)

/-- The body on the region's own buffers. -/
abbrev bodyAt : Prog (TpuEff nD τ sig (Elt F) Λ₀ .tc) PUnit :=
  bodyK (grid0.coords t) arg2 arg3 arg4 arg5 arg6 arg7 arg8 harg8 mCO (Memref.isWhole_whole _) arg10 mXQ (Memref.isWhole_whole _)
    mWD (Memref.isWhole_whole _) mAM cc0_scratch3

/-! ## The codes' blocks, one at a time -/

theorem codes_take (ht : t.val < 8) :
    (bigSep Finset.univ (codeP m c t.val) : sProp 𝕄)
      = iprop(((∃ g, xqP c (blk t.val) fullShare g) ∗ (∃ g, coP c (blk t.val) g)) ∗ bigSep (Finset.univ.erase (⟨t.val, ht⟩ : Fin 8)) (codeP m c t.val)) :=
  (BI.bigSep_erase (Finset.mem_univ (⟨t.val, ht⟩ : Fin 8))).trans
    (congrArg (fun P => iprop(P ∗ bigSep (Finset.univ.erase (⟨t.val, ht⟩ : Fin 8)) (codeP m c t.val))) (if_neg (lt_irrefl _)))

theorem codes_put (ht : t.val < 8) :
    (bigSep Finset.univ (codeP m c (t.val + 1)) : sProp 𝕄)
      = iprop(xqP c (blk t.val) fullShare.left (codesG m c) ∗ bigSep (Finset.univ.erase (⟨t.val, ht⟩ : Fin 8)) (codeP m c t.val)) := by
  refine (BI.bigSep_erase (Finset.mem_univ (⟨t.val, ht⟩ : Fin 8))).trans ?_
  have e1 : (codeP m c (t.val + 1) ⟨t.val, ht⟩ : sProp 𝕄) = xqP c (blk t.val) fullShare.left (codesG m c) := if_pos (Nat.lt_succ_self _)
  have e2 : (bigSep (Finset.univ.erase (⟨t.val, ht⟩ : Fin 8)) (codeP m c (t.val + 1)) : sProp 𝕄)
      = bigSep (Finset.univ.erase (⟨t.val, ht⟩ : Fin 8)) (codeP m c t.val) := bigSep_congr fun j hj => by
    have hne : j.val ≠ t.val := fun h => (Finset.mem_erase.mp hj).1 (Fin.ext h)
    unfold codeP
    by_cases h : j.val < t.val
    · rw [if_pos h, if_pos (by omega)]
    · rw [if_neg h, if_neg (by omega)]
  rw [e1, e2]; rfl

theorem codes_late (ht : 8 ≤ t.val) (j : Fin 8) :
    (bigSep Finset.univ (codeP m c t.val) : sProp 𝕄)
      = iprop(xqP c (blk j.val) fullShare.left (codesG m c) ∗ bigSep (Finset.univ.erase j) (codeP m c t.val)) :=
  (BI.bigSep_erase (Finset.mem_univ j)).trans
    (congrArg (fun P => iprop(P ∗ bigSep (Finset.univ.erase j) (codeP m c t.val))) (if_pos (by have := j.isLt; omega)))

theorem codes_late_succ (ht : 8 ≤ t.val) :
    (bigSep Finset.univ (codeP m c (t.val + 1)) : sProp 𝕄) = bigSep Finset.univ (codeP m c t.val) :=
  bigSep_congr fun j _ => by
    have := j.isLt
    unfold codeP
    rw [if_pos (by omega), if_pos (by omega)]

/-! ## The first grid row -/

/-- The point's last branch: the maximum is written out at point 7 only. -/
def maxAfter (t : Fin cfg0.N) (M : Vec F S1 .f32) : Vec F S1 .f32 :=
  if t.val = 7 then fun _ => amaxOut (runMax m c 8) else M

theorem pointA (ht : t.val < 8) (d) (M : Vec F S1 .f32) :
    (iprop(midP m c t.val ∗ owns (c : Thread nD τ) arg2 fullShare (scB m c t) ∗ owns (c : Thread nD τ) arg3 fullShare (xB m c t)
      ∗ owns (c : Thread nD τ) arg4 fullShare (vB m c t) ∗ owns (c : Thread nD τ) arg5 fullShare (aB m c t)
      ∗ owns (c : Thread nD τ) arg6 fullShare (bB m c t d) ∗ owns (c : Thread nD τ) arg10 fullShare M) : sProp 𝕄)
    ⊢ wpB c (bodyAt t arg2 arg3 arg4 arg5 arg6 arg7 arg8 harg8 arg10)
      (fun _ => iprop(midP m c (t.val + 1) ∗ owns (c : Thread nD τ) arg2 fullShare (scB m c t) ∗ owns (c : Thread nD τ) arg3 fullShare (xB m c t)
        ∗ owns (c : Thread nD τ) arg4 fullShare (vB m c t) ∗ owns (c : Thread nD τ) arg5 fullShare (aB m c t)
        ∗ owns (c : Thread nD τ) arg6 fullShare (bB m c t d) ∗ owns (c : Thread nD τ) arg10 fullShare (maxAfter m c t M))) := by
  have hi0 : ((grid0.coords t) 0).val = 0 := by rw [coord0]; omega
  have hi1 : ((grid0.coords t) 1).val = t.val := by rw [coord1]; omega
  have h1 : k0_cond1 (grid0.coords t) = 1#1 := (cond1_iff _).mpr hi0
  have h4 : ¬ k0_cond4 (grid0.coords t) = 1#1 := fun h => by have := (cond4_iff _).mp h; omega
  have h5 : ¬ k0_cond5 (grid0.coords t) = 1#1 := fun h => by have := (cond5_iff _).mp h; omega
  have T := topK_sound (grid0.coords t) c arg2 arg3 h1 fullShare fullShare (scB m c t) (xB m c t) (runMax m c t.val)
    (fun h => by rw [hi1] at h; rw [h]; rfl) (codesG m c)
    (fun y hy => by
      have e : pt ((y 0).val / 512) = t := by rw [hy, hi1, pt_val]
      unfold codesG
      rw [e, scB_const m c (pt 0) t])
  rw [hi1] at T
  have eM : amaxN (xB m c t) (runMax m c t.val) 16 = runMax m c (t.val + 1) := by
    show _ = amaxN (xB m c (pt t.val)) (runMax m c t.val) 16
    rw [pt_val]
  rw [eM] at T
  unfold bodyAt
  dsimp only [bodyK]
  rw [dif_pos h1]
  unfold midP
  rw [codes_take m c t ht, codes_put m c t ht, show min t.val 8 = t.val by omega, show min (t.val + 1) 8 = t.val + 1 by omega,
    show (t.val - 288) * cN = 0 by rw [show t.val - 288 = 0 by omega, Nat.zero_mul],
    show (t.val + 1 - 288) * cN = 0 by rw [show t.val + 1 - 288 = 0 by omega, Nat.zero_mul]]
  unfold maxP
  refine (show _ ⊢ iprop((owns (c : Thread nD τ) arg2 fullShare (scB m c t) ∗ owns (c : Thread nD τ) arg3 fullShare (xB m c t)
      ∗ (∃ a, ⌜t.val ≠ 0 → a = runMax m c t.val⌝ ∗ owns (c : Thread nD τ) mAM fullShare a)
      ∗ (∃ g, xqP c (blk t.val) fullShare g) ∗ (∃ g, coP c (blk t.val) g) ∗ flight c (codesG m c) t.val 0)
      ∗ (wdP m c t.val ∗ bigSep (Finset.univ.erase (⟨t.val, ht⟩ : Fin 8)) (codeP m c t.val) ∗ owns (c : Thread nD τ) arg4 fullShare (vB m c t) ∗ owns (c : Thread nD τ) arg5 fullShare (aB m c t)
      ∗ owns (c : Thread nD τ) arg6 fullShare (bB m c t d) ∗ owns (c : Thread nD τ) arg10 fullShare M)) from by
    iintro ⟨⟨HW, ⟨%a, %ha, HA⟩, ⟨⟨HX, HC⟩, HE⟩, HB⟩, H2, H3, H4, H5, H6, H10⟩
    isplitr [HW HE H4 H5 H6 H10]
    · isplitl [H2]; · iexact H2
      isplitl [H3]; · iexact H3
      isplitl [HA]
      · iexists a
        isplitr
        · ipureintro; exact fun h => ha (by omega) h
        iexact HA
      isplitl [HX]; · iexact HX
      isplitl [HC] <;> iassumption
    isplitl [HW]; · iexact HW
    isplitl [HE]; · iexact HE
    isplitl [H4]; · iexact H4
    isplitl [H5]; · iexact H5
    isplitl [H6] <;> iassumption).trans ?_
  refine wpB_bind (wpB_frame T) fun _ => ?_
  unfold wdP
  refine (show _ ⊢ iprop(∃ W, ⌜wdAt m c t.val W⌝ ∗ (unpackRes c arg4 arg5 arg6 mWD fullShare fullShare fullShare (vB m c t) (aB m c t) (bB m c t d) W
      ∗ (owns (c : Thread nD τ) arg2 fullShare (scB m c t) ∗ owns (c : Thread nD τ) arg3 fullShare (xB m c t) ∗ owns (c : Thread nD τ) mAM fullShare (runMax m c (t.val + 1))
        ∗ xqP c (blk t.val) fullShare.left (codesG m c) ∗ flight c (codesG m c) (t.val + 1) 0
        ∗ bigSep (Finset.univ.erase (⟨t.val, ht⟩ : Fin 8)) (codeP m c t.val) ∗ owns (c : Thread nD τ) arg10 fullShare M))) from by
    iintro ⟨⟨H2, H3, HA, HX, HB⟩, ⟨%W, %hW, HW⟩, HE, H4, H5, H6, H10⟩
    iexists W
    isplitr
    · ipureintro; exact hW
    isplitl [HW H4 H5 H6]
    · unfold unpackRes
      isplitl [HW]; · iexact HW
      isplitl [H4]; · iexact H4
      isplitl [H5] <;> iassumption
    isplitl [H2]; · iexact H2
    isplitl [H3]; · iexact H3
    isplitl [HA]; · iexact HA
    isplitl [HX]; · iexact HX
    isplitl [HB]; · iexact HB
    isplitl [HE] <;> iassumption).trans ?_
  refine exL fun W => pureL fun hW => ?_
  refine wpB_bind (wpB_frame (unpackK_sound (grid0.coords t) c arg4 arg5 arg6 mWD (Memref.isWhole_whole _) fullShare fullShare fullShare _ _ _ W)) fun _ => ?_
  have fin : ∀ M' : Vec F S1 .f32, M' = maxAfter m c t M →
      (iprop(unpackRes c arg4 arg5 arg6 mWD fullShare fullShare fullShare (vB m c t) (aB m c t) (bB m c t d) (unpackF (grid0.coords t) (vB m c t) (aB m c t) (bB m c t d) W)
      ∗ (owns (c : Thread nD τ) arg2 fullShare (scB m c t) ∗ owns (c : Thread nD τ) arg3 fullShare (xB m c t) ∗ owns (c : Thread nD τ) mAM fullShare (runMax m c (t.val + 1))
        ∗ xqP c (blk t.val) fullShare.left (codesG m c) ∗ flight c (codesG m c) (t.val + 1) 0
        ∗ bigSep (Finset.univ.erase (⟨t.val, ht⟩ : Fin 8)) (codeP m c t.val) ∗ owns (c : Thread nD τ) arg10 fullShare M')) : sProp 𝕄)
      ⊢ iprop(((∃ W, ⌜wdAt m c (t.val + 1) W⌝ ∗ owns (c : Thread nD τ) mWD fullShare W)
        ∗ (∃ a, ⌜t.val + 1 ≤ 8 → t.val + 1 ≠ 0 → a = runMax m c (t.val + 1)⌝ ∗ owns (c : Thread nD τ) mAM fullShare a)
        ∗ (xqP c (blk t.val) fullShare.left (codesG m c) ∗ bigSep (Finset.univ.erase (⟨t.val, ht⟩ : Fin 8)) (codeP m c t.val))
        ∗ flight c (codesG m c) (t.val + 1) 0)
        ∗ owns (c : Thread nD τ) arg2 fullShare (scB m c t) ∗ owns (c : Thread nD τ) arg3 fullShare (xB m c t)
        ∗ owns (c : Thread nD τ) arg4 fullShare (vB m c t) ∗ owns (c : Thread nD τ) arg5 fullShare (aB m c t)
        ∗ owns (c : Thread nD τ) arg6 fullShare (bB m c t d) ∗ owns (c : Thread nD τ) arg10 fullShare (maxAfter m c t M)) := by
    rintro _ rfl
    unfold unpackRes
    iintro ⟨⟨HW, H4, H5, H6⟩, H2, H3, HA, HX, HB, HE, H10⟩
    isplitl [HW HA HX HE HB]
    · isplitl [HW]
      · iexists _
        isplitr
        · ipureintro; exact wd_step m c t d W hW
        iexact HW
      isplitl [HA]
      · iexists _
        isplitr
        · ipureintro; exact fun _ _ => rfl
        iexact HA
      isplitl [HX HE]
      · isplitl [HX] <;> iassumption
      iexact HB
    isplitl [H2]; · iexact H2
    isplitl [H3]; · iexact H3
    isplitl [H4]; · iexact H4
    isplitl [H5]; · iexact H5
    isplitl [H6] <;> iassumption
  by_cases h3 : k0_cond3 (grid0.coords t) = 1#1
  · have h7 : t.val = 7 := hi1.symm.trans ((cond3_iff _).mp h3)
    rw [dif_pos h3]
    refine (show _ ⊢ iprop((owns (c : Thread nD τ) mAM fullShare (runMax m c (t.val + 1)) ∗ (∃ m0, owns (c : Thread nD τ) arg10 fullShare m0))
        ∗ (unpackRes c arg4 arg5 arg6 mWD fullShare fullShare fullShare (vB m c t) (aB m c t) (bB m c t d) (unpackF (grid0.coords t) (vB m c t) (aB m c t) (bB m c t d) W)
        ∗ owns (c : Thread nD τ) arg2 fullShare (scB m c t) ∗ owns (c : Thread nD τ) arg3 fullShare (xB m c t)
        ∗ xqP c (blk t.val) fullShare.left (codesG m c) ∗ flight c (codesG m c) (t.val + 1) 0
        ∗ bigSep (Finset.univ.erase (⟨t.val, ht⟩ : Fin 8)) (codeP m c t.val))) from by
      iintro ⟨HU, H2, H3, HA, HX, HB, HE, H10⟩
      isplitl [HA H10]
      · isplitl [HA]; · iexact HA
        iexists M; iexact H10
      isplitl [HU]; · iexact HU
      isplitl [H2]; · iexact H2
      isplitl [H3]; · iexact H3
      isplitl [HX]; · iexact HX
      isplitl [HB] <;> iassumption).trans ?_
    refine wpB_bind (wpB_frame (amaxK_sound c arg10 _)) fun _ => ?_
    rw [dif_neg h4, dif_neg h5]
    refine wpB_pure ?_
    refine (show _ ⊢ _ from ?_).trans (fin (fun _ => amaxOut (runMax m c (t.val + 1))) (by unfold maxAfter; rw [if_pos h7, h7]))
    iintro ⟨⟨HA, H10⟩, HU, H2, H3, HX, HB, HE⟩
    isplitl [HU]; · iexact HU
    isplitl [H2]; · iexact H2
    isplitl [H3]; · iexact H3
    isplitl [HA]; · iexact HA
    isplitl [HX]; · iexact HX
    isplitl [HB]; · iexact HB
    isplitl [HE] <;> iassumption
  · have h7 : ¬ t.val = 7 := fun h => h3 ((cond3_iff _).mpr (hi1.trans h))
    rw [dif_neg h3, dif_neg h4, dif_neg h5]
    exact wpB_pure (fin M (by unfold maxAfter; rw [if_neg h7]))

/-! ## The later grid rows -/

/-- The product of the point, its tile written, the next tile unpacked. -/
theorem pointB_part (ht : 8 ≤ t.val) (h4 : k0_cond4 (grid0.coords t) = 1#1) (d) :
    (iprop((wdP m c t.val ∗ bigSep Finset.univ (codeP m c t.val)) ∗ owns (c : Thread nD τ) arg2 fullShare (scB m c t)
      ∗ owns (c : Thread nD τ) arg4 fullShare (vB m c t) ∗ owns (c : Thread nD τ) arg5 fullShare (aB m c t)
      ∗ owns (c : Thread nD τ) arg6 fullShare (bB m c t d) ∗ owns (c : Thread nD τ) arg7 fullShare (wsB m c t) ∗ (∃ y, owns (c : Thread nD τ) arg8 fullShare y)) : sProp 𝕄)
    ⊢ wpB c (bodyB (grid0.coords t) arg2 arg4 arg5 arg6 arg7 arg8 harg8 mXQ mWD (Memref.isWhole_whole _) h4)
      (fun _ => iprop((wdP m c (t.val + 1) ∗ bigSep Finset.univ (codeP m c (t.val + 1))) ∗ owns (c : Thread nD τ) arg2 fullShare (scB m c t)
        ∗ owns (c : Thread nD τ) arg4 fullShare (vB m c t) ∗ owns (c : Thread nD τ) arg5 fullShare (aB m c t)
        ∗ owns (c : Thread nD τ) arg6 fullShare (bB m c t d) ∗ owns (c : Thread nD τ) arg7 fullShare (wsB m c t) ∗ owns (c : Thread nD τ) arg8 fullShare (yB m c t))) := by
  have hi1 : ((grid0.coords t) 1).val = t.val % 8 := coord1 t
  have hm : t.val % 8 < 8 := Nat.mod_lt _ (by decide)
  rw [codes_late_succ m c t ht, codes_late m c t ht ⟨t.val % 8, hm⟩]
  unfold wdP
  refine (show _ ⊢ iprop(∃ W, ⌜wdAt m c t.val W⌝ ∗ ((xqP c (blk (t.val % 8)) fullShare.left (codesG m c)
      ∗ unpackRes c arg4 arg5 arg6 mWD fullShare fullShare fullShare (vB m c t) (aB m c t) (bB m c t d) W
      ∗ owns (c : Thread nD τ) arg2 fullShare (scB m c t) ∗ owns (c : Thread nD τ) arg7 fullShare (wsB m c t) ∗ (∃ y, owns (c : Thread nD τ) arg8 fullShare y))
      ∗ bigSep (Finset.univ.erase (⟨t.val % 8, hm⟩ : Fin 8)) (codeP m c t.val))) from by
    iintro ⟨⟨⟨%W, %hW, HW⟩, HX, HE⟩, H2, H4, H5, H6, H7, H8⟩
    iexists W
    isplitr
    · ipureintro; exact hW
    isplitr [HE]
    · isplitl [HX]; · iexact HX
      isplitl [HW H4 H5 H6]
      · unfold unpackRes
        isplitl [HW]; · iexact HW
        isplitl [H4]; · iexact H4
        isplitl [H5] <;> iassumption
      isplitl [H2]; · iexact H2
      isplitl [H7] <;> iassumption
    iexact HE).trans ?_
  refine exL fun W => pureL fun hW => ?_
  have T := bodyB_sound (grid0.coords t) c arg2 arg7 arg8 harg8 h4 fullShare fullShare fullShare fullShare fullShare (scB m c t)
    (vB m c t) (aB m c t) (bB m c t d) (wsB m c t) (codesG m c) W (Memref.isWhole_whole _) arg4 arg5 arg6
  rw [wd_slot m c t W hW (by omega) _] at T
  have eY : yPay (rowsOf (codesG m c) ((grid0.coords t) 1).val ((grid0.coords t) 1).isLt) (denseSlot m c (t.val / 8 - 1)) (scB m c t (ix1 0)) (wsB m c t) = yB m c t := by
    have e : ∀ (k : ℕ) (hk : k < 8), k = t.val % 8 → rowsOf (codesG m c) k hk = rowsOf (codesG m c) (t.val % 8) hm := by rintro _ _ rfl; rfl
    exact congrArg (fun r => yPay r (denseSlot m c (t.val / 8 - 1)) (scB m c t (ix1 0)) (wsB m c t)) (e _ _ hi1)
  rw [eY] at T
  rw [hi1] at T
  refine wpB_mono (wpB_frame T) fun _ => ?_
  unfold unpackRes
  iintro ⟨⟨HX, ⟨HW, H4, H5, H6⟩, H2, H7, H8⟩, HE⟩
  isplitl [HX HE HW]
  · isplitl [HW]
    · iexists _
      isplitr
      · ipureintro; exact wd_step m c t d W hW
      iexact HW
    isplitl [HX] <;> iassumption
  isplitl [H2]; · iexact H2
  isplitl [H4]; · iexact H4
  isplitl [H5]; · iexact H5
  isplitl [H6]; · iexact H6
  isplitl [H7] <;> iassumption

theorem max_late (ht : 8 ≤ t.val) : (maxP m c t.val : sProp 𝕄) ⊢ maxP m c (t.val + 1) := by
  unfold maxP
  iintro ⟨%a, -, HA⟩
  iexists a
  isplitr
  · ipureintro; exact fun h => absurd h (by omega)
  iexact HA

theorem pointB (ht : 8 ≤ t.val) (ht' : t.val < 288) (d) :
    (iprop(midP m c t.val ∗ owns (c : Thread nD τ) arg2 fullShare (scB m c t)
      ∗ owns (c : Thread nD τ) arg4 fullShare (vB m c t) ∗ owns (c : Thread nD τ) arg5 fullShare (aB m c t)
      ∗ owns (c : Thread nD τ) arg6 fullShare (bB m c t d) ∗ owns (c : Thread nD τ) arg7 fullShare (wsB m c t) ∗ (∃ y, owns (c : Thread nD τ) arg8 fullShare y)) : sProp 𝕄)
    ⊢ wpB c (bodyAt t arg2 arg3 arg4 arg5 arg6 arg7 arg8 harg8 arg10)
      (fun _ => iprop(midP m c (t.val + 1) ∗ owns (c : Thread nD τ) arg2 fullShare (scB m c t)
        ∗ owns (c : Thread nD τ) arg4 fullShare (vB m c t) ∗ owns (c : Thread nD τ) arg5 fullShare (aB m c t)
        ∗ owns (c : Thread nD τ) arg6 fullShare (bB m c t d) ∗ owns (c : Thread nD τ) arg7 fullShare (wsB m c t) ∗ owns (c : Thread nD τ) arg8 fullShare (yB m c t))) := by
  have hi0 : ((grid0.coords t) 0).val = t.val / 8 := coord0 t
  have h1 : ¬ k0_cond1 (grid0.coords t) = 1#1 := fun h => by have := (cond1_iff _).mp h; omega
  have h4 : k0_cond4 (grid0.coords t) = 1#1 := (cond4_iff _).mpr (by omega)
  have h5 : ¬ k0_cond5 (grid0.coords t) = 1#1 := fun h => by have := (cond5_iff _).mp h; omega
  unfold bodyAt
  dsimp only [bodyK]
  rw [dif_neg h1, dif_pos h4, dif_neg h5]
  unfold midP
  rw [show min t.val 8 = 8 by omega, show min (t.val + 1) 8 = 8 by omega,
    show (t.val - 288) * cN = 0 by rw [show t.val - 288 = 0 by omega, Nat.zero_mul],
    show (t.val + 1 - 288) * cN = 0 by rw [show t.val + 1 - 288 = 0 by omega, Nat.zero_mul]]
  refine (show _ ⊢ iprop(((wdP m c t.val ∗ bigSep Finset.univ (codeP m c t.val)) ∗ owns (c : Thread nD τ) arg2 fullShare (scB m c t)
      ∗ owns (c : Thread nD τ) arg4 fullShare (vB m c t) ∗ owns (c : Thread nD τ) arg5 fullShare (aB m c t)
      ∗ owns (c : Thread nD τ) arg6 fullShare (bB m c t d) ∗ owns (c : Thread nD τ) arg7 fullShare (wsB m c t) ∗ (∃ y, owns (c : Thread nD τ) arg8 fullShare y))
      ∗ (maxP m c t.val ∗ flight c (codesG m c) 8 0)) from by
    iintro ⟨⟨HW, HA, HE, HB⟩, H⟩
    isplitl [HW HE H]
    · isplitl [HW HE]
      · isplitl [HW] <;> iassumption
      iexact H
    isplitl [HA] <;> iassumption).trans ?_
  refine wpB_bind (wpB_frame (pointB_part m c t arg2 arg4 arg5 arg6 arg7 arg8 harg8 ht h4 d)) fun _ => wpB_pure ?_
  refine (show _ ⊢ _ from sep_mono_right (sep_mono_left (max_late m c t ht))).trans ?_
  iintro ⟨⟨⟨HW, HE⟩, H⟩, HA, HB⟩
  isplitl [HW HE HA HB]
  · isplitl [HW]; · iexact HW
    isplitl [HA]; · iexact HA
    isplitl [HE] <;> iassumption
  iexact H

/-- The last grid row's state after a point: as between points, or, after the last one, as the region hands it back. -/
def lateP (k : ℕ) : sProp 𝕄 :=
  if k = 296 then Pipeline.ΦDRV osem0 spec0 ∅ {main_v34_1} (V m) (endG m) c else midP m c k

theorem pointC (ht : 288 ≤ t.val) (d) (Wt : Waits sig Unit) :
    (iprop(midP m c t.val ∗ owes (c : Thread nD τ) 0 Wt ∗ owns (c : Thread nD τ) arg2 fullShare (scB m c t)
      ∗ owns (c : Thread nD τ) arg4 fullShare (vB m c t) ∗ owns (c : Thread nD τ) arg5 fullShare (aB m c t)
      ∗ owns (c : Thread nD τ) arg6 fullShare (bB m c t d) ∗ owns (c : Thread nD τ) arg7 fullShare (wsB m c t) ∗ (∃ y, owns (c : Thread nD τ) arg8 fullShare y)) : sProp 𝕄)
    ⊢ wpB c (bodyAt t arg2 arg3 arg4 arg5 arg6 arg7 arg8 harg8 arg10)
      (fun _ => iprop(lateP m c (t.val + 1) ∗ (∃ Wt', owes (c : Thread nD τ) 0 Wt') ∗ owns (c : Thread nD τ) arg2 fullShare (scB m c t)
        ∗ owns (c : Thread nD τ) arg4 fullShare (vB m c t) ∗ owns (c : Thread nD τ) arg5 fullShare (aB m c t)
        ∗ owns (c : Thread nD τ) arg6 fullShare (bB m c t d) ∗ owns (c : Thread nD τ) arg7 fullShare (wsB m c t) ∗ owns (c : Thread nD τ) arg8 fullShare (yB m c t))) := by
  have hN : t.val < 296 := t.isLt
  have hi0 : ((grid0.coords t) 0).val = t.val / 8 := coord0 t
  have hi1 : ((grid0.coords t) 1).val = t.val - 288 := (coord1 t).trans (by omega)
  have h1 : ¬ k0_cond1 (grid0.coords t) = 1#1 := fun h => by have := (cond1_iff _).mp h; omega
  have h4 : k0_cond4 (grid0.coords t) = 1#1 := (cond4_iff _).mpr (by omega)
  have h5 : k0_cond5 (grid0.coords t) = 1#1 := (cond5_iff _).mpr (by omega)
  unfold bodyAt
  dsimp only [bodyK]
  rw [dif_neg h1, dif_pos h4, dif_pos h5]
  rw [show (midP m c t.val : sProp 𝕄) = iprop(wdP m c t.val ∗ maxP m c t.val ∗ bigSep Finset.univ (codeP m c t.val) ∗ flight c (codesG m c) 8 ((t.val - 288) * cN)) from by
    unfold midP; rw [show min t.val 8 = 8 by omega]]
  refine (show _ ⊢ iprop(((wdP m c t.val ∗ bigSep Finset.univ (codeP m c t.val)) ∗ owns (c : Thread nD τ) arg2 fullShare (scB m c t)
      ∗ owns (c : Thread nD τ) arg4 fullShare (vB m c t) ∗ owns (c : Thread nD τ) arg5 fullShare (aB m c t)
      ∗ owns (c : Thread nD τ) arg6 fullShare (bB m c t d) ∗ owns (c : Thread nD τ) arg7 fullShare (wsB m c t) ∗ (∃ y, owns (c : Thread nD τ) arg8 fullShare y))
      ∗ (maxP m c t.val ∗ flight c (codesG m c) 8 ((t.val - 288) * cN) ∗ owes (c : Thread nD τ) 0 Wt)) from by
    iintro ⟨⟨HW, HA, HE, HB⟩, HO, H⟩
    isplitl [HW HE H]
    · isplitl [HW HE]
      · isplitl [HW] <;> iassumption
      iexact H
    isplitl [HA]; · iexact HA
    isplitl [HB] <;> iassumption).trans ?_
  refine wpB_bind (wpB_frame (pointB_part m c t arg2 arg4 arg5 arg6 arg7 arg8 harg8 (by omega) h4 d)) fun _ => ?_
  refine (show _ ⊢ iprop((flight c (codesG m c) 8 ((t.val - 288) * cN) ∗ owes (c : Thread nD τ) 0 Wt)
      ∗ (((wdP m c (t.val + 1) ∗ bigSep Finset.univ (codeP m c (t.val + 1))) ∗ owns (c : Thread nD τ) arg2 fullShare (scB m c t)
        ∗ owns (c : Thread nD τ) arg4 fullShare (vB m c t) ∗ owns (c : Thread nD τ) arg5 fullShare (aB m c t)
        ∗ owns (c : Thread nD τ) arg6 fullShare (bB m c t d) ∗ owns (c : Thread nD τ) arg7 fullShare (wsB m c t) ∗ owns (c : Thread nD τ) arg8 fullShare (yB m c t))
        ∗ maxP m c t.val)) from by
    iintro ⟨H, HA, HB, HO⟩
    isplitl [HB HO]
    · isplitl [HB] <;> iassumption
    isplitl [H] <;> iassumption).trans ?_
  unfold lateP
  by_cases hl : t.val = 295
  · have T := bodyC_last (grid0.coords t) c h5 (hi1.trans (by omega)) (codesG m c) Wt
    rw [hi1] at T
    refine wpB_bind (wpB_frame T) fun _ => wpB_pure ?_
    rw [if_pos (by omega)]
    refine (show _ ⊢ _ from sep_mono_right (sep_mono_right (max_late m c t (by omega)))).trans ?_
    iintro ⟨⟨⟨HD, HS⟩, HO⟩, ⟨⟨HW, HE⟩, H⟩, HA⟩
    isplitl [HD HS HW HE HA]
    · iapply (leave m c (t.val + 1) (by omega))
      isplitl [HW]; · iexact HW
      isplitl [HA]; · iexact HA
      isplitl [HE]; · iexact HE
      isplitl [HD] <;> iassumption
    isplitl [HO]; · iexact HO
    iexact H
  · have T := bodyC_sound (grid0.coords t) c h5 (by rw [hi1]; omega) (codesG m c) Wt
    rw [hi1] at T
    refine wpB_bind (wpB_frame T) fun _ => wpB_pure ?_
    rw [if_neg (by omega)]
    unfold midP
    rw [show min (t.val + 1) 8 = 8 by omega, show t.val + 1 - 288 = t.val - 288 + 1 by omega]
    refine (show _ ⊢ _ from sep_mono_right (sep_mono_right (max_late m c t (by omega)))).trans ?_
    iintro ⟨⟨HB, HO⟩, ⟨⟨HW, HE⟩, H⟩, HA⟩
    isplitl [HB HW HE HA]
    · isplitl [HW]; · iexact HW
      isplitl [HA]; · iexact HA
      isplitl [HE] <;> iassumption
    isplitl [HO]; · iexact HO
    iexact H

end Points

end Cert.Kernel.Hand
end
-- ==== Proof.Run.lean ====
/-  The region as a whole: the proof data, the body's obligation at every point, and the run of the program. -/
module

public import proofs.«01_k».proof.Proof.Point
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (Pipeline.UD sig nD τ) ℕ

section Run
variable (m : (ℓ : Loc nD τ sig) → Buf (Elt F) ℓ)

/-- The state before point `k`. -/
def stateP (c : Dev nD) (k : ℕ) : sProp 𝕄 :=
  if k = 0 then Pipeline.ΦDRV osem0 spec0 ∅ {main_v34_1} (V m) (V m) c else lateP m c k

/-- The proof data: the arrays as the region finds them, what each window's buffer holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => scB m c t
    | ⟨1, _⟩ => xB m c t
    | ⟨2, _⟩ => vB m c t
    | ⟨3, _⟩ => aB m c t
    | ⟨4, _⟩ => bB m c t dflt0_4
    | ⟨5, _⟩ => wsB m c t
    | ⟨6, _⟩ => yB m c t
    | ⟨7, _⟩ => fun _ => amaxOut (runMax m c 8)
    | ⟨_ + 8, h⟩ => absurd h (Nat.not_lt.2 (Nat.le_add_left _ _))
  Φ k := stateP m c k.val
  q := Pipeline.shareOf spec0
  owed _ := 0

theorem A_eq (c : Dev nD) (w : Fin cfg0.W) : (dats m 0 c).A w = V m c (Pipeline.arrRef spec0 w) := by
  dsimp only [dats]

/-! ## What the body finds -/

theorem before0 (c : Dev nD) (t : Fin cfg0.N) (d) : (dats m 0 c).before 0 t d = scB m c t :=
  ((dats m 0 c).before_in_eq_fetched 0 rfl (fun _ => rfl) (fun _ _ _ => rfl) (fun t => rfl) t d).trans rfl
theorem before1 (c : Dev nD) (t : Fin cfg0.N) (d) : (dats m 0 c).before 1 t d = xB m c t :=
  ((dats m 0 c).before_in_eq_fetched 1 rfl (fun _ => rfl) (fun _ _ _ => rfl) (fun t => rfl) t d).trans rfl
theorem before2 (c : Dev nD) (t : Fin cfg0.N) (d) : (dats m 0 c).before 2 t d = vB m c t :=
  ((dats m 0 c).before_in_eq_fetched 2 rfl (fun _ => rfl) (fun _ _ _ => rfl) (fun t => rfl) t d).trans rfl
theorem before3 (c : Dev nD) (t : Fin cfg0.N) (d) : (dats m 0 c).before 3 t d = aB m c t := by
  refine ((dats m 0 c).before_fetched 3 t (fetch0_3 t) d).trans ?_
  exact fill0_3 t d dflt0_3 _
theorem before4 (c : Dev nD) (t : Fin cfg0.N) (d) : (dats m 0 c).before 4 t d = bB m c t d :=
  (dats m 0 c).before_fetched 4 t (fetch0_4 t) d
theorem before5 (c : Dev nD) (t : Fin cfg0.N) (d) : (dats m 0 c).before 5 t d = wsB m c t :=
  ((dats m 0 c).before_in_eq_fetched 5 rfl (fun _ => rfl) (fun _ _ _ => rfl) (fun t => rfl) t d).trans rfl

theorem idle6 : ∀ t : Fin cfg0.N, cfg0.idle 6 (cfg0.grid.coords t) = decide (t.val < 8) := by decide +kernel
theorem idle7 : ∀ t : Fin cfg0.N, cfg0.idle 7 (cfg0.grid.coords t) = !decide (t.val = 7) := by decide +kernel
theorem flush6 : ∀ t : Fin cfg0.N, t.val < 8 → (cfg0.win 6).flush t = false := by decide +kernel
theorem flush7 (t : Fin cfg0.N) : (cfg0.win 7).flush t = decide (t.val = 295) := by
  have hN : t.val < 296 := t.isLt
  have h := flush0_7 t
  by_cases h5 : t.val = 295
  · rw [h.mpr (by omega), decide_eq_true h5]
  · rw [decide_eq_false h5]
    exact Bool.eq_false_iff.mpr fun h' => h5 (by have := h.mp h'; omega)

theorem fresh7 (n : ℕ) (hn : n ≤ 295) : cfg0.fresh 7 n = decide (n ≤ 7) := by
  refine (cfg0.fresh_tab 7 (fun n => decide (n ≤ 7) || decide (296 ≤ n)) rfl (fun t => ?_) n (by show n ≤ 296; omega)).trans ?_
  · have hN : t.val < 296 := t.isLt
    rw [flush7, idle7]
    by_cases h5 : t.val = 295
    · rw [h5]; rfl
    · by_cases h7 : t.val = 7
      · rw [h7]; rfl
      · by_cases h : t.val < 7
        · rw [decide_eq_true (show t.val + 1 ≤ 7 by omega), decide_eq_false h7, decide_eq_true (show t.val ≤ 7 by omega)]; simp
        · rw [decide_eq_false (show ¬ t.val + 1 ≤ 7 by omega), decide_eq_false (show ¬ 296 ≤ t.val + 1 by omega), decide_eq_false h5,
            decide_eq_false (show ¬ t.val ≤ 7 by omega), decide_eq_false (show ¬ 296 ≤ t.val by omega)]; simp
  · show (decide (n ≤ 7) || decide (296 ≤ n)) = decide (n ≤ 7)
    rw [decide_eq_false (show ¬ 296 ≤ n by omega), Bool.or_false]

theorem after0 (c : Dev nD) (t : Fin cfg0.N) : (dats m 0 c).after (0 : Fin 8) t = scB m c t := by dsimp only [dats]
theorem after1 (c : Dev nD) (t : Fin cfg0.N) : (dats m 0 c).after (1 : Fin 8) t = xB m c t := by dsimp only [dats]
theorem after2 (c : Dev nD) (t : Fin cfg0.N) : (dats m 0 c).after (2 : Fin 8) t = vB m c t := by dsimp only [dats]
theorem after3 (c : Dev nD) (t : Fin cfg0.N) : (dats m 0 c).after (3 : Fin 8) t = aB m c t := by dsimp only [dats]
theorem after4 (c : Dev nD) (t : Fin cfg0.N) : (dats m 0 c).after (4 : Fin 8) t = bB m c t dflt0_4 := by dsimp only [dats]
theorem after5 (c : Dev nD) (t : Fin cfg0.N) : (dats m 0 c).after (5 : Fin 8) t = wsB m c t := by dsimp only [dats]
theorem after6 (c : Dev nD) (t : Fin cfg0.N) : (dats m 0 c).after (6 : Fin 8) t = yB m c t := by dsimp only [dats]
theorem after7 (c : Dev nD) (t : Fin cfg0.N) : (dats m 0 c).after (7 : Fin 8) t = fun _ => amaxOut (runMax m c 8) := by dsimp only [dats]

/-- After point 7 the maximum's buffer holds the maximum. -/
theorem before7_late (c : Dev nD) (t : Fin cfg0.N) (ht : 7 < t.val) (d) :
    (dats m 0 c).before 7 t d = fun _ => amaxOut (runMax m c 8) := by
  have hN : t.val < 296 := t.isLt
  refine ((dats m 0 c).before_out_traj 7 rfl (fun _ _ => rfl) (fun t _ _ _ => rfl) t.val t rfl d).trans ?_
  rw [fresh7 _ (by omega), decide_eq_false (by omega), if_neg Bool.false_ne_true]
  exact after7 m c _

/-! ## The obligation -/

theorem defs₀_row (t : Fin cfg0.N) :
    defs₀ (F := F) .tc cfg0.body (cfg0.bodyArgs t (cfg0.slots t)) = bodyAt0 t := by
  unfold defs₀; rw [Defs.onTc_tc]

/-- The result's window after a point: as found in the first grid row, its block after. -/
def post6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after (6 : Fin 8) t)
  | false => owns (c : Thread nD τ) (st0_6 t) fullShare ((dats m 0 c).after (6 : Fin 8) t)

/-- The maximum's window after a point. -/
def post7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after (7 : Fin 8) t)
  | false => owns (c : Thread nD τ) (st0_7 t) fullShare ((dats m 0 c).after (7 : Fin 8) t)

theorem post6_early (c : Dev nD) (t : Fin cfg0.N) (ht : t.val < 8) :
    (iprop(∃ d, owns (c : Thread nD τ) (st0_6 t) fullShare ((dats m 0 c).before 6 t d)) : sProp 𝕄) ⊢ post6 m c t := by
  unfold post6
  rw [idle6, decide_eq_true ht, flush6 t ht]
theorem post6_late (c : Dev nD) (t : Fin cfg0.N) (ht : 8 ≤ t.val) :
    (owns (c : Thread nD τ) (st0_6 t) fullShare (yB m c t) : sProp 𝕄) ⊢ post6 m c t := by
  unfold post6
  rw [idle6, decide_eq_false (by omega), after6]
theorem post7_of (c : Dev nD) (t : Fin cfg0.N) (d) :
    (owns (c : Thread nD τ) (st0_7 t) fullShare (maxAfter m c t ((dats m 0 c).before 7 t d)) : sProp 𝕄) ⊢ post7 m c t := by
  unfold post7 maxAfter
  rw [idle7, flush7, after7]
  by_cases h7 : t.val = 7
  · rw [decide_eq_true h7, if_pos h7]; exact .rfl
  · rw [decide_eq_false h7, if_neg h7]
    by_cases h5 : t.val = 295
    · rw [decide_eq_true h5, before7_late m c t (by omega)]; exact .rfl
    · rw [decide_eq_false h5]
      exact exR (fun d => owns (c : Thread nD τ) (st0_7 t) fullShare ((dats m 0 c).before 7 t d)) d

theorem post7_late (c : Dev nD) (t : Fin cfg0.N) (ht : 8 ≤ t.val) (d) :
    (owns (c : Thread nD τ) (st0_7 t) fullShare ((dats m 0 c).before 7 t d) : sProp 𝕄) ⊢ post7 m c t := by
  have h := post7_of m c t d
  unfold maxAfter at h
  rwa [if_neg (by omega)] at h

/-- What the body has at a point. -/
def bodyPre (c : Dev nD) (t : Fin cfg0.N) : sProp 𝕄 :=
  iprop(stateP m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it hands back. -/
def bodyPost (c : Dev nD) (t : Fin cfg0.N) : sProp 𝕄 :=
  iprop(stateP m c (t.val + 1) ∗ (dats m 0 c).owesAt () t.succ
    ∗ owns (c : Thread nD τ) (st0_0 t) fullShare ((dats m 0 c).after (0 : Fin 8) t)
    ∗ owns (c : Thread nD τ) (st0_1 t) fullShare ((dats m 0 c).after (1 : Fin 8) t)
    ∗ owns (c : Thread nD τ) (st0_2 t) fullShare ((dats m 0 c).after (2 : Fin 8) t)
    ∗ (∃ d, owns (c : Thread nD τ) (st0_3 t) fullShare ((cfg0.win 3).fill (cfg0.grid.coords t) d ((cfg0.win 3).cut (cfg0.grid.coords t) ((dats m 0 c).after (3 : Fin 8) t))))
    ∗ (∃ d, owns (c : Thread nD τ) (st0_4 t) fullShare ((cfg0.win 4).fill (cfg0.grid.coords t) d ((cfg0.win 4).cut (cfg0.grid.coords t) ((dats m 0 c).after (4 : Fin 8) t))))
    ∗ owns (c : Thread nD τ) (st0_5 t) fullShare ((dats m 0 c).after (5 : Fin 8) t)
    ∗ post6 m c t ∗ post7 m c t)

theorem put3 (c : Dev nD) (t : Fin cfg0.N) :
    (owns (c : Thread nD τ) (st0_3 t) fullShare (aB m c t) : sProp 𝕄)
      ⊢ iprop(∃ d, owns (c : Thread nD τ) (st0_3 t) fullShare ((cfg0.win 3).fill (cfg0.grid.coords t) d ((cfg0.win 3).cut (cfg0.grid.coords t) (aB m c t)))) := by
  have e : (cfg0.win 3).fill (cfg0.grid.coords t) dflt0_3 ((cfg0.win 3).cut (cfg0.grid.coords t) (aB m c t)) = aB m c t := by
    unfold aB X0_3; rw [Pipeline.Window.cut_fill]
  have h := exR (fun d => owns (Ix := Unit) (Name := ℕ) (U := Pipeline.UD sig nD τ) (Lvl := ℕ) (c : Thread nD τ) (st0_3 t) fullShare ((cfg0.win 3).fill (cfg0.grid.coords t) d ((cfg0.win 3).cut (cfg0.grid.coords t) (aB m c t)))) dflt0_3
  rw [e] at h
  exact h

theorem put4 (c : Dev nD) (t : Fin cfg0.N) (d) :
    (owns (c : Thread nD τ) (st0_4 t) fullShare (bB m c t d) : sProp 𝕄)
      ⊢ iprop(∃ d, owns (c : Thread nD τ) (st0_4 t) fullShare ((cfg0.win 4).fill (cfg0.grid.coords t) d ((cfg0.win 4).cut (cfg0.grid.coords t) (bB m c t dflt0_4)))) := by
  have e : (cfg0.win 4).fill (cfg0.grid.coords t) d ((cfg0.win 4).cut (cfg0.grid.coords t) (bB m c t dflt0_4)) = bB m c t d := by
    unfold bB; rw [Pipeline.Window.cut_fill]
  have h := exR (fun d => owns (Ix := Unit) (Name := ℕ) (U := Pipeline.UD sig nD τ) (Lvl := ℕ) (c : Thread nD τ) (st0_4 t) fullShare ((cfg0.win 4).fill (cfg0.grid.coords t) d ((cfg0.win 4).cut (cfg0.grid.coords t) (bB m c t dflt0_4)))) d
  rw [e] at h
  exact h

theorem bodyAt_eq (t : Fin cfg0.N) :
    bodyAt0 (F := F) t = bodyAt t (st0_0 t) (st0_1 t) (st0_2 t) (st0_3 t) (st0_4 t) (st0_5 t) (st0_6 t) (hstage0_6 ((cfg0.slots t 6).cast nbuf0_6)) (st0_7 t) :=
  body_eq ..

/-- The state at the first point, opened. -/
theorem state_open (c : Dev nD) (t : Fin cfg0.N) (ht : t.val < 288) : (stateP m c t.val : sProp 𝕄) ⊢ |={Set.univ}=> midP m c t.val := by
  unfold stateP lateP
  by_cases h0 : t.val = 0
  · rw [if_pos h0, h0]; exact enter m c
  · rw [if_neg h0, if_neg (by omega)]
    iintro H
    imodintro
    iexact H

theorem state_close (c : Dev nD) (t : Fin cfg0.N) (ht : t.val < 288) : (midP m c (t.val + 1) : sProp 𝕄) ⊢ stateP m c (t.val + 1) := by
  unfold stateP lateP
  rw [if_neg (by omega), if_neg (by omega)]

theorem state_late (c : Dev nD) (k : ℕ) (h0 : k ≠ 0) (h : k ≠ 296) : (stateP m c k : sProp 𝕄) ⊢ midP m c k := by
  unfold stateP lateP
  rw [if_neg h0, if_neg h]

theorem state_late' (c : Dev nD) (k : ℕ) (h0 : k ≠ 0) : (lateP m c k : sProp 𝕄) ⊢ stateP m c k := by
  unfold stateP
  rw [if_neg h0]

theorem sound_body (c : Dev nD) (t : Fin cfg0.N) : bodyPre m c t ⊢ wpB c (bodyAt0 (F := F) t) (fun _ => bodyPost m c t) := by
  rw [bodyAt_eq]
  unfold bodyPre bodyPost
  unfold Dat.owesAt Pipeline.owesWithin
  rw [show (dats m 0 c).owed t.castSucc = 0 from rfl, show (dats m 0 c).owed t.succ = 0 from rfl]
  simp only [before0, before1, before2, before3, before4, before5, after0, after1, after2, after3, after4, after5]
  by_cases ht8 : t.val < 8
  · iintro ⟨HP, ⟨%W, -, HO⟩, ⟨%d0, H0⟩, ⟨%d1, H1⟩, ⟨%d2, H2⟩, ⟨%d3, H3⟩, ⟨%d4, H4⟩, ⟨%d5, H5⟩, H6, ⟨%d7, H7⟩⟩
    iapply (fupd_wp _ _ _ _ _)
    imod (state_open m c t (by omega)) $$ HP with HP
    imodintro
    iapply (show _ ⊢ _ from (wpB_frame (R := iprop(owes (c : Thread nD τ) 0 W ∗ owns (c : Thread nD τ) (st0_5 t) fullShare (wsB m c t)
      ∗ (∃ d, owns (c : Thread nD τ) (st0_6 t) fullShare ((dats m 0 c).before 6 t d)))) (pointA m c t (st0_0 t) (st0_1 t) (st0_2 t) (st0_3 t) (st0_4 t) (st0_5 t) (st0_6 t)
      (hstage0_6 ((cfg0.slots t 6).cast nbuf0_6)) (st0_7 t) ht8 d4 ((dats m 0 c).before 7 t d7))).trans (wpB_mono .rfl fun _ => ?_))
    rotate_left
    · isplitl [HP H0 H1 H2 H3 H4 H7]
      · isplitl [HP]; · iexact HP
        isplitl [H0]; · iexact H0
        isplitl [H1]; · iexact H1
        isplitl [H2]; · iexact H2
        isplitl [H3]; · iexact H3
        isplitl [H4]; · iexact H4
        iexact H7
      isplitl [HO]; · iexact HO
      isplitl [H5]; · iexact H5
      iexact H6
    iintro ⟨⟨HP, H0, H1, H2, H3, H4, H7⟩, HO, H5, H6⟩
    isplitl [HP]; · iapply (state_close m c t (by omega)); iexact HP
    isplitl [HO]
    · iexists W; isplitr; · ipureintro; exact fun _ _ => Or.inl trivial
      iexact HO
    isplitl [H0]; · iexact H0
    isplitl [H1]; · iexact H1
    isplitl [H2]; · iexact H2
    isplitl [H3]; · iapply (put3 m c t); iexact H3
    isplitl [H4]; · iapply (put4 m c t d4); iexact H4
    isplitl [H5]; · iexact H5
    isplitl [H6]; · iapply (post6_early m c t ht8); iexact H6
    iapply (post7_of m c t d7); iexact H7
  by_cases ht : t.val < 288
  · iintro ⟨HP, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (fupd_wp _ _ _ _ _)
    imod (state_open m c t (by omega)) $$ HP with HP
    imodintro
    iapply (show _ ⊢ _ from (wpB_frame (R := iprop(owes (c : Thread nD τ) 0 W ∗ owns (c : Thread nD τ) (st0_1 t) fullShare (xB m c t)
      ∗ owns (c : Thread nD τ) (st0_7 t) fullShare ((dats m 0 c).before 7 t d7))) (pointB m c t (st0_0 t) (st0_1 t) (st0_2 t) (st0_3 t) (st0_4 t) (st0_5 t) (st0_6 t)
      (hstage0_6 ((cfg0.slots t 6).cast nbuf0_6)) (st0_7 t) (by omega) ht d4)).trans (wpB_mono .rfl fun _ => ?_))
    rotate_left
    · isplitl [HP H0 H2 H3 H4 H5 H6]
      · isplitl [HP]; · iexact HP
        isplitl [H0]; · iexact H0
        isplitl [H2]; · iexact H2
        isplitl [H3]; · iexact H3
        isplitl [H4]; · iexact H4
        isplitl [H5]; · iexact H5
        iexists _; iexact H6
      isplitl [HO]; · iexact HO
      isplitl [H1]; · iexact H1
      iexact H7
    iintro ⟨⟨HP, H0, H2, H3, H4, H5, H6⟩, HO, H1, H7⟩
    isplitl [HP]; · iapply (state_close m c t (by omega)); iexact HP
    isplitl [HO]
    · iexists W; isplitr; · ipureintro; exact fun _ _ => Or.inl trivial
      iexact HO
    isplitl [H0]; · iexact H0
    isplitl [H1]; · iexact H1
    isplitl [H2]; · iexact H2
    isplitl [H3]; · iapply (put3 m c t); iexact H3
    isplitl [H4]; · iapply (put4 m c t d4); iexact H4
    isplitl [H5]; · iexact H5
    isplitl [H6]; · iapply (post6_late m c t (by omega)); iexact H6
    iapply (post7_late m c t (by omega) d7); iexact H7
  · iintro ⟨HP, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
    iapply (show _ ⊢ _ from (wpB_frame (R := iprop(owns (c : Thread nD τ) (st0_1 t) fullShare (xB m c t)
      ∗ owns (c : Thread nD τ) (st0_7 t) fullShare ((dats m 0 c).before 7 t d7))) (pointC m c t (st0_0 t) (st0_1 t) (st0_2 t) (st0_3 t) (st0_4 t) (st0_5 t) (st0_6 t)
      (hstage0_6 ((cfg0.slots t 6).cast nbuf0_6)) (st0_7 t) (by omega) d4 W)).trans (wpB_mono .rfl fun _ => ?_))
    rotate_left
    · isplitl [HP HO H0 H2 H3 H4 H5 H6]
      · isplitl [HP]; · iapply (state_late m c t.val (by omega) (Nat.ne_of_lt t.isLt)); iexact HP
        isplitl [HO]; · iexact HO
        isplitl [H0]; · iexact H0
        isplitl [H2]; · iexact H2
        isplitl [H3]; · iexact H3
        isplitl [H4]; · iexact H4
        isplitl [H5]; · iexact H5
        iexists _; iexact H6
      isplitl [H1]; · iexact H1
      iexact H7
    iintro ⟨⟨HP, ⟨%W', HO⟩, H0, H2, H3, H4, H5, H6⟩, H1, H7⟩
    isplitl [HP]; · iapply (state_late' m c (t.val + 1) (by omega)); iexact HP
    isplitl [HO]
    · iexists W'; isplitr; · ipureintro; exact fun _ _ => Or.inl trivial
      iexact HO
    isplitl [H0]; · iexact H0
    isplitl [H1]; · iexact H1
    isplitl [H2]; · iexact H2
    isplitl [H3]; · iapply (put3 m c t); iexact H3
    isplitl [H4]; · iapply (put4 m c t d4); iexact H4
    isplitl [H5]; · iexact H5
    isplitl [H6]; · iapply (post6_late m c t (by omega)); iexact H6
    iapply (post7_late m c t (by omega) d7); iexact H7

theorem body_obligation (c : Dev nD) : BodyObligationLoose (dats m 0 c) (defs₀ (F := F)) Variants.none () Set.univ := fun t => by
  rw [bigSep_W0, bigSep_W0, defs₀_row]
  refine triple_restated (sound_body m c t) rfl .rfl fun _ => ?_
  unfold bodyPost post6 post7
  exact .rfl

end Run

section Launch
variable (m : (ℓ : Loc nD τ sig) → Buf (Elt F) ℓ) (ρ : Dev nD → PrngReg)

set_option maxHeartbeats 800000 in
theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- What every buffer of the rest holds when the program ends. -/
def endV (c : Dev nD) : Valuation τ sig (Elt F) :=
  StableHlo.after ([hostOps1 (F := F)]).flatten (Pipeline.withArrays spec0 c (Pipeline.withR (V0 m c) {main_v34_1} c (endG m c)) fun w => (dats m 0 c).arrAt w cfg0.N)

set_option backward.isDefEq.respectTransparency.types false in
theorem run_spec : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = endV m c (Proc.devRef .tc b))
    ∧ r.2.sem = (fun _ => 0)) := by
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  have hR : ({main_v34_1} : Finset (Ref sig .tc)) ⊆ Pipeline.restRefs sig spec0 \ ∅ := by decide
  exact (θ_run defs _ _).mono (fun r ⟨h, hz⟩ => ⟨fun c => ⟨(h c).1, fun b hb => (h c).2 b (hrest hb)⟩, hz⟩)
    (Pipeline.θ_run_frameP_dmaR_aroundV_shared (Q' := _) (hQ' := fun _ h => h) (fun q => (cfgs q).toPCfg (Val := Elt F)) (fun q => (cfgs q).toPCfg_adm)
      (dats m) 0 launch₀0.toP osem0 defs₀ Variants.none ownSemFacts0 ∅ {main_v34_1}
      ((Finset.empty_subset _).trans hrest) (hR.trans (Finset.sdiff_subset_sdiff hrest subset_rfl))
      m ρ main (body_obligation m) (fun c w _ => rfl) (fun c t => rfl) (V0 m) [hostOps1] sfx_sub sfx_fresh sfx_keeps (endG m) (hmainD m)
      (fun c w => A_eq m c w) (fun _ k => k.elim0)
      (fun c => (show _ ⊢ Pipeline.ΦDRV osem0 spec0 ∅ {main_v34_1} (V m) (V m) c from by iintro ⟨H, -⟩; iexact H).trans (.rfl))
      (fun c => .rfl))

end Launch

end Cert.Kernel.Hand
end
-- ==== Proof.Frame.lean ====
/-  The frame claim of the kernel, and what the run leaves in its results' buffers. -/
module

public import proofs.«01_k».proof.Proof.Run

@[expose] public section

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- What the region leaves, before the operations after it. -/
def midV (c : Dev nD) : Valuation τ sig (Elt F) :=
  Pipeline.withArrays spec0 c (Pipeline.withR (V0 m c) {main_v34_1} c (endG m c)) fun w => (dats m 0 c).arrAt w cfg0.N

theorem endV_eq (c : Dev nD) : endV m c = StableHlo.after (hostOps1 (F := F)) (midV m c) := by
  unfold endV midV
  simp only [List.flatten_cons, List.flatten_nil, List.append_nil]

/-- A buffer that no operation after the region writes, that no window stages and that is not the codes', ends as the region found it. -/
theorem endV_other (c : Dev nD) (b : Ref sig .tc) (h1 : ∀ w, Pipeline.arrRef spec0 w ≠ b) (h2 : b ∉ ({main_v34_1} : Finset (Ref sig .tc)))
    (h3 : b ≠ main_v35 ∧ b ≠ main_v36 ∧ b ≠ main_v37 ∧ b ≠ main_v38) : endV m c (Proc.devRef .tc b) = V m c b := by
  rw [endV_eq, StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      obtain ⟨h35, h36, h37, h38⟩ := h3
      repeat' apply And.intro
      all_goals first | exact StableHlo.devRef_ne_of_ne h35 | exact StableHlo.devRef_ne_of_ne h36 | exact StableHlo.devRef_ne_of_ne h37 | exact StableHlo.devRef_ne_of_ne h38))]
  unfold midV
  rw [Pipeline.withArrays_of_ne _ c _ _ b h1, Pipeline.withR_of_not_mem _ _ _ _ b h2]

/-- THE FRAME of the kernel: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ ⟨h, hz⟩ => ⟨fun c => ⟨
      ((h c).2 main_arg0 (Pipeline.mem_restRefs_of main_arg0 (by decide) (by decide))).trans ((endV_other m c main_arg0 (by decide) (by decide) (by decide)).trans (V_main_arg0 m c)),
      ((h c).2 main_arg1 (Pipeline.mem_restRefs_of main_arg1 (by decide) (by decide))).trans ((endV_other m c main_arg1 (by decide) (by decide) (by decide)).trans (V_main_arg1 m c)),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).2 main_arg4 (Pipeline.mem_restRefs_of main_arg4 (by decide) (by decide))).trans ((endV_other m c main_arg4 (by decide) (by decide) (by decide)).trans (V_main_arg4 m c))⟩, hz⟩)
    (run_spec m ρ)

end Cert.Kernel.Hand
end
-- ==== Proof.Transfer.lean ====
/-  The idealization is the kernel's own text: what is proved of the kernel for any float values is true of it. -/
module

public import proofs.«01_k».proof.Proof.Frame
public import proofs.«01_k».proof.Proof.Gen.KernelIdeal
public import Idealize.ShloMosaic.Lib.Tactic

@[expose] public section

set_option maxRecDepth 16384

noncomputable section

namespace Cert.Transfer

open Idealize.ShloMosaic Idealize.ShloMosaic.TcCoe Idealize.SL.Sem

variable {F : FTy → Type} [FloatOps F]

theorem defs_eq : Cert.KernelIdeal.defs (F := F) = Cert.Kernel.defs (F := F) := by sl_kernel_rfl
theorem main_eq (c : Dev Cert.KernelIdeal.nD) : Cert.KernelIdeal.main (F := F) c = Cert.Kernel.main (F := F) c := by sl_kernel_rfl

open Cert.KernelIdeal Cert.KernelIdeal.Gen in
/-- The frame of the idealization, stated. -/
def FrameI (F : FTy → Type) [FloatOps F] : Prop := ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

open Cert.Kernel Cert.Kernel.Gen in
/-- The frame of the kernel, stated. -/
def FrameK (F : FTy → Type) [FloatOps F] : Prop := ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_eq : FrameI F = FrameK F := by sl_kernel_rfl

/-- THE FRAME of the idealization. -/
theorem frame : FrameI F := frame_eq.mpr fun m ρ => Cert.Kernel.Hand.frame m ρ

end Cert.Transfer
end
-- ==== Proof.ValK.lean ====
/-  What the kernel's run leaves in its results, in terms of the arrays the region finds. -/
module

public import proofs.«01_k».proof.Proof.Frame
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## Where each window's block lies -/

theorem index0 : ∀ t : Fin cfg0.N, (cfg0.win 0).index t 0 = 0 := by decide +kernel
theorem index1 : ∀ t : Fin cfg0.N, (cfg0.win 1).index t 0 = (if t.val < 8 then t.val else 7) ∧ (cfg0.win 1).index t 1 = 0 := by decide +kernel
theorem index2 : ∀ t : Fin cfg0.N, (cfg0.win 2).index t 0 = (if t.val < 288 then t.val else t.val - 8) ∧ (cfg0.win 2).index t 1 = 0 := by decide +kernel
theorem index3 : ∀ t : Fin cfg0.N, (cfg0.win 3).index t 0 = (if t.val < 288 then t.val else t.val - 8) ∧ (cfg0.win 3).index t 1 = 0 := by decide +kernel
theorem index4 : ∀ t : Fin cfg0.N, (cfg0.win 4).index t 0 = (if t.val < 288 then t.val else t.val - 8) ∧ (cfg0.win 4).index t 1 = 1 := by decide +kernel
theorem index5 : ∀ t : Fin cfg0.N, (cfg0.win 5).index t 0 = 0 ∧ (cfg0.win 5).index t 1 = t.val / 8 - 1 := by decide +kernel
theorem index6 : ∀ t : Fin cfg0.N, (cfg0.win 6).index t 0 = (if t.val < 8 then 0 else t.val % 8) ∧ (cfg0.win 6).index t 1 = t.val / 8 - 1 := by decide +kernel
theorem index7 : ∀ t : Fin cfg0.N, (cfg0.win 7).index t 0 = 0 := by decide +kernel

theorem scB_apply (t : Fin cfg0.N) (y : S2.Idx) : scB m c t y = V m c main_v31 y := by
  show V m c main_v31 (((cfg0.win 0).rect t).emb y) = _
  refine congrArg _ (funext fun a => Fin.ext ?_)
  fin_cases a
  exact ((cfg0.win 0).rect_emb_val_of_index_zero t 0 (index0 t) y)

theorem xB_apply (t : Fin cfg0.N) (ht : t.val < 8) (y : S512x7168.Idx) :
    xB m c t y = V m c main_v32 (ix2 (⟨512 * t.val + (y 0).val, by have : (y 0).val < 512 := (y 0).isLt; omega⟩ : Fin 4096) (y 1)) := by
  show V m c main_v32 (((cfg0.win 1).rect t).emb y) = _
  refine congrArg _ (funext fun a => Fin.ext ?_)
  fin_cases a
  · refine ((cfg0.win 1).rect_emb_val t y 0).trans ?_
    rw [(index1 t).1, if_pos ht]
    show t.val * 512 + (y 0).val = 512 * t.val + (y 0).val
    omega
  · exact ((cfg0.win 1).rect_emb_val_of_index_zero t 1 (index1 t).2 y)

theorem vB_apply (t : Fin cfg0.N) (ht : t.val < 288) (y : S64x3584.Idx) :
    vB m c t y = V m c main_arg2 (ix2 (⟨64 * t.val + (y 0).val, by have : (y 0).val < 64 := (y 0).isLt; omega⟩ : Fin 18432) (y 1)) := by
  show V m c main_arg2 (((cfg0.win 2).rect t).emb y) = _
  refine congrArg _ (funext fun a => Fin.ext ?_)
  fin_cases a
  · refine ((cfg0.win 2).rect_emb_val t y 0).trans ?_
    rw [(index2 t).1, if_pos ht]
    show t.val * 64 + (y 0).val = 64 * t.val + (y 0).val
    omega
  · exact ((cfg0.win 2).rect_emb_val_of_index_zero t 1 (index2 t).2 y)

theorem xsize0_3 : ∀ t : Fin cfg0.N, (cfg0.win 3).xsize (cfg0.grid.coords t) 0 = 64 ∧ (cfg0.win 3).xsize (cfg0.grid.coords t) 1 = 128 := by
  decide +kernel

theorem aB_apply (t : Fin cfg0.N) (ht : t.val < 288) (y : S64x128.Idx) :
    aB m c t y = V m c main_arg3 (ix2 (⟨64 * t.val + (y 0).val, by have : (y 0).val < 64 := (y 0).isLt; omega⟩ : Fin 18432)
      (⟨(y 1).val, by have : (y 1).val < 128 := (y 1).isLt; omega⟩ : Fin 224)) := by
  have hm : (cfg0.win 3).moved (cfg0.grid.coords t) y = true :=
    ((cfg0.win 3).moved_iff _ y).mpr fun a => by
      have h0 : (y 0).val < 64 := (y 0).isLt
      have h1 : (y 1).val < 128 := (y 1).isLt
      have hx := xsize0_3 t
      match a with
      | ⟨0, _⟩ => exact lt_of_lt_of_eq h0 hx.1.symm
      | ⟨1, _⟩ => exact lt_of_lt_of_eq h1 hx.2.symm
      | ⟨_ + 2, h⟩ => exact absurd h (Nat.not_lt.2 (Nat.le_add_left _ _))
  unfold aB X0_3 Pipeline.Window.fill
  rw [dif_pos hm]
  show V m c main_arg3 (((cfg0.win 3).rect t).emb _) = _
  refine congrArg _ (funext fun a => Fin.ext ?_)
  fin_cases a
  · refine ((cfg0.win 3).rect_emb_val t _ 0).trans ?_
    rw [(index3 t).1, if_pos ht]
    show t.val * 64 + (y 0).val = 64 * t.val + (y 0).val
    omega
  · exact ((cfg0.win 3).rect_emb_val_of_index_zero t 1 (index3 t).2 _)

theorem bB_apply (t : Fin cfg0.N) (ht : t.val < 288) (d) (y : S64x128.Idx) (hy : (y 1).val < 96) :
    bB m c t d y = V m c main_arg3 (ix2 (⟨64 * t.val + (y 0).val, by have : (y 0).val < 64 := (y 0).isLt; omega⟩ : Fin 18432)
      (⟨128 + (y 1).val, by omega⟩ : Fin 224)) := by
  have hm : (cfg0.win 4).moved (cfg0.grid.coords t) y = true :=
    ((cfg0.win 4).moved_iff _ y).mpr fun a => by
      have h0 : (y 0).val < 64 := (y 0).isLt
      have hx := xsize0_4 t
      match a with
      | ⟨0, _⟩ => exact lt_of_lt_of_eq h0 hx.1.symm
      | ⟨1, _⟩ => exact lt_of_lt_of_eq hy hx.2.symm
      | ⟨_ + 2, h⟩ => exact absurd h (Nat.not_lt.2 (Nat.le_add_left _ _))
  unfold bB Pipeline.Window.fill
  rw [dif_pos hm]
  show V m c main_arg3 (((cfg0.win 4).rect t).emb _) = _
  refine congrArg _ (funext fun a => Fin.ext ?_)
  fin_cases a
  · refine ((cfg0.win 4).rect_emb_val t _ 0).trans ?_
    rw [(index4 t).1, if_pos ht]
    show t.val * 64 + (y 0).val = 64 * t.val + (y 0).val
    omega
  · refine ((cfg0.win 4).rect_emb_val t _ 1).trans ?_
    rw [(index4 t).2]
    show 1 * 128 + (y 1).val = 128 + (y 1).val
    omega

theorem wsB_apply (t : Fin cfg0.N) (y : S1x512.Idx) :
    wsB m c t y = V m c main_v33 (ix2 (0 : Fin 1) (⟨512 * (t.val / 8 - 1) + (y 1).val, by have : (y 1).val < 512 := (y 1).isLt; have : t.val < 296 := t.isLt; omega⟩ : Fin 18432)) := by
  show V m c main_v33 (((cfg0.win 5).rect t).emb y) = _
  refine congrArg _ (funext fun a => Fin.ext ?_)
  fin_cases a
  · have h0 : (y 0).val < 1 := (y 0).isLt
    refine ((cfg0.win 5).rect_emb_val_of_index_zero t 0 (index5 t).1 y).trans ?_
    show (y 0).val = 0
    omega
  · refine ((cfg0.win 5).rect_emb_val t y 1).trans ?_
    rw [(index5 t).2]
    show (t.val / 8 - 1) * 512 + (y 1).val = 512 * (t.val / 8 - 1) + (y 1).val
    omega

/-! ## The arrays the windows leave -/

/-- The result before it is given its three axes. -/
def yG : S4096x18432.Idx → Elt F .bf16 := fun y =>
  yB m c (pt (8 * ((y 1).val / 512 + 1) + (y 0).val / 512)) (ix2 (⟨(y 0).val % 512, Nat.mod_lt _ (by decide)⟩ : Fin 512) (⟨(y 1).val % 512, Nat.mod_lt _ (by decide)⟩ : Fin 512))

theorem emb6 (t : Fin cfg0.N) (ht : 8 ≤ t.val) (y : S512x512.Idx) :
    ((((cfg0.win 6).rect t).emb y 0 : ℕ) = 512 * (t.val % 8) + (y 0).val) ∧ (((cfg0.win 6).rect t).emb y 1 : ℕ) = 512 * (t.val / 8 - 1) + (y 1).val := by
  constructor
  · refine ((cfg0.win 6).rect_emb_val t y 0).trans ?_
    rw [(index6 t).1, if_neg (by omega)]
    show t.val % 8 * 512 + (y 0).val = _
    omega
  · refine ((cfg0.win 6).rect_emb_val t y 1).trans ?_
    rw [(index6 t).2]
    show (t.val / 8 - 1) * 512 + (y 1).val = _
    omega

theorem flush6_le (t : Fin cfg0.N) (hf : (cfg0.win 6).flush t = true) : 8 ≤ t.val := by
  by_contra h
  rw [flush6 t (by omega)] at hf
  exact Bool.false_ne_true hf

theorem flush6_late : ∀ t : Fin cfg0.N, 8 ≤ t.val → (cfg0.win 6).flush t = true := by decide +kernel

theorem mem_of_emb (w : Fin cfg0.W) (t : Fin cfg0.N) (y) (i) (e : ((cfg0.win w).blk t).view.emb y = i) : i ∈ ((cfg0.win w).blk t).view.set := by
  rw [← e]
  exact ((cfg0.win w).blk t).view.emb_mem_set y

theorem arr6 : (dats m 0 c).arrAt 6 cfg0.N = yG m c := by
  refine (dats m 0 c).arrAt_eq_of_cover 6 (yG m c) (fun t hf => ?_) (fun i => ?_)
  · have ht := flush6_le t hf
    have hN : t.val < 296 := t.isLt
    show (dats m 0 c).after (6 : Fin 8) t = _
    rw [after6]
    funext y
    have h0 : (y 0).val < 512 := (y 0).isLt
    have h1 : (y 1).val < 512 := (y 1).isLt
    obtain ⟨e0, e1⟩ := emb6 t ht y
    show yB m c t y = yG m c (((cfg0.win 6).rect t).emb y)
    unfold yG
    have et : pt (8 * ((((cfg0.win 6).rect t).emb y 1 : ℕ) / 512 + 1) + (((cfg0.win 6).rect t).emb y 0 : ℕ) / 512) = t := by
      rw [e0, e1, show 8 * ((512 * (t.val / 8 - 1) + (y 1).val) / 512 + 1) + (512 * (t.val % 8) + (y 0).val) / 512 = t.val by omega]
      exact pt_val t
    refine (congrArg (yB m c t) ?_).trans (congrFun (congrArg (yB m c) et.symm) _)
    refine funext fun a => Fin.ext ?_
    fin_cases a
    · show (y 0).val = (((cfg0.win 6).rect t).emb y 0 : ℕ) % 512
      omega
    · show (y 1).val = (((cfg0.win 6).rect t).emb y 1 : ℕ) % 512
      omega
  · have hi0 : (i 0).val < 4096 := (i 0).isLt
    have hi1 : (i 1).val < 18432 := (i 1).isLt
    obtain ⟨T, hT⟩ : ∃ T : Fin cfg0.N, T.val = 8 * ((i 1).val / 512 + 1) + (i 0).val / 512 :=
      ⟨⟨8 * ((i 1).val / 512 + 1) + (i 0).val / 512, by show _ < 296; omega⟩, rfl⟩
    have h8 : 8 ≤ T.val := by omega
    refine ⟨T, flush6_late T h8, ?_⟩
    obtain ⟨Y, hY0, hY1⟩ : ∃ Y : S512x512.Idx, (Y 0).val = (i 0).val % 512 ∧ (Y 1).val = (i 1).val % 512 :=
      ⟨ix2 (⟨(i 0).val % 512, Nat.mod_lt _ (by decide)⟩ : Fin 512) (⟨(i 1).val % 512, Nat.mod_lt _ (by decide)⟩ : Fin 512), rfl, rfl⟩
    obtain ⟨e0, e1⟩ := emb6 T h8 Y
    have e : ((cfg0.win 6).rect T).emb Y = i := by
      refine funext fun a => Fin.ext ?_
      fin_cases a
      · refine e0.trans ?_
        show 512 * (T.val % 8) + (Y 0).val = (i 0).val
        omega
      · refine e1.trans ?_
        show 512 * (T.val / 8 - 1) + (Y 1).val = (i 1).val
        omega
    exact Eq.subst (motive := fun z => z ∈ ((cfg0.win 6).blk T).view.set) (show ((cfg0.win 6).blk T).view.emb Y = i from e)
      (((cfg0.win 6).blk T).view.emb_mem_set Y)

/-- The largest absolute value, as the one-word result. -/
def amaxG : S1.Idx → Elt F .f32 := fun _ => amaxOut (runMax m c 8)

theorem emb7 (t : Fin cfg0.N) (y : S1.Idx) : ((cfg0.win 7).rect t).emb y = y := by
  refine funext fun a => Fin.ext ?_
  fin_cases a
  exact (cfg0.win 7).rect_emb_val_of_index_zero t 0 (index7 t) y

theorem read7 (z : S1.Idx → Elt F .f32) (t : Fin cfg0.N) : (fun y => z (((cfg0.win 7).rect t).emb y)) = z := funext fun y => congrArg z (emb7 t y)

theorem arr7_of (z : S1.Idx → Elt F .f32) (hz : ∀ t, (dats m 0 c).after (7 : Fin 8) t = z) : (dats m 0 c).arrAt 7 cfg0.N = z := by
  refine (dats m 0 c).arrAt_eq_of_cover 7 z (fun t hf => ?_) (fun i => ?_)
  · exact (hz t).trans (read7 z t).symm
  · obtain ⟨T, hT⟩ : ∃ T : Fin cfg0.N, T.val = 295 := ⟨⟨295, by decide⟩, rfl⟩
    refine ⟨T, by rw [flush7, hT]; rfl, ?_⟩
    exact Eq.subst (motive := fun z => z ∈ ((cfg0.win 7).blk T).view.set) (show ((cfg0.win 7).blk T).view.emb i = i from emb7 T i)
      (((cfg0.win 7).blk T).view.emb_mem_set i)

theorem arr7 : (dats m 0 c).arrAt 7 cfg0.N = amaxG m c := arr7_of m c _ (after7 m c)

/-! ## The results -/

theorem mid_arr (w : Fin 8) : midV m c (Proc.devRef .tc (Pipeline.arrRef spec0 w)) = (dats m 0 c).arrAt w cfg0.N :=
  (dats m 0 c).withArrays_arrAt (cfg := cfg0) sharedIn0 (Pipeline.withR (V0 m c) {main_v34_1} c (endG m c))
    (fun w => (A_eq m c w).trans (Pipeline.withR_of_not_mem (V0 m c) {main_v34_1} c (endG m c) (Pipeline.arrRef spec0 w)
      ((by decide : ∀ w : Fin 8, Pipeline.arrRef spec0 w ∉ ({main_v34_1} : Finset (Ref sig .tc))) w)).symm) w

theorem mid_y : midV m c (Proc.devRef .tc main_v34_0) = yG m c := (mid_arr m c 6).trans (arr6 m c)

theorem mid_amax : midV m c (Proc.devRef .tc main_v34_2) = amaxG m c := (mid_arr m c 7).trans (arr7 m c)

theorem mid_codes : midV m c (Proc.devRef .tc main_v34_1) = codesG m c := by
  unfold midV
  rw [Pipeline.withArrays_of_ne spec0 c _ _ main_v34_1 (by decide),
    Pipeline.withR_of_mem _ _ _ _ main_v34_1 (Finset.mem_singleton_self _)]
  exact endG_codes m c

theorem mid_hist : midV m c (Proc.devRef .tc main_arg1) = m ((c.tc : Thread nD τ).loc main_arg1) := by
  unfold midV
  rw [Pipeline.withArrays_of_ne spec0 c _ _ main_arg1 (by decide),
    Pipeline.withR_of_not_mem _ _ _ _ main_arg1 (by decide)]
  exact V_main_arg1 m c

theorem end_y : endV m c (Proc.devRef .tc main_v37) = shapeCast S4x1024x18432 (yG m c) shapeCasts_S4096x18432_S4x1024x18432 := by
  rw [endV_eq, ← mid_y m c]
  generalize midV m c = W
  after_results
  rfl

theorem end_codes : endV m c (Proc.devRef .tc main_v38) = shapeCast S4x1024x7168 (codesG m c) shapeCasts_S4096x7168_S4x1024x7168 := by
  rw [endV_eq, ← mid_codes m c]
  generalize midV m c = W
  after_results
  rfl

theorem end_hist : endV m c (Proc.devRef .tc main_v36) = concatenate S16 0 [⟨S1, amaxG m c⟩,
    ⟨S15, extractStridedSlice S15 ![0] (m ((c.tc : Thread nD τ).loc main_arg1)) slices_S16_S15_0⟩] concatenates_S1_S15_S16_d0 := by
  rw [endV_eq]
  have e1 := mid_amax m c
  have e2 := mid_hist m c
  generalize midV m c = W at e1 e2 ⊢
  rw [← e2]
  generalize amaxG m c = z at e1 ⊢
  rw [← e1]
  after_results

theorem end_scale : endV m c (Proc.devRef .tc main_v24) = V m c main_v24 :=
  endV_other m c main_v24 (by decide) (by decide) (by decide)

end Cert.Kernel.Hand
end
-- ==== Proof.Bits.lean ====
/-  One byte of the unpacked weight, on bit vectors. -/
module

public import Idealize.ShloMosaic.Lib.BitcastFour

@[expose] public section

namespace Cert.Bits

open Idealize.ShloMosaic

/-- The two-bit number of two bits. -/
def two (b0 b1 : Bool) : BitVec 32 := BitVec.ofNat 32 (b0.toNat + 2 * b1.toNat)

/-- What a column holds: `sh` is where its group's nibble starts, `slot` the column's place in its group. -/
def pick (word : BitVec 32) (sh slot : ℕ) (v0 v1 : BitVec 8) : BitVec 8 :=
  if two (word.getLsbD sh) (word.getLsbD (sh + 1)) = BitVec.ofNat 32 slot then v0
  else if two (word.getLsbD (sh + 2)) (word.getLsbD (sh + 3)) = BitVec.ofNat 32 slot then v1 else 0#8

/-- The byte `i` of a word. -/
abbrev byte (w : BitVec 32) (i : Fin 4) : BitVec 8 := w.extractLsb' (8 * i.val) 8

theorem three_bit : ∀ q : Fin 32, (3#32).getLsbD q.val = decide (q.val < 2) := by decide
theorem fifteen_bit : ∀ q : Fin 32, (15#32).getLsbD q.val = decide (q.val < 4) := by decide
theorem ones_bit : ∀ q : Fin 32, (16843009#32).getLsbD q.val = decide (q.val % 8 = 0) := by decide
theorem two_bit : ∀ (b0 b1 : Bool) (q : Fin 32), (two b0 b1).getLsbD q.val = if q.val = 0 then b0 else if q.val = 1 then b1 else false := by decide

theorem shr_two (x sh : BitVec 32) (h : sh.toNat ≤ 30) : x.sshiftRight' sh &&& 3#32 = two (x.getLsbD sh.toNat) (x.getLsbD (sh.toNat + 1)) := by
  apply BitVec.eq_of_getLsbD_eq
  intro q hq
  rw [BitVec.getLsbD_and, three_bit ⟨q, hq⟩, two_bit _ _ ⟨q, hq⟩]
  dsimp only
  by_cases h0 : q = 0
  · subst h0
    simp [BitVec.getElem_sshiftRight, show sh.toNat < 32 by omega]
  · by_cases h1 : q = 1
    · subst h1
      simp [BitVec.getElem_sshiftRight, show sh.toNat + 1 < 32 by omega]
    · simp [h0, h1, show ¬ q < 2 by omega]

/-- The word with one bit per byte. -/
def fourBits (b : Fin 4 → Bool) : BitVec 32 := BitVec.ofNat 32 ((b 0).toNat + 256 * (b 1).toNat + 65536 * (b 2).toNat + 16777216 * (b 3).toNat)

theorem fourBits_bit : ∀ (b0 b1 b2 b3 : Bool) (q : Fin 32), (fourBits ![b0, b1, b2, b3]).getLsbD q.val
    = (decide (q.val % 8 = 0) && (![b0, b1, b2, b3] : Fin 4 → Bool) ⟨q.val / 8, by have := q.isLt; omega⟩) := by decide +kernel

theorem mask_four : ∀ (b0 b1 b2 b3 : Bool) (i : Fin 4), byte ((fourBits ![b0, b1, b2, b3] <<< 8) - fourBits ![b0, b1, b2, b3]) i
    = if (![b0, b1, b2, b3] : Fin 4 → Bool) i then 255#8 else 0#8 := by decide +kernel

theorem ones_and (z : BitVec 32) : z &&& 16843009#32 = fourBits ![z.getLsbD 0, z.getLsbD 8, z.getLsbD 16, z.getLsbD 24] := by
  apply BitVec.eq_of_getLsbD_eq
  intro q hq
  rw [BitVec.getLsbD_and, ones_bit ⟨q, hq⟩, fourBits_bit _ _ _ _ ⟨q, hq⟩]
  dsimp only
  by_cases h : q % 8 = 0
  · have hc : q = 0 ∨ q = 8 ∨ q = 16 ∨ q = 24 := by omega
    rcases hc with h | h | h | h <;> subst h <;> simp
  · simp [h]

/-- Each byte's low bit, spread over the byte. -/
theorem mask_byte (z : BitVec 32) (i : Fin 4) :
    byte (((z &&& 16843009#32) <<< 8) - (z &&& 16843009#32)) i = if z.getLsbD (8 * i.val) then 255#8 else 0#8 := by
  rw [ones_and, mask_four]
  fin_cases i <;> rfl

theorem byte_xor (x y : BitVec 32) (i : Fin 4) : byte (x ^^^ y) i = byte x i ^^^ byte y i := by
  apply BitVec.eq_of_getLsbD_eq; intro q hq
  simp [byte, hq]
theorem byte_and (x y : BitVec 32) (i : Fin 4) : byte (x &&& y) i = byte x i &&& byte y i := by
  apply BitVec.eq_of_getLsbD_eq; intro q hq
  simp [byte, hq]
theorem byte_ones : ∀ i : Fin 4, byte 4294967295#32 i = 255#8 := by decide

/-- One plane, on one word. -/
def planeS (nib sx v0 v1 : BitVec 32) : BitVec 32 :=
  let y := nib ^^^ sx
  let nz := y ||| (y >>> 1)
  let n0 := nz &&& 16843009#32
  let n1 := (nz >>> 2) &&& 16843009#32
  let k0 := (n0 <<< 8) - n0
  let k1 := (n1 <<< 8) - n1
  v0 ^^^ ((v0 ^^^ (v1 &&& (k1 ^^^ 4294967295#32))) &&& k0)

theorem xor_xor_self (a b : BitVec 8) : a ^^^ (a ^^^ b) = b := by
  rw [← BitVec.xor_assoc, BitVec.xor_self, BitVec.zero_xor]

theorem and_255 (a : BitVec 8) : a &&& 255#8 = a := BitVec.and_allOnes

theorem planeS_byte (nib sx v0 v1 : BitVec 32) (i : Fin 4) :
    byte (planeS nib sx v0 v1) i =
      if (nib ^^^ sx).getLsbD (8 * i.val) || (nib ^^^ sx).getLsbD (8 * i.val + 1) then
        (if (nib ^^^ sx).getLsbD (8 * i.val + 2) || (nib ^^^ sx).getLsbD (8 * i.val + 3) then 0#8 else byte v1 i)
      else byte v0 i := by
  unfold planeS
  dsimp only
  generalize hy : nib ^^^ sx = y
  rw [byte_xor, byte_and, byte_xor, byte_and, byte_xor, mask_byte, mask_byte, byte_ones]
  have e0 : (y ||| y >>> 1).getLsbD (8 * i.val) = (y.getLsbD (8 * i.val) || y.getLsbD (8 * i.val + 1)) := by
    rw [BitVec.getLsbD_or, BitVec.getLsbD_ushiftRight, Nat.add_comm 1]
  have e1 : ((y ||| y >>> 1) >>> 2).getLsbD (8 * i.val) = (y.getLsbD (8 * i.val + 2) || y.getLsbD (8 * i.val + 3)) := by
    rw [BitVec.getLsbD_ushiftRight, BitVec.getLsbD_or, BitVec.getLsbD_ushiftRight, Nat.add_comm 2, show 1 + (8 * i.val + 2) = 8 * i.val + 3 by omega]
  rw [e0, e1]
  cases (y.getLsbD (8 * i.val) || y.getLsbD (8 * i.val + 1)) <;> cases (y.getLsbD (8 * i.val + 2) || y.getLsbD (8 * i.val + 3))
  · simp
  · simp
  · simp only [if_true, Bool.false_eq_true, if_false]
    rw [show (0#8 ^^^ 255#8 : BitVec 8) = 255#8 from rfl, and_255, and_255, xor_xor_self]
  · simp only [if_true]
    rw [show (255#8 ^^^ 255#8 : BitVec 8) = 0#8 from rfl, and_255, BitVec.and_zero, xor_xor_self]

/-- Four nibbles, one per byte. -/
def nibsS (n : Fin 4 → BitVec 32) : BitVec 32 := ((n 0 ||| (n 1 <<< 8)) ||| (n 2 <<< 16)) ||| (n 3 <<< 24)

theorem nib_bit (w sh : BitVec 32) (q : ℕ) : ((w >>> sh) &&& 15#32).getLsbD q = (decide (q < 4) && w.getLsbD (sh.toNat + q)) := by
  by_cases hq : q < 32
  · rw [BitVec.getLsbD_and, fifteen_bit ⟨q, hq⟩, BitVec.ushiftRight_eq', BitVec.getLsbD_ushiftRight, Bool.and_comm]
  · rw [BitVec.getLsbD_of_ge _ q (by omega)]
    simp [show ¬ q < 4 by omega]

theorem nibsS_bit (w : Fin 4 → BitVec 32) (sh : BitVec 32) (i : Fin 4) (b : ℕ) (hb : b < 4) :
    (nibsS fun j => (w j >>> sh) &&& 15#32).getLsbD (8 * i.val + b) = (w i).getLsbD (sh.toNat + b) := by
  unfold nibsS
  simp only [BitVec.getLsbD_or, BitVec.getLsbD_shiftLeft, nib_bit]
  fin_cases i
  · simp [hb, show b < 8 by omega, show b < 16 by omega, show b < 24 by omega]
  · simp [hb, show ¬ 8 + b < 4 by omega, show 8 + b < 32 by omega, show 8 + b < 16 by omega, show 8 + b < 24 by omega]
  · simp [hb, show ¬ 16 + b < 4 by omega, show ¬ 16 + b < 8 by omega, show 16 + b < 32 by omega, show ¬ 16 + b - 8 < 4 by omega, show 16 + b < 24 by omega]
  · simp [hb, show ¬ 24 + b < 4 by omega, show ¬ 24 + b < 8 by omega, show 24 + b < 32 by omega, show ¬ 24 + b - 8 < 4 by omega, show ¬ 24 + b - 16 < 4 by omega]

/-- The constant a nibble is compared with: the slot twice, in every byte. -/
def slotX (slot : Fin 4) : BitVec 32 := BitVec.ofNat 32 (84215045 * slot.val)

theorem slotX_bit : ∀ (slot i : Fin 4), (slotX slot).getLsbD (8 * i.val) = slot.val.testBit 0 ∧ (slotX slot).getLsbD (8 * i.val + 1) = slot.val.testBit 1
    ∧ (slotX slot).getLsbD (8 * i.val + 2) = slot.val.testBit 0 ∧ (slotX slot).getLsbD (8 * i.val + 3) = slot.val.testBit 1 := by decide

theorem two_eq : ∀ (slot : Fin 4) (b0 b1 : Bool), (two b0 b1 = BitVec.ofNat 32 slot.val)
    ↔ ¬ (((b0 ^^ slot.val.testBit 0) || (b1 ^^ slot.val.testBit 1)) = true) := by decide

theorem unpack_byte (w : Fin 4 → BitVec 32) (sh : BitVec 32) (slot i : Fin 4) (v0 v1 : BitVec 32) :
    byte (planeS (nibsS fun j => (w j >>> sh) &&& 15#32) (slotX slot) v0 v1) i
      = pick (w i) sh.toNat slot.val (byte v0 i) (byte v1 i) := by
  rw [planeS_byte]
  obtain ⟨s0, s1, s2, s3⟩ := slotX_bit slot i
  simp only [BitVec.getLsbD_xor, s0, s1, s2, s3]
  rw [show 8 * i.val = 8 * i.val + 0 from rfl, nibsS_bit w sh i 0 (by decide)]
  simp only [Nat.add_zero]
  rw [nibsS_bit w sh i 1 (by decide), nibsS_bit w sh i 2 (by decide), nibsS_bit w sh i 3 (by decide)]
  unfold pick
  simp only [two_eq]
  generalize ((w i).getLsbD sh.toNat ^^ slot.val.testBit 0 || (w i).getLsbD (sh.toNat + 1) ^^ slot.val.testBit 1) = c0
  generalize ((w i).getLsbD (sh.toNat + 2) ^^ slot.val.testBit 0 || (w i).getLsbD (sh.toNat + 3) ^^ slot.val.testBit 1) = c1
  cases c0 <;> cases c1 <;> simp

end Cert.Bits
end
-- ==== Proof.Byte.lean ====
/-  The unpacked weight: each element is one byte, picked by its group's two slot numbers. -/
module

public import proofs.«01_k».proof.Proof.Tile
public import proofs.«01_k».proof.Proof.Bits
public import Idealize.ShloMosaic.Lib.Pipeline.Value

@[expose] public section

set_option maxRecDepth 16384

noncomputable section

namespace Cert.Kernel.Hand

open Cert.Kernel Cert.Kernel.Gen Cert.Bits
open Idealize.ShloMosaic Idealize.ShloMosaic.TcCoe

variable {F : FTy → Type} [FloatOps F]

/-! ## Words and their bytes -/

theorem bytes_of_word (W : IVec S8x128 32) (r : Fin 32) (l : Fin 128) :
    bitcast S32x128 8 W bitcasts_S8x128_w32_S32x128_w8 (ix2 r l)
      = byte (W (ix2 (⟨r.val / 4, by have := r.isLt; omega⟩ : Fin 8) l)) ⟨r.val % 4, Nat.mod_lt _ (by decide)⟩ := by
  have hr := r.isLt
  apply BitVec.eq_of_getLsbD_eq
  intro q hq
  rw [bitcast_getLsbD W bitcasts_S8x128_w32_S32x128_w8 (ix2 r l) q hq (by decide), BitVec.getLsbD_extractLsb']
  have row : Shape.row S32x128 (ix2 r l) = r.val := rfl
  have e1 : (Shape.row S32x128 (ix2 r l) * 8 + q) / 32 = r.val / 4 := by rw [row]; omega
  have e2 : (Shape.row S32x128 (ix2 r l) * 8 + q) % 32 = 8 * (r.val % 4) + q := by rw [row]; omega
  rw [e2]
  simp only [hq, decide_true, Bool.true_and]
  refine congrArg (fun j => (W j).getLsbD (8 * (r.val % 4) + q)) ?_
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem word_bytes (x : S32x128.Idx → BitVec 8) (a : Fin 8) (l : Fin 128) (i : Fin 4) :
    byte (bitcast S8x128 32 x bitcasts_S32x128_w8_S8x128_w32 (ix2 a l)) i
      = x (ix2 (⟨4 * a.val + i.val, by have := a.isLt; have := i.isLt; omega⟩ : Fin 32) l) := by
  have ha := a.isLt
  have hi := i.isLt
  apply BitVec.eq_of_getLsbD_eq
  intro q hq
  rw [BitVec.getLsbD_extractLsb']
  simp only [hq, decide_true, Bool.true_and]
  refine (bitcast_8_32_getLsbD_ix2 x bitcasts_S32x128_w8_S8x128_w32 a l (8 * i.val + q) (by omega)
    ⟨4 * a.val + i.val, by omega⟩ (by show 4 * a.val + i.val = 4 * a.val + (8 * i.val + q) / 8; omega)).trans ?_
  rw [show (8 * i.val + q) % 8 = q by omega]
  rfl

/-! ## The lane vectors -/

theorem laneDiv2 (a : Fin 8) (l : Fin 128) : laneDiv 2#32 (ix2 a l) = BitVec.ofNat 32 (l.val / 2) := by
  unfold laneDiv
  simp only [select, andi, subi, divsi, remsi, cmpi, extui, broadcast, lane_apply, ix2_1]
  revert l
  decide +kernel

theorem laneDiv4 (a : Fin 8) (l : Fin 128) : laneDiv 4#32 (ix2 a l) = BitVec.ofNat 32 (l.val / 4) := by
  unfold laneDiv
  simp only [select, andi, subi, divsi, remsi, cmpi, extui, broadcast, lane_apply, ix2_1]
  revert l
  decide +kernel

theorem nibShift_apply (a : Fin 8) (l : Fin 128) : nibShift (ix2 a l) = BitVec.ofNat 32 (4 * (l.val / 2 % 8)) := by
  unfold nibShift
  simp only [muli, andi, broadcast, laneDiv2]
  revert l
  decide +kernel

theorem laneOdd_apply (a : Fin 8) (l : Fin 128) : laneOdd (ix2 a l) = if l.val % 2 = 1 then 1#1 else 0#1 := by
  unfold laneOdd
  simp only [cmpi, andi, broadcast, lane_apply, ix2_1]
  revert l
  decide +kernel

theorem fromB_apply (a : Fin 8) (l : Fin 128) : fromB (ix2 a l) = if l.val / 2 % 2 = 1 then 1#1 else 0#1 := by
  unfold fromB
  simp only [cmpi, andi, broadcast, lane_apply, ix2_1]
  revert l
  decide +kernel

theorem laneSw_apply (a : Fin 8) (l : Fin 128) : laneSw (ix2 a l) = BitVec.ofNat 32 (if l.val % 2 = 1 then l.val - 1 else l.val + 1) := by
  unfold laneSw
  simp only [xori, broadcast, lane_apply, ix2_1]
  revert l
  decide +kernel

theorem slotXor0_apply (a : Fin 8) (l : Fin 128) : slotXor0 (ix2 a l) = slotX ⟨l.val % 2, by omega⟩ := by
  unfold slotXor0
  simp only [select, broadcast, laneOdd_apply]
  revert l
  decide +kernel

theorem slotXor1_apply (a : Fin 8) (l : Fin 128) : slotXor1 (ix2 a l) = slotX ⟨2 + l.val % 2, by omega⟩ := by
  unfold slotXor1
  simp only [select, broadcast, laneOdd_apply]
  revert l
  decide +kernel

/-- The start of half `e`. -/
abbrev halfW (e : Fin 2) : BitVec 32 := if e.val = 0 then 0#32 else 64#32

theorem srcLane_apply (e : Fin 2) (a : Fin 8) (l : Fin 128) :
    srcLane (halfW e) (ix2 a l) = BitVec.ofNat 32 (64 * e.val + 2 * (l.val / 4) + l.val % 2) := by
  unfold srcLane
  simp only [addi, muli, andi, broadcast, laneDiv4, lane_apply, ix2_1]
  revert e l
  decide +kernel

/-! ## One plane -/

theorem nibs_apply (w : Fin 4 → IVec S8x128 32) (p : ℕ) (a : Fin 8) (s : Fin 128) :
    nibs w p (ix2 a s) = nibsS fun i => (w i (ix2 a ⟨s.val / 16 + 8 * p % 128, by have := s.isLt; omega⟩) >>> BitVec.ofNat 32 (4 * (s.val / 2 % 8))) &&& 15#32 := by
  have hs : ∀ s : Fin 128, (BitVec.ofNat 32 (4 * (s.val / 2 % 8))).toNat < 32 := by decide +kernel
  have e : ∀ i, nibOf (w i) (wordLane p) (ix2 a s)
      = (w i (ix2 a ⟨s.val / 16 + 8 * p % 128, by have := s.isLt; omega⟩) >>> BitVec.ofNat 32 (4 * (s.val / 2 % 8))) &&& 15#32 := fun i => by
    rw [nibOf_apply (w i) p (ix2 a s) (lanes_lt p _), nibShift_apply]
    exact congrArg (fun z => z &&& 15#32) (if_pos (hs s))
  show nibsS (fun i => nibOf (w i) (wordLane p) (ix2 a s)) = _
  exact congrArg nibsS (funext e)

theorem kept_apply (x : S32x128.Idx → BitVec 8) (a : Fin 8) (s : Fin 128) (i : Fin 4) :
    byte (select laneOdd (laneGather (valWords (F := F) x) laneSw) (valWords (F := F) x) (ix2 a s)) i
        = x (ix2 (⟨4 * a.val + i.val, by have := a.isLt; have := i.isLt; omega⟩ : Fin 32) (⟨2 * (s.val / 2), by have := s.isLt; omega⟩ : Fin 128))
    ∧ byte (select laneOdd (valWords (F := F) x) (laneGather (valWords (F := F) x) laneSw) (ix2 a s)) i
        = x (ix2 (⟨4 * a.val + i.val, by have := a.isLt; have := i.isLt; omega⟩ : Fin 32) (⟨2 * (s.val / 2) + 1, by have := s.isLt; omega⟩ : Fin 128)) := by
  have hs := s.isLt
  have key : ∀ (s' : Fin 128) (n : ℕ) (hn : n < 128), s'.val = n → byte (valWords (F := F) x (ix2 a s')) i
      = x (ix2 (⟨4 * a.val + i.val, by have := a.isLt; have := i.isLt; omega⟩ : Fin 32) (⟨n, hn⟩ : Fin 128)) := by
    rintro s' _ hn rfl
    exact word_bytes x a s' i
  have sw := laneSw_apply a s
  unfold select
  rw [laneOdd_apply]
  by_cases h : s.val % 2 = 1
  · rw [if_pos h] at sw ⊢
    rw [laneGather_apply _ _ _ (s.val - 1) (by omega) sw]
    exact ⟨key _ _ _ (by show s.val - 1 = _; omega), key _ _ _ (by omega)⟩
  · rw [if_neg h] at sw ⊢
    rw [laneGather_apply _ _ _ (s.val + 1) (by omega) sw]
    exact ⟨key _ _ _ (by omega), key _ _ _ (by show s.val + 1 = _; omega)⟩

theorem planeOf_byte (w : Fin 4 → IVec S8x128 32) (p : ℕ) (sx : IVec S8x128 32) (x : S32x128.Idx → BitVec 8) (a : Fin 8) (s : Fin 128) (i slot : Fin 4)
    (hsx : sx (ix2 a s) = slotX slot) :
    byte (planeOf (F := F) w p sx x (ix2 a s)) i
      = pick (w i (ix2 a ⟨s.val / 16 + 8 * p % 128, by have := s.isLt; omega⟩)) (4 * (s.val / 2 % 8)) slot.val
        (x (ix2 (⟨4 * a.val + i.val, by have := a.isLt; have := i.isLt; omega⟩ : Fin 32) (⟨2 * (s.val / 2), by have := s.isLt; omega⟩ : Fin 128)))
        (x (ix2 (⟨4 * a.val + i.val, by have := a.isLt; have := i.isLt; omega⟩ : Fin 32) (⟨2 * (s.val / 2) + 1, by have := s.isLt; omega⟩ : Fin 128))) := by
  have e : planeOf (F := F) w p sx x (ix2 a s) = planeS (nibs w p (ix2 a s)) (sx (ix2 a s))
      (select laneOdd (laneGather (valWords (F := F) x) laneSw) (valWords (F := F) x) (ix2 a s))
      (select laneOdd (valWords (F := F) x) (laneGather (valWords (F := F) x) laneSw) (ix2 a s)) := rfl
  obtain ⟨k0, k1⟩ := kept_apply (F := F) x a s i
  have ht : ∀ s : Fin 128, (BitVec.ofNat 32 (4 * (s.val / 2 % 8))).toNat = 4 * (s.val / 2 % 8) := by decide +kernel
  rw [e, nibs_apply, hsx, unpack_byte, k0, k1, ht]

/-! ## One element -/

theorem pairPay_apply (w : Fin 4 → IVec S8x128 32) (p : ℕ) (e : Fin 2) (x : S32x128.Idx → BitVec 8) (r : Fin 32) (l : Fin 128) :
    pairPay (F := F) w p (halfW e) x (ix3 (0 : Fin 1) r l)
      = FloatOps.ofBits .fp8e4m3 (pick (w ⟨r.val % 4, by omega⟩ (ix2 (⟨r.val / 4, by have := r.isLt; omega⟩ : Fin 8) (⟨4 * e.val + l.val / 32 + 8 * p % 128, by have := e.isLt; have := l.isLt; omega⟩ : Fin 128)))
          (4 * (l.val / 4 % 8)) (l.val % 4)
          (x (ix2 r (⟨64 * e.val + 2 * (l.val / 4), by have := e.isLt; have := l.isLt; omega⟩ : Fin 128)))
          (x (ix2 r (⟨64 * e.val + 2 * (l.val / 4) + 1, by have := e.isLt; have := l.isLt; omega⟩ : Fin 128)))) := by
  have he := e.isLt
  have hl := l.isLt
  have hr := r.isLt
  obtain ⟨s, hs⟩ : ∃ s : Fin 128, s.val = 64 * e.val + 2 * (l.val / 4) + l.val % 2 := ⟨⟨64 * e.val + 2 * (l.val / 4) + l.val % 2, by omega⟩, rfl⟩
  unfold pairPay
  refine (shapeCast_addUnit_apply ![32, 128] _ shapeCasts_S32x128_S1x32x128 (ix3 (0 : Fin 1) r l)).trans ?_
  refine congrArg (FloatOps.ofBits (F := F) .fp8e4m3) ?_
  refine Eq.trans (congrArg (bitcast S32x128 8 (halfWords (halfW e) (planeOf (F := F) w p slotXor0 x) (planeOf (F := F) w p slotXor1 x)) bitcasts_S8x128_w32_S32x128_w8)
    (show _ = ix2 r l from ?_)) ?_
  · funext a; fin_cases a <;> rfl
  rw [bytes_of_word]
  have src : ∀ v, laneGather v (srcLane (halfW e)) (ix2 (⟨r.val / 4, by omega⟩ : Fin 8) l) = v (ix2 (⟨r.val / 4, by omega⟩ : Fin 8) s) := fun v =>
    laneGather_apply v _ _ s.val s.isLt (by rw [srcLane_apply, hs])
  have fin : ∀ (sx : IVec S8x128 32), sx (ix2 (⟨r.val / 4, by omega⟩ : Fin 8) s) = slotX ⟨l.val % 4, by omega⟩ →
      byte (planeOf (F := F) w p sx x (ix2 (⟨r.val / 4, by omega⟩ : Fin 8) s)) ⟨r.val % 4, by omega⟩ = _ := fun sx hsx =>
    planeOf_byte w p sx x _ s ⟨r.val % 4, by omega⟩ ⟨l.val % 4, by omega⟩ hsx
  have goal : ∀ z, z = pick (w ⟨r.val % 4, by omega⟩ (ix2 (⟨r.val / 4, by omega⟩ : Fin 8) ⟨s.val / 16 + 8 * p % 128, by have := s.isLt; omega⟩)) (4 * (s.val / 2 % 8)) (l.val % 4)
        (x (ix2 (⟨4 * (r.val / 4) + r.val % 4, by omega⟩ : Fin 32) (⟨2 * (s.val / 2), by have := s.isLt; omega⟩ : Fin 128)))
        (x (ix2 (⟨4 * (r.val / 4) + r.val % 4, by omega⟩ : Fin 32) (⟨2 * (s.val / 2) + 1, by have := s.isLt; omega⟩ : Fin 128))) →
      z = pick (w ⟨r.val % 4, by omega⟩ (ix2 (⟨r.val / 4, by omega⟩ : Fin 8) (⟨4 * e.val + l.val / 32 + 8 * p % 128, by omega⟩ : Fin 128)))
          (4 * (l.val / 4 % 8)) (l.val % 4)
          (x (ix2 r (⟨64 * e.val + 2 * (l.val / 4), by omega⟩ : Fin 128)))
          (x (ix2 r (⟨64 * e.val + 2 * (l.val / 4) + 1, by omega⟩ : Fin 128))) := by
    rintro z rfl
    congr 1
    · refine congrArg (w _) (congrArg (ix2 _) (Fin.ext ?_))
      show s.val / 16 + 8 * p % 128 = 4 * e.val + l.val / 32 + 8 * p % 128
      omega
    · omega
    · refine congrArg x (congrArg₂ ix2 (Fin.ext ?_) (Fin.ext ?_))
      · show 4 * (r.val / 4) + r.val % 4 = r.val; omega
      · show 2 * (s.val / 2) = 64 * e.val + 2 * (l.val / 4); omega
    · refine congrArg x (congrArg₂ ix2 (Fin.ext ?_) (Fin.ext ?_))
      · show 4 * (r.val / 4) + r.val % 4 = r.val; omega
      · show 2 * (s.val / 2) + 1 = 64 * e.val + 2 * (l.val / 4) + 1; omega
  apply goal
  unfold halfWords select
  rw [fromB_apply]
  by_cases h : l.val / 2 % 2 = 1
  · rw [if_pos h, src, src]
    refine fin slotXor1 ?_
    rw [slotXor1_apply]
    refine congrArg slotX (Fin.ext ?_)
    show 2 + s.val % 2 = l.val % 4
    omega
  · rw [if_neg h, src, src]
    refine fin slotXor0 ?_
    rw [slotXor0_apply]
    refine congrArg slotX (Fin.ext ?_)
    show s.val % 2 = l.val % 4
    omega

/-- The element of a dense row and column, from the blocks it is unpacked from. -/
theorem tileAt_eq (V : S64x3584.Idx → BitVec 8) (A B : S64x128.Idx → BitVec 32) (g : Fin 2) (r : Fin 32) (q : Fin 56) (l : Fin 128) :
    tileAt (F := F) V A B g r q l
      = FloatOps.ofBits .fp8e4m3 (pick ((if q.val / 2 < 16 then A else B) (ix2 (⟨32 * g.val + r.val, by have := g.isLt; have := r.isLt; omega⟩ : Fin 64)
            (⟨4 * (q.val % 2) + l.val / 32 + 8 * (q.val / 2) % 128, by have := l.isLt; omega⟩ : Fin 128)))
          (4 * (l.val / 4 % 8)) (l.val % 4)
          (V (ix2 (⟨32 * g.val + r.val, by have := g.isLt; have := r.isLt; omega⟩ : Fin 64) (⟨64 * q.val + 2 * (l.val / 4), by have := q.isLt; have := l.isLt; omega⟩ : Fin 3584)))
          (V (ix2 (⟨32 * g.val + r.val, by have := g.isLt; have := r.isLt; omega⟩ : Fin 64) (⟨64 * q.val + 2 * (l.val / 4) + 1, by have := q.isLt; have := l.isLt; omega⟩ : Fin 3584)))) := by
  have hg := g.isLt
  have hl := l.isLt
  have hr := r.isLt
  have hq := q.isLt
  unfold tileAt
  refine (pairPay_apply (F := F) _ (q.val / 2) ⟨q.val % 2, by omega⟩ _ r l).trans ?_
  have hw : ∀ W : S64x128.Idx → BitVec 32, wordsF W g ⟨r.val % 4, by omega⟩ (ix2 (⟨r.val / 4, by omega⟩ : Fin 8) (⟨4 * (q.val % 2) + l.val / 32 + 8 * (q.val / 2) % 128, by omega⟩ : Fin 128))
      = W (ix2 (⟨32 * g.val + r.val, by omega⟩ : Fin 64) (⟨4 * (q.val % 2) + l.val / 32 + 8 * (q.val / 2) % 128, by omega⟩ : Fin 128)) := fun W => by
    have h4 : ∀ (x : ℕ) (hx : x < 4), r.val % 4 = x → wordF W g x hx (ix2 (⟨r.val / 4, by omega⟩ : Fin 8) (⟨4 * (q.val % 2) + l.val / 32 + 8 * (q.val / 2) % 128, by omega⟩ : Fin 128))
      = W (ix2 (⟨32 * g.val + r.val, by omega⟩ : Fin 64) (⟨4 * (q.val % 2) + l.val / 32 + 8 * (q.val / 2) % 128, by omega⟩ : Fin 128)) := fun x hx ex => by
      refine congrArg W (funext fun a => Fin.ext ?_)
      fin_cases a
      · show 32 * g.val + x + 4 * (r.val / 4) = 32 * g.val + r.val; omega
      · show 0 + 1 * (4 * (q.val % 2) + l.val / 32 + 8 * (q.val / 2) % 128) = 4 * (q.val % 2) + l.val / 32 + 8 * (q.val / 2) % 128; omega
    have hc : r.val % 4 = 0 ∨ r.val % 4 = 1 ∨ r.val % 4 = 2 ∨ r.val % 4 = 3 := by omega
    rcases hc with h | h | h | h
    · exact Eq.trans (congrFun (congrArg (wordsF W g) (Fin.ext h : (⟨r.val % 4, by omega⟩ : Fin 4) = 0)) _) (h4 0 (by omega) h)
    · exact Eq.trans (congrFun (congrArg (wordsF W g) (Fin.ext h : (⟨r.val % 4, by omega⟩ : Fin 4) = 1)) _) (h4 1 (by omega) h)
    · exact Eq.trans (congrFun (congrArg (wordsF W g) (Fin.ext h : (⟨r.val % 4, by omega⟩ : Fin 4) = 2)) _) (h4 2 (by omega) h)
    · exact Eq.trans (congrFun (congrArg (wordsF W g) (Fin.ext h : (⟨r.val % 4, by omega⟩ : Fin 4) = 3)) _) (h4 3 (by omega) h)
  have hv : ∀ (n n' : ℕ) (hn : n < 128) (hn' : n' < 3584), 128 * (q.val / 2) + n = n' → valsF (F := F) V g (q.val / 2) (by omega) (ix2 r (⟨n, hn⟩ : Fin 128))
      = V (ix2 (⟨32 * g.val + r.val, by omega⟩ : Fin 64) (⟨n', hn'⟩ : Fin 3584)) := fun n n' hn hn' e => by
    refine congrArg V (funext fun a => Fin.ext ?_)
    fin_cases a
    · show 32 * g.val + 1 * r.val = 32 * g.val + r.val; omega
    · show 128 * (q.val / 2) + 1 * n = n'; omega
  refine congrArg (FloatOps.ofBits (F := F) .fp8e4m3) ?_
  congr 1
  · by_cases h : q.val / 2 < 16
    · rw [if_pos h, if_pos h]; exact hw A
    · rw [if_neg h, if_neg h]; exact hw B
  · exact hv _ _ _ _ (by show 128 * (q.val / 2) + (64 * (q.val % 2) + 2 * (l.val / 4)) = _; omega)
  · exact hv _ _ _ _ (by show 128 * (q.val / 2) + (64 * (q.val % 2) + 2 * (l.val / 4) + 1) = _; omega)

end Cert.Kernel.Hand
end
-- ==== Proof.KVal.lean ====
/-  The kernel's values, element by element, over the arrays its region reads. -/
module

public import proofs.«01_k».proof.Proof.ValK
public import proofs.«01_k».proof.Proof.Byte
public import Idealize.ShloMosaic.Lib.MatmulPlain

@[expose] public section

set_option maxRecDepth 16384

noncomputable section

namespace Cert.Kernel.Hand

open Cert.Kernel Cert.Kernel.Gen Cert.Bits
open Idealize.ShloMosaic Idealize.ShloMosaic.TcCoe

section
variable {F : FTy → Type} [FloatOps F]
variable (m : (ℓ : Loc nD τ sig) → Buf (Elt F) ℓ) (c : Dev nD)

/-- The dense weights: row `N`, column `k`. -/
theorem dense_apply (N : Fin 18432) (k : Fin 7168) :
    dense m c (N.val / 512) (⟨N.val % 512, Nat.mod_lt _ (by decide)⟩ : Fin 512) k
      = FloatOps.ofBits .fp8e4m3 (pick (V m c main_arg3 (ix2 N (⟨k.val / 32, by have := k.isLt; omega⟩ : Fin 224))) (4 * (k.val / 4 % 8)) (k.val % 4)
          (V m c main_arg2 (ix2 N (⟨2 * (k.val / 4), by have := k.isLt; omega⟩ : Fin 3584)))
          (V m c main_arg2 (ix2 N (⟨2 * (k.val / 4) + 1, by have := k.isLt; omega⟩ : Fin 3584)))) := by
  have hN := N.isLt
  have hk := k.isLt
  obtain ⟨t, ht⟩ : ∃ t, t = pt (8 * (N.val / 512) + N.val % 512 / 64) := ⟨_, rfl⟩
  have htv : t.val = 8 * (N.val / 512) + N.val % 512 / 64 := by
    rw [ht]
    show (8 * (N.val / 512) + N.val % 512 / 64) % 296 = _
    omega
  have ht288 : t.val < 288 := by omega
  have hv : ∀ (n n' : ℕ) (h : n < 3584) (h' : n' < 3584) (r : ℕ) (hr : r < 64), r = N.val % 64 → n = n' →
      vB m c t (ix2 (⟨r, hr⟩ : Fin 64) (⟨n, h⟩ : Fin 3584)) = V m c main_arg2 (ix2 N (⟨n', h'⟩ : Fin 3584)) := fun n n' h h' r hr e1 e2 => by
    rw [vB_apply m c t ht288]
    refine congrArg _ (congrArg₂ ix2 (Fin.ext ?_) (Fin.ext e2))
    show 64 * t.val + r = N.val
    omega
  unfold dense
  rw [← ht]
  refine (tileAt_eq (F := F) _ _ _ _ _ _ _).trans (congrArg _ ?_)
  congr 1
  · have ha : ∀ (r : ℕ) (hr : r < 64) (l : ℕ) (hl : l < 128), r = N.val % 64 → l = k.val / 32 →
        aB m c t (ix2 (⟨r, hr⟩ : Fin 64) (⟨l, hl⟩ : Fin 128)) = V m c main_arg3 (ix2 N (⟨k.val / 32, by omega⟩ : Fin 224)) := fun r hr l hl e1 e2 => by
      rw [aB_apply m c t ht288]
      refine congrArg _ (congrArg₂ ix2 (Fin.ext ?_) (Fin.ext e2))
      show 64 * t.val + r = N.val
      omega
    have hb : ∀ (r : ℕ) (hr : r < 64) (l : ℕ) (hl : l < 128), r = N.val % 64 → 128 + l = k.val / 32 →
        bB m c t dflt0_4 (ix2 (⟨r, hr⟩ : Fin 64) (⟨l, hl⟩ : Fin 128)) = V m c main_arg3 (ix2 N (⟨k.val / 32, by omega⟩ : Fin 224)) := fun r hr l hl e1 e2 => by
      rw [bB_apply m c t ht288 _ _ (by show l < 96; omega)]
      refine congrArg _ (congrArg₂ ix2 (Fin.ext ?_) (Fin.ext e2))
      show 64 * t.val + r = N.val
      omega
    by_cases h : k.val / 128 / 2 < 16
    · refine (congrFun (if_pos h) _).trans (ha _ _ _ _ ?_ ?_)
      · show 32 * (N.val % 512 / 32 % 2) + N.val % 512 % 32 = N.val % 64; omega
      · show 4 * (k.val / 128 % 2) + k.val % 128 / 32 + 8 * (k.val / 128 / 2) % 128 = k.val / 32; omega
    · refine (congrFun (if_neg h) _).trans (hb _ _ _ _ ?_ ?_)
      · show 32 * (N.val % 512 / 32 % 2) + N.val % 512 % 32 = N.val % 64; omega
      · show 128 + (4 * (k.val / 128 % 2) + k.val % 128 / 32 + 8 * (k.val / 128 / 2) % 128) = k.val / 32; omega
  · show 4 * (k.val % 128 / 4 % 8) = 4 * (k.val / 4 % 8); omega
  · show k.val % 128 % 4 = k.val % 4; omega
  · refine hv _ _ _ _ _ _ ?_ ?_
    · show 32 * (N.val % 512 / 32 % 2) + N.val % 512 % 32 = N.val % 64; omega
    · show 64 * (k.val / 128) + 2 * (k.val % 128 / 4) = 2 * (k.val / 4); omega
  · refine hv _ _ _ _ _ _ ?_ ?_
    · show 32 * (N.val % 512 / 32 % 2) + N.val % 512 % 32 = N.val % 64; omega
    · show 64 * (k.val / 128) + 2 * (k.val % 128 / 4) + 1 = 2 * (k.val / 4) + 1; omega

/-- One element's code. -/
def codeOf (x : F .bf16) (s : F .f32) : F .fp8e4m3 :=
  FloatOps.truncf .fp8e4m3 bitsLt_fp8e4m3_f32 (FloatOps.minimumf (FloatOps.ofBits .f32 0x43E00000#32) (FloatOps.maximumf (FloatOps.ofBits .f32 0xC3E00000#32)
    (FloatOps.mulf (FloatOps.extf .f32 bitsLt_bf16_f32 x) s)))

theorem xB_row (y : S4096x7168.Idx) (j : S512x7168.Idx) (h0 : (j 0).val = (y 0).val % 512) (h1 : (j 1).val = (y 1).val) :
    xB m c (pt ((y 0).val / 512)) j = V m c main_v32 y := by
  have hy : (y 0).val < 4096 := (y 0).isLt
  have hp : (pt ((y 0).val / 512)).val = (y 0).val / 512 := by
    show (y 0).val / 512 % 296 = _
    omega
  rw [xB_apply m c _ (by omega)]
  refine congrArg _ (funext fun a => Fin.ext ?_)
  fin_cases a
  · show 512 * (pt ((y 0).val / 512)).val + (j 0).val = (y 0).val
    omega
  · exact h1

theorem codesG_apply (y : S4096x7168.Idx) : codesG m c y = codeOf (V m c main_v32 y) (V m c main_v31 (ix1 (1 : Fin 2))) := by
  have hy : (y 0).val < 4096 := (y 0).isLt
  unfold codesG codeAt codePay
  rw [shapeCast_id, shapeCast_id, scB_apply]
  refine congrArg (fun x => codeOf x (V m c main_v31 (ix1 (1 : Fin 2)))) (?_ : rows32 (xB m c (pt ((y 0).val / 512))) ((y 0).val % 512 / 32) (ix2 ⟨(y 0).val % 32, _⟩ (y 1)) = _)
  refine xB_row m c y _ ?_ rfl
  show (32 * ((y 0).val % 512 / 32) + (y 0).val % 32) % 512 = (y 0).val % 512
  omega

end

section
variable (m : (ℓ : Loc nD τ sig) → Buf (Elt Ideal) ℓ) (c : Dev nD)

theorem yPay_apply (q : Vec Ideal S512x7168 .fp8e4m3) (w : Vec Ideal S1x512x7168 .fp8e4m3) (s : Elt Ideal .f32) (ws : Vec Ideal S1x512 .f32) (a b : Fin 512) :
    yPay q w s ws (ix2 a b) = ((∑ k : Fin 7168, q (ix2 a k) * w (ix3 (0 : Fin 1) b k)) * s * ws (ix2 (0 : Fin 1) b) : EReal) := by
  have hm : FloatOps.matmul (F := Ideal) (φ₁ := .fp8e4m3) (φ₂ := .fp8e4m3) dot_S512x7168_S512x7168_S512x512_1_1_0_0_n_n none q
      (shapeCast S512x7168 w shapeCasts_S1x512x7168_S512x7168) (constant S512x512 .f32 0x00000000#32) (ix2 a b)
      = (∑ k : Fin 7168, q (ix2 a k) * w (ix3 (0 : Fin 1) b k) : EReal) := by
    refine (Ideal.matmul_transposedRhs_apply none q _ _ a b).trans ?_
    have hz : ∀ i, (constant (F := Ideal) S512x512 .f32 0x00000000#32 i : EReal) = 0 := fun _ => Ideal.ofBits_zero_f32
    rw [hz, zero_add]
    refine Finset.sum_congr rfl fun k _ => congrArg (fun z => q (ix2 a k) * z) ?_
    refine (shapeCast_dropUnit_apply ![512, 7168] w shapeCasts_S1x512x7168_S512x7168 (ix2 b k)).trans (congrArg w ?_)
    funext x
    fin_cases x <;> rfl
  have hb : broadcastTo S512x512 (shapeCast S1x512 ws shapeCasts_S1x512_S1x512) broadcasts_S1x512_S512x512 (ix2 a b) = ws (ix2 (0 : Fin 1) b) := by
    rw [shapeCast_id]
    refine broadcastTo_apply _ _ _ _ fun x => ?_
    fin_cases x <;> rfl
  show FloatOps.matmul (F := Ideal) (φ₁ := .fp8e4m3) (φ₂ := .fp8e4m3) dot_S512x7168_S512x7168_S512x512_1_1_0_0_n_n none q
      (shapeCast S512x7168 w shapeCasts_S1x512x7168_S512x7168) (constant S512x512 .f32 0x00000000#32) (ix2 a b) * s
      * broadcastTo S512x512 (shapeCast S1x512 ws shapeCasts_S1x512_S1x512) broadcasts_S1x512_S512x512 (ix2 a b) = _
  rw [hm, hb]

theorem tile_apply (G : S4096x7168.Idx → EReal) (D : ℕ → Fin 512 → Fin 7168 → EReal) (d : S1x512x7168.Idx → EReal)
    (s : EReal) (W : Vec Ideal S1x18432 .f32) (w : Vec Ideal S1x512 .f32) (R : Fin 4096) (N : Fin 18432) (q n : ℕ) (hq : q < 8)
    (hR : q = R.val / 512) (hN : n = N.val / 512) (hdD : ∀ j, d j = D n (j 1) (j 2))
    (hw : ∀ y : S1x512.Idx, ∀ h, w y = W (ix2 (0 : Fin 1) (⟨512 * n + (y 1).val, h⟩ : Fin 18432))) :
    yPay (F := Ideal) (rowsOf (F := Ideal) G q hq) d s w (ix2 (⟨R.val % 512, Nat.mod_lt _ (by decide)⟩ : Fin 512) (⟨N.val % 512, Nat.mod_lt _ (by decide)⟩ : Fin 512))
      = ((∑ k : Fin 7168, G (ix2 R k) * D (N.val / 512) (⟨N.val % 512, Nat.mod_lt _ (by decide)⟩ : Fin 512) k) * s * W (ix2 (0 : Fin 1) N) : EReal) := by
  have hN' := N.isLt
  refine (yPay_apply _ _ _ _ _ _).trans ?_
  have e1 : ∀ k : Fin 7168, rowsOf (F := Ideal) G q hq (ix2 (⟨R.val % 512, Nat.mod_lt _ (by decide)⟩ : Fin 512) k) = G (ix2 R k) := fun k => by
    refine congrArg G (congrArg₂ ix2 (Fin.ext ?_) rfl)
    show 512 * q + R.val % 512 = R.val
    omega
  have e2 : ∀ k : Fin 7168, d (ix3 (0 : Fin 1) (⟨N.val % 512, Nat.mod_lt _ (by decide)⟩ : Fin 512) k) = D (N.val / 512) (⟨N.val % 512, Nat.mod_lt _ (by decide)⟩ : Fin 512) k := fun k => by
    rw [hdD, hN]
    rfl
  have e3 : w (ix2 (0 : Fin 1) (⟨N.val % 512, Nat.mod_lt _ (by decide)⟩ : Fin 512)) = W (ix2 (0 : Fin 1) N) := by
    rw [hw _ (by show 512 * n + N.val % 512 < 18432; omega)]
    refine congrArg W (congrArg₂ ix2 rfl (Fin.ext ?_))
    show 512 * n + N.val % 512 = N.val
    omega
  rw [e3]
  simp only [e1, e2]

/-- The scaled product, over the codes and the dense weights. -/
theorem yG_apply (R : Fin 4096) (N : Fin 18432) :
    yG m c (ix2 R N) = ((∑ k : Fin 7168, (codesG m c (ix2 R k) : EReal) * dense m c (N.val / 512) (⟨N.val % 512, Nat.mod_lt _ (by decide)⟩ : Fin 512) k)
      * V m c main_v31 (ix1 (0 : Fin 2)) * V m c main_v33 (ix2 (0 : Fin 1) N) : EReal) := by
  have hR := R.isLt
  have hN := N.isLt
  obtain ⟨t, ht⟩ : ∃ t, t = pt (8 * (N.val / 512 + 1) + R.val / 512) := ⟨_, rfl⟩
  have htv : t.val = 8 * (N.val / 512 + 1) + R.val / 512 := by
    rw [ht]
    show (8 * (N.val / 512 + 1) + R.val / 512) % 296 = _
    omega
  have h0 : yG m c (ix2 R N) = yB m c t (ix2 (⟨R.val % 512, Nat.mod_lt _ (by decide)⟩ : Fin 512) (⟨N.val % 512, Nat.mod_lt _ (by decide)⟩ : Fin 512)) := by
    rw [ht]
    rfl
  refine h0.trans ?_
  unfold yB
  rw [scB_apply]
  exact tile_apply (codesG m c) (dense m c) (denseSlot m c (t.val / 8 - 1)) _ (V m c main_v33) (wsB m c t) R N _ (t.val / 8 - 1) _ (by omega) (by omega)
    (fun j => rfl) (fun y h => wsB_apply m c t y)

end

end Cert.Kernel.Hand
end
-- ==== Proof.MaxRed.lean ====
/-  Maxima over extended reals, by their upper bounds. -/
module

public import Idealize.ShloMosaic.PureOps.Ideal.Laws
public import Idealize.ShloMosaic.Lib.Pointwise

@[expose] public section

namespace Cert.MaxRed

open Idealize.ShloMosaic

theorem ofBits_bot : Ideal.ofBits .f32 0xFF800000#32 = ⊥ := by simp [Ideal.ofBits, Ideal.ieee]

/-- A maximum reduction is at most `b` exactly when every element it reads is. -/
theorem red_le {s t : Shape} {axes : List (Fin s.rank)} (src : FVec Ideal s .f32) (h : s.Reduces axes t) (hφ : FKind.Formats .f32)
    (hacc : (0xFF800000#32 : BitVec 32) = FKind.maximumf.neutral .f32 hφ) (j : t.Idx) (b : EReal) :
    (multiReduction .maximumf axes t src 0xFF800000#32 h hφ hacc j : EReal) ≤ b ↔ ∀ i, h.drop i = j → (src i : EReal) ≤ b := by
  rw [multiReduction_maximumf_eq_fold src _ h hφ hacc j]
  refine (Finset.fold_max_le (b := (Ideal.ofBits .f32 0xFF800000#32 : EReal)) (f := fun i => (src i : EReal)) (s := Finset.univ.filter fun i => h.drop i = j) b).trans ?_
  rw [ofBits_bot]
  simp

/-- A reshape holds the same elements. -/
theorem cast_le {s t : Shape} (x : s.Idx → EReal) (h : s.ShapeCasts t) (b : EReal) : (∀ i, shapeCast t x h i ≤ b) ↔ ∀ y, x y ≤ b :=
  ⟨fun hi y => by have := hi ((Shape.reshapeEquiv h).symm y); unfold shapeCast at this; rwa [Equiv.apply_symm_apply] at this,
    fun hy i => hy _⟩

/-- A maximum over everything, read out as one number. -/
theorem all_le {r s t u : Shape} {axes : List (Fin s.rank)} (x : r.Idx → EReal) (hx : r.ShapeCasts s) (h : s.Reduces axes t) (hφ : FKind.Formats .f32)
    (hacc : (0xFF800000#32 : BitVec 32) = FKind.maximumf.neutral .f32 hφ) (hu : t.ShapeCasts u) (pos : Fin u.rank → ℕ) (hp : ∀ a, pos a < u.size a)
    (one : ∀ j j' : t.Idx, j = j') (b : EReal) :
    (extractAt pos (shapeCast u (multiReduction (F := Ideal) (φ := .f32) .maximumf axes t (shapeCast s x hx) 0xFF800000#32 h hφ hacc) hu) hp : EReal) ≤ b ↔ ∀ y, x y ≤ b := by
  have hj : ∀ j, (multiReduction (F := Ideal) (φ := .f32) .maximumf axes t (shapeCast s x hx) 0xFF800000#32 h hφ hacc j : EReal) ≤ b ↔ ∀ y, x y ≤ b := fun j => by
    refine (red_le (shapeCast s x hx) h hφ hacc j b).trans (Iff.trans ?_ (cast_le x hx b))
    exact ⟨fun H i => H i (one _ _), fun H i _ => H i⟩
  exact hj _

/-- The absolute value. -/
noncomputable abbrev mag (x : EReal) : EReal := max x (-x)

theorem mag_nonneg (x : EReal) : 0 ≤ mag x := by
  rcases le_total 0 x with h | h
  · exact le_max_of_le_left h
  · exact le_max_of_le_right (EReal.neg_nonneg.mpr h)

end Cert.MaxRed
end
-- ==== Proof.AmaxK.lean ====
/-  The kernel's running maximum, as a bound on every activation it has read. -/
module

public import proofs.«01_k».proof.Proof.KVal
public import proofs.«01_k».proof.Proof.MaxRed

@[expose] public section

set_option maxRecDepth 16384

noncomputable section

namespace Cert.Kernel.Hand

open Cert.Kernel Cert.Kernel.Gen Cert.MaxRed
open Idealize.ShloMosaic Idealize.ShloMosaic.TcCoe

theorem forall_drop {s t : Shape} {axes : List (Fin s.rank)} (h : s.Reduces axes t) (p : s.Idx → Prop) :
    (∀ j, ∀ i, h.drop i = j → p i) ↔ ∀ i, p i := ⟨fun H i => H _ i rfl, fun H j i _ => H i⟩

/-- One step of the running maximum, bounded. -/
theorem amaxPay_le (x : Vec Ideal S32x7168 .bf16) (a : Vec Ideal S8x7168 .f32) (b : EReal) :
    (∀ y, (amaxPay x a y : EReal) ≤ b) ↔ (∀ y, (a y : EReal) ≤ b) ∧ ∀ z, max (x z : EReal) (-(x z : EReal)) ≤ b := by
  have hx : ∀ y, (amaxPay x a y : EReal) ≤ b ↔ (a y : EReal) ≤ b ∧ ∀ i, reduces_S4x8x7168_S8x7168.drop i = y →
      (shapeCast S4x8x7168 (fun z => max (x z : EReal) (-(x z : EReal))) shapeCasts_S32x7168_S4x8x7168 i : EReal) ≤ b := fun y => by
    unfold amaxPay
    rw [shapeCast_id, shapeCast_id]
    refine (max_le_iff (a := (a y : EReal))).trans (and_congr Iff.rfl ?_)
    exact red_le _ _ _ _ y b
  refine (forall_congr' hx).trans (forall_and.trans (and_congr Iff.rfl ?_))
  exact (forall_drop reduces_S4x8x7168_S8x7168 _).trans (cast_le _ _ b)

theorem zeroPay_apply (y : S8x7168.Idx) : (zeroPay (F := Ideal) y : EReal) = 0 := by
  unfold zeroPay
  rw [shapeCast_id]
  exact Ideal.ofBits_zero_f32

/-- The last maximum, bounded. -/
theorem amaxOut_le (a : Vec Ideal S8x7168 .f32) (b : EReal) : (amaxOut a : EReal) ≤ b ↔ ∀ y, (a y : EReal) ≤ b := by
  unfold amaxOut
  exact all_le (fun y => (a y : EReal)) shapeCasts_S8x7168_S1x8x7168 reduces_S1x8x7168_S1 (.inl rfl) rfl shapeCasts_S1_S1x1x1 _ inpos_S1x1x1_p0_0_0 (fun j j' => funext fun k => Fin.ext (by
    have h1 : (j k).val < 1 := by fin_cases k; exact (j 0).isLt
    have h2 : (j' k).val < 1 := by fin_cases k; exact (j' 0).isLt
    omega)) b

/-- Sixteen steps over one block. -/
theorem amaxN_le (X : Vec Ideal S512x7168 .bf16) (a : Vec Ideal S8x7168 .f32) (b : EReal) (n : ℕ) :
    (∀ y, (amaxN X a n y : EReal) ≤ b) ↔ (∀ y, (a y : EReal) ≤ b) ∧ ∀ r < n, ∀ z, max (rows32 X r z : EReal) (-(rows32 X r z : EReal)) ≤ b := by
  induction n with
  | zero => exact ⟨fun h => ⟨h, fun r hr => absurd hr (Nat.not_lt_zero _)⟩, fun h => h.1⟩
  | succ n ih =>
    refine (amaxPay_le (rows32 X n) (amaxN X a n) b).trans ((and_congr ih Iff.rfl).trans ?_)
    constructor
    · rintro ⟨⟨h1, h2⟩, h3⟩
      refine ⟨h1, fun r hr => ?_⟩
      rcases Nat.lt_succ_iff_lt_or_eq.mp hr with h | h
      · exact h2 r h
      · rw [h]; exact h3
    · rintro ⟨h1, h2⟩
      exact ⟨⟨h1, fun r hr => h2 r (Nat.lt_succ_of_lt hr)⟩, h2 n (Nat.lt_succ_self n)⟩

/-- A whole block's rows, read thirty-two at a time. -/
theorem rows_all (X : Vec Ideal S512x7168 .bf16) (p : EReal → Prop) : (∀ r < 16, ∀ z, p (rows32 X r z)) ↔ ∀ y, p (X y) := by
  constructor
  · intro h y
    have hy : (y 0).val < 512 := (y 0).isLt
    have := h ((y 0).val / 32) (by omega) (ix2 (⟨(y 0).val % 32, Nat.mod_lt _ (by decide)⟩ : Fin 32) (y 1))
    refine (congrArg p ?_).mp this
    refine congrArg X (funext fun a => Fin.ext ?_)
    fin_cases a
    · show (32 * ((y 0).val / 32) + (y 0).val % 32) % 512 = (y 0).val
      omega
    · rfl
  · exact fun h r _ z => h _

variable (m : (ℓ : Loc nD τ sig) → Buf (Elt Ideal) ℓ) (c : Dev nD)

theorem runMax_le (b : EReal) (k : ℕ) :
    (∀ y, (runMax m c k y : EReal) ≤ b) ↔ 0 ≤ b ∧ ∀ r < k, ∀ y, max (xB m c (pt r) y : EReal) (-(xB m c (pt r) y : EReal)) ≤ b := by
  induction k with
  | zero =>
    refine ⟨fun h => ⟨?_, fun r hr => absurd hr (Nat.not_lt_zero _)⟩, fun h y => ?_⟩
    · have := h (ix2 (0 : Fin 8) (0 : Fin 7168))
      exact (zeroPay_apply _).symm.le.trans this
    · exact (zeroPay_apply y).le.trans h.1
  | succ n ih =>
    refine (amaxN_le (xB m c (pt n)) (runMax m c n) b 16).trans ((and_congr ih (rows_all (xB m c (pt n)) (fun v => max v (-v) ≤ b))).trans ?_)
    constructor
    · rintro ⟨⟨h1, h2⟩, h3⟩
      refine ⟨h1, fun r hr => ?_⟩
      rcases Nat.lt_succ_iff_lt_or_eq.mp hr with h | h
      · exact h2 r h
      · rw [h]; exact h3
    · rintro ⟨h1, h2⟩
      exact ⟨⟨h1, fun r hr => h2 r (Nat.lt_succ_of_lt hr)⟩, h2 n (Nat.lt_succ_self n)⟩

/-- The kernel's maximum is at most `b` exactly when every activation's absolute value is. -/
theorem amax_le (b : EReal) : (amaxOut (runMax m c 8) : EReal) ≤ b ↔ ∀ y : S4096x7168.Idx, mag (V m c main_v32 y) ≤ b := by
  rw [amaxOut_le, runMax_le]
  constructor
  · rintro ⟨_, h⟩ y
    have hy : (y 0).val < 4096 := (y 0).isLt
    have := h ((y 0).val / 512) (by omega) (ix2 (⟨(y 0).val % 512, Nat.mod_lt _ (by decide)⟩ : Fin 512) (y 1))
    exact (congrArg mag (xB_row m c y _ rfl rfl)).symm.le.trans this
  · intro h
    refine ⟨(mag_nonneg _).trans (h (ix2 (0 : Fin 4096) (0 : Fin 7168))), fun r hr y => ?_⟩
    have hp : (pt r).val = r := by
      show r % 296 = r
      omega
    rw [xB_apply m c (pt r) (by omega)]
    exact h _

end Cert.Kernel.Hand
end
-- ==== Proof.HostK.lean ====
/-  What the host operations before the region leave for it. -/
module

public import proofs.«01_k».proof.Proof.Run
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## What the region finds -/

/-- frexp's exponent of the history's maximum over 448, by counting the powers of two not above it. -/
def expOf (h : S16.Idx → Elt F .f32) : S1.Idx → BitVec 32 :=
  let v0 := Host.reduce (FloatOps.maximumf (F := F)) h (constant S_ .f32 0xFF800000#32) reducesTo_S16_S_d0 h_S_
  let v1 := broadcastInDim S1 ![] bcast_S_S1 v0
  let v3 := mulf v1 (broadcastInDim S1 ![] bcast_S_S1 (constant (F := F) S_ .f32 0x3B124925#32))
  let v8 := Host.shli (addi (iotaInDim S1x254 32 1) (broadcastInDim S1x254 ![] bcast_S_S1x254 (constantI S_ 32 1#32)))
    (broadcastInDim S1x254 ![] bcast_S_S1x254 (constantI S_ 32 23#32))
  let v11 := broadcastInDim S1x254 ![0, 1] bcast_S1x1_S1x254_0_1 (broadcastInDim S1x1 ![0] bcast_S1_S1x1_0 v3)
  let v12 := cmpf (F := F) (φ := .f32) .ole (bitcastToFloat .f32 v8) v11
  let v14 := Host.reduce IntOp.addi (extui 32 v12 natLt_1_32) (constantI S_ 32 0#32) reducesTo_S1x254_S1_d1 h_S_
  let v16 := subi v14 (broadcastInDim S1 ![] bcast_S_S1 (constantI S_ 32 126#32))
  let v18 := cmpf (F := F) (φ := .f32) .oeq v1 (broadcastInDim S1 ![] bcast_S_S1 (constant (F := F) S_ .f32 0x00000000#32))
  select v18 (broadcastInDim S1 ![] bcast_S_S1 (constantI S_ 32 0#32)) v16

/-- The float whose exponent field is `e + 127`. -/
def twoTo (e : S1.Idx → BitVec 32) : S1.Idx → Elt F .f32 :=
  bitcastToFloat .f32 (Host.shli (addi e (broadcastInDim S1 ![] bcast_S_S1 (constantI S_ 32 127#32))) (broadcastInDim S1 ![] bcast_S_S1 (constantI S_ 32 23#32)))

theorem V_scale : V m c main_v24 = twoTo (expOf (m ((c.tc : Thread nD τ).loc main_arg1))) := by
  show StableHlo.after _ (fun b => m ⟨c, b⟩) (Proc.devRef .tc main_v24) = _
  simp only [List.flatten_cons, List.flatten_nil, List.append_nil, List.cons_append, List.nil_append]
  after_results_simp
  rfl

theorem V_scales : V m c main_v31 = concatenate S2 0 [⟨S1, twoTo (expOf (m ((c.tc : Thread nD τ).loc main_arg1)))⟩,
    ⟨S1, twoTo (negi (expOf (m ((c.tc : Thread nD τ).loc main_arg1))))⟩] concatenates_S1_S1_S2_d0 := by
  show StableHlo.after _ (fun b => m ⟨c, b⟩) (Proc.devRef .tc main_v31) = _
  simp only [List.flatten_cons, List.flatten_nil, List.append_nil, List.cons_append, List.nil_append]
  after_results_simp
  rfl

theorem V_x : V m c main_v32 = shapeCast S4096x7168 (m ((c.tc : Thread nD τ).loc main_arg0)) shapeCasts_S4x1024x7168_S4096x7168 := by
  show StableHlo.after _ (fun b => m ⟨c, b⟩) (Proc.devRef .tc main_v32) = _
  simp only [List.flatten_cons, List.flatten_nil, List.append_nil, List.cons_append, List.nil_append]
  after_results_simp
  rfl

theorem V_ws : V m c main_v33 = shapeCast S1x18432 (m ((c.tc : Thread nD τ).loc main_arg4)) shapeCasts_S18432_S1x18432 := by
  show StableHlo.after _ (fun b => m ⟨c, b⟩) (Proc.devRef .tc main_v33) = _
  simp only [List.flatten_cons, List.flatten_nil, List.append_nil, List.cons_append, List.nil_append]
  after_results_simp
  rfl

end Cert.Kernel.Hand
end
-- ==== Proof.ValR.lean ====
/-  What the reference's run leaves in its results, in terms of its arguments. -/
module

public import proofs.«01_k».proof.Proof.Gen.ReferenceIdeal.Frame
public import Idealize.ShloMosaic.Lib.Pipeline.Value
public import Idealize.ShloMosaic.Lib.VecWindow
public import Idealize.ShloMosaic.Lib.Pointwise.Index

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## What the body leaves -/

section body

variable (arg0 : Memref sig .tc .smem S2 .f32) (harg0 : arg0.IsWhole) (arg1 : Memref sig .tc .vmem S4096x7168 .bf16) (harg1 : arg1.IsWhole) (arg2 : Memref sig .tc .vmem S18432x7168 .i8) (harg2 : arg2.IsWhole) (arg3 : Memref sig .tc .vmem S1x18432 .f32) (harg3 : arg3.IsWhole) (arg4 : Memref sig .tc .vmem S4096x18432 .bf16) (harg4 : arg4.IsWhole) (arg5 : Memref sig .tc .vmem S4096x7168 .fp8e4m3) (harg5 : arg5.IsWhole) (arg6 : Memref sig .tc .smem S1 .f32) (harg6 : arg6.IsWhole)
    (x0 : Vec F S2 .f32) (x1 : Vec F S4096x7168 .bf16) (x2 : Vec F S18432x7168 .i8) (x3 : Vec F S1x18432 .f32)

theorem ldx : View.readAt (Elt F) arg1.view (Rect.unit ![0, 0] ![4096, 7168] inb_S4096x7168_S4096x7168_0_0).toLoadRect (harg1.unread x1) = x1 :=
  (View.readAt_full (s := S4096x7168) arg1.view _ inb_S4096x7168_S4096x7168_0_0).trans (harg1.read_unread x1)

theorem ldw : View.readAt (Elt F) arg2.view (Rect.unit ![0, 0] ![18432, 7168] inb_S18432x7168_S18432x7168_0_0).toLoadRect (harg2.unread x2) = x2 :=
  (View.readAt_full (s := S18432x7168) arg2.view _ inb_S18432x7168_S18432x7168_0_0).trans (harg2.read_unread x2)

theorem lds : View.readAt (Elt F) arg3.view (Rect.unit ![0, 0] ![1, 18432] inb_S1x18432_S1x18432_0_0).toLoadRect (harg3.unread x3) = x3 :=
  (View.readAt_full (s := S1x18432) arg3.view _ inb_S1x18432_S1x18432_0_0).trans (harg3.read_unread x3)

theorem ld1 : kernelRun0_A.sl.r c arg0 harg0 x0 = x0 (ix1 (1 : Fin 2)) := by
  unfold kernelRun0_A.sl.r
  rw [View.readAt_apply, harg0.read_unread]
  refine congrArg x0 (funext fun a => Fin.ext ?_)
  fin_cases a
  rfl

theorem ld0 : kernelRun0_A.sl.r_1 c arg0 harg0 x0 = x0 (ix1 (0 : Fin 2)) := by
  unfold kernelRun0_A.sl.r_1
  rw [View.readAt_apply, harg0.read_unread]
  refine congrArg x0 (funext fun a => Fin.ext ?_)
  fin_cases a
  rfl

theorem out4 : out0_A_4 c arg0 harg0 arg1 harg1 arg2 harg2 arg3 harg3 arg4 harg4 arg5 harg5 arg6 harg6 x0 x1 x2 x3
    = k0_pay3 x1 (x0 (ix1 (1 : Fin 2))) x2 (x0 (ix1 (0 : Fin 2))) x3 := by
  unfold out0_A_4 kernelRun0_A
  dsimp only
  rw [ldx, ldw, lds, ld0, ld1]
  exact View.read_writes_full (s := S4096x18432) _ _ _ _ _

theorem out5 : out0_A_5 c arg0 harg0 arg1 harg1 arg2 harg2 arg3 harg3 arg4 harg4 arg5 harg5 arg6 harg6 x0 x1 x2 x3
    = k0_pay2 x1 (x0 (ix1 (1 : Fin 2))) := by
  unfold out0_A_5 kernelRun0_A
  dsimp only
  rw [ldx, ld1]
  exact View.read_writes_full (s := S4096x7168) _ _ _ _ _

theorem out6 : out0_A_6 c arg0 harg0 arg1 harg1 arg2 harg2 arg3 harg3 arg4 harg4 arg5 harg5 arg6 harg6 x0 x1 x2 x3
    = fun _ => k0_pay4 x1 := by
  unfold out0_A_6 kernelRun0_A
  dsimp only
  rw [ldx]
  exact View.read_writes_full (s := S1) _ _ _ _ _

end body

/-! ## The blocks are the arrays -/

theorem idx0 : ∀ t : Fin cfg0.N, (cfg0.win 0).index t 0 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = 0 ∧ (cfg0.win 3).index t 1 = 0 := by decide +kernel
theorem idx4 : ∀ t : Fin cfg0.N, (cfg0.win 4).index t 0 = 0 ∧ (cfg0.win 4).index t 1 = 0 := by decide +kernel
theorem idx5 : ∀ t : Fin cfg0.N, (cfg0.win 5).index t 0 = 0 ∧ (cfg0.win 5).index t 1 = 0 := by decide +kernel
theorem idx6 : ∀ t : Fin cfg0.N, (cfg0.win 6).index t 0 = 0 := by decide +kernel

theorem blk0 (t : Fin cfg0.N) : iblk m c 0 t = V m c main_v54 := by
  funext y
  show V m c main_v54 (((cfg0.win 0).rect t).emb y) = _
  refine congrArg _ (funext fun a => Fin.ext ?_)
  fin_cases a
  exact (cfg0.win 0).rect_emb_val_of_index_zero t 0 (idx0 t) y

theorem blk1 (t : Fin cfg0.N) : iblk m c 1 t = V m c main_v55 := by
  funext y
  show V m c main_v55 (((cfg0.win 1).rect t).emb y) = _
  refine congrArg _ (funext fun a => Fin.ext ?_)
  fin_cases a
  · exact (cfg0.win 1).rect_emb_val_of_index_zero t 0 (idx1 t).1 y
  · exact (cfg0.win 1).rect_emb_val_of_index_zero t 1 (idx1 t).2 y

theorem blk2 (t : Fin cfg0.N) : iblk m c 2 t = V m c main_v53 := by
  funext y
  show V m c main_v53 (((cfg0.win 2).rect t).emb y) = _
  refine congrArg _ (funext fun a => Fin.ext ?_)
  fin_cases a
  · exact (cfg0.win 2).rect_emb_val_of_index_zero t 0 (idx2 t).1 y
  · exact (cfg0.win 2).rect_emb_val_of_index_zero t 1 (idx2 t).2 y

theorem blk3 (t : Fin cfg0.N) : iblk m c 3 t = V m c main_v56 := by
  funext y
  show V m c main_v56 (((cfg0.win 3).rect t).emb y) = _
  refine congrArg _ (funext fun a => Fin.ext ?_)
  fin_cases a
  · exact (cfg0.win 3).rect_emb_val_of_index_zero t 0 (idx3 t).1 y
  · exact (cfg0.win 3).rect_emb_val_of_index_zero t 1 (idx3 t).2 y

/-- The reference's three values. -/
def yR : S4096x18432.Idx → Elt F .bf16 :=
  k0_pay3 (V m c main_v55) (V m c main_v54 (ix1 (1 : Fin 2))) (V m c main_v53) (V m c main_v54 (ix1 (0 : Fin 2))) (V m c main_v56)
def codesR : S4096x7168.Idx → Elt F .fp8e4m3 := k0_pay2 (V m c main_v55) (V m c main_v54 (ix1 (1 : Fin 2)))
def amaxR : S1.Idx → Elt F .f32 := fun _ => k0_pay4 (V m c main_v55)

theorem outs (t : Fin cfg0.N) : outsAt0 m c t = (yR m c, codesR m c, amaxR m c) := by
  unfold outsAt0
  rw [out4, out5, out6, blk0, blk1, blk2, blk3]
  rfl

theorem flush4 : ∀ t : Fin cfg0.N, (cfg0.win 4).flush t = true := by decide +kernel
theorem flush5 : ∀ t : Fin cfg0.N, (cfg0.win 5).flush t = true := by decide +kernel
theorem flush6 : ∀ t : Fin cfg0.N, (cfg0.win 6).flush t = true := by decide +kernel

theorem emb4 (t : Fin cfg0.N) (y : S4096x18432.Idx) : ((cfg0.win 4).rect t).emb y = y := by
  refine funext fun a => Fin.ext ?_
  fin_cases a
  · exact (cfg0.win 4).rect_emb_val_of_index_zero t 0 (idx4 t).1 y
  · exact (cfg0.win 4).rect_emb_val_of_index_zero t 1 (idx4 t).2 y

theorem emb5 (t : Fin cfg0.N) (y : S4096x7168.Idx) : ((cfg0.win 5).rect t).emb y = y := by
  refine funext fun a => Fin.ext ?_
  fin_cases a
  · exact (cfg0.win 5).rect_emb_val_of_index_zero t 0 (idx5 t).1 y
  · exact (cfg0.win 5).rect_emb_val_of_index_zero t 1 (idx5 t).2 y

theorem emb6 (t : Fin cfg0.N) (y : S1.Idx) : ((cfg0.win 6).rect t).emb y = y := by
  refine funext fun a => Fin.ext ?_
  fin_cases a
  exact (cfg0.win 6).rect_emb_val_of_index_zero t 0 (idx6 t) y

theorem arr4 : (dats m 0 c).arrAt 4 cfg0.N = yR m c := by
  refine (dats m 0 c).arrAt_eq_of_cover 4 (yR m c) (fun t hf => ?_) (fun i => ?_)
  · show (dats m 0 c).after 4 t = _
    rw [after0_4, outs]
    funext y
    exact congrArg (yR m c) (emb4 t y).symm
  · obtain ⟨T, -⟩ : ∃ T : Fin cfg0.N, T.val = 0 := ⟨⟨0, by decide⟩, rfl⟩
    refine ⟨T, flush4 T, ?_⟩
    exact Eq.subst (motive := fun z => z ∈ ((cfg0.win 4).blk T).view.set) (show ((cfg0.win 4).blk T).view.emb i = i from emb4 T i)
      (((cfg0.win 4).blk T).view.emb_mem_set i)

theorem arr5 : (dats m 0 c).arrAt 5 cfg0.N = codesR m c := by
  refine (dats m 0 c).arrAt_eq_of_cover 5 (codesR m c) (fun t hf => ?_) (fun i => ?_)
  · show (dats m 0 c).after 5 t = _
    rw [after0_5, outs]
    funext y
    exact congrArg (codesR m c) (emb5 t y).symm
  · obtain ⟨T, -⟩ : ∃ T : Fin cfg0.N, T.val = 0 := ⟨⟨0, by decide⟩, rfl⟩
    refine ⟨T, flush5 T, ?_⟩
    exact Eq.subst (motive := fun z => z ∈ ((cfg0.win 5).blk T).view.set) (show ((cfg0.win 5).blk T).view.emb i = i from emb5 T i)
      (((cfg0.win 5).blk T).view.emb_mem_set i)

theorem read6 (z : S1.Idx → Elt F .f32) (t : Fin cfg0.N) : (fun y => z (((cfg0.win 6).rect t).emb y)) = z := funext fun y => congrArg z (emb6 t y)

theorem arr6_of (z : S1.Idx → Elt F .f32) (hz : ∀ t, (outsAt0 m c t).2.2 = z) : (dats m 0 c).arrAt 6 cfg0.N = z := by
  refine (dats m 0 c).arrAt_eq_of_cover 6 z (fun t hf => ?_) (fun i => ?_)
  · exact ((after0_6 m c t).trans (hz t)).trans (read6 z t).symm
  · obtain ⟨T, -⟩ : ∃ T : Fin cfg0.N, T.val = 0 := ⟨⟨0, by decide⟩, rfl⟩
    refine ⟨T, flush6 T, ?_⟩
    exact Eq.subst (motive := fun z => z ∈ ((cfg0.win 6).blk T).view.set) (show ((cfg0.win 6).blk T).view.emb i = i from emb6 T i)
      (((cfg0.win 6).blk T).view.emb_mem_set i)

theorem arr6 : (dats m 0 c).arrAt 6 cfg0.N = amaxR m c := arr6_of m c _ fun t => by rw [outs]

/-! ## The results -/

/-- The buffers as the operations after the region find them. -/
def midV : Valuation τ sig (Elt F) := Pipeline.withArrays spec0 c (V0 m c) fun w => (dats m 0 c).arrAt w cfg0.N

theorem arr_inj : Function.Injective (Pipeline.arrRef spec0) := by decide

theorem mid_arr (w : Fin 7) : midV m c (Proc.devRef .tc (Pipeline.arrRef spec0 w)) = (dats m 0 c).arrAt w cfg0.N :=
  Pipeline.withArrays_arr spec0 arr_inj c _ _ w

theorem mid_y : midV m c (Proc.devRef .tc main_v57_0) = yR m c := (mid_arr m c 4).trans (arr4 m c)
theorem mid_codes : midV m c (Proc.devRef .tc main_v57_1) = codesR m c := (mid_arr m c 5).trans (arr5 m c)
theorem mid_amax : midV m c (Proc.devRef .tc main_v57_2) = amaxR m c := (mid_arr m c 6).trans (arr6 m c)

theorem mid_of_ne (b : Ref sig .tc) (hb : ∀ w, Pipeline.arrRef spec0 w ≠ b) : midV m c (Proc.devRef .tc b) = V m c b :=
  Pipeline.withArrays_of_ne spec0 c _ _ b hb

theorem V_hist : V m c main_arg1 = m ((c.tc : Thread nD τ).loc main_arg1) := by
  show StableHlo.after _ (fun b => m ⟨c, b⟩) (Proc.devRef .tc main_arg1) = _
  simp only [List.flatten_cons, List.flatten_nil, List.append_nil, List.cons_append, List.nil_append]
  after_results_simp

/-- The buffers at the end. -/
def endV (b : Ref sig .tc) : Buf (Elt F) ((c.tc : Thread nD τ).loc b) := Pipeline.afterTail₀ cfgs (dats m) 0 (V0 m) [hostOps1] c b

theorem endV_eq (b : Ref sig .tc) : endV m c b = StableHlo.after hostOps1 (midV m c) (Proc.devRef .tc b) := rfl

theorem end_y : endV m c main_v60 = shapeCast S4x1024x18432 (yR m c) shapeCasts_S4096x18432_S4x1024x18432 := by
  rw [endV_eq, ← mid_y m c]
  generalize midV m c = W
  after_results
  rfl

theorem end_codes : endV m c main_v61 = shapeCast S4x1024x7168 (codesR m c) shapeCasts_S4096x7168_S4x1024x7168 := by
  rw [endV_eq, ← mid_codes m c]
  generalize midV m c = W
  after_results
  rfl

theorem end_hist : endV m c main_v59 = concatenate S16 0 [⟨S1, amaxR m c⟩,
    ⟨S15, extractStridedSlice S15 ![0] (m ((c.tc : Thread nD τ).loc main_arg1)) slices_S16_S15_0⟩] concatenates_S1_S15_S16_d0 := by
  rw [endV_eq]
  have e1 := mid_amax m c
  have e2 := (mid_of_ne m c main_arg1 (by decide)).trans (V_hist m c)
  generalize midV m c = W at e1 e2 ⊢
  rw [← e2]
  generalize amaxR m c = z at e1 ⊢
  rw [← e1]
  after_results

theorem end_scale : endV m c main_v24 = V m c main_v24 := by
  rw [endV_eq, ← mid_of_ne m c main_v24 (by decide)]
  generalize midV m c = W
  after_results

theorem run_vals : θ_run defs (onTc (τ := τ) (main (F := F))) ⟨m, fun _ => 0, ρ⟩ (fun r => ∀ c : Dev nD,
      r.2.mem ((c.tc : Thread nD τ).loc main_v60) = endV m c main_v60
      ∧ r.2.mem ((c.tc : Thread nD τ).loc main_v61) = endV m c main_v61
      ∧ r.2.mem ((c.tc : Thread nD τ).loc main_v24) = endV m c main_v24
      ∧ r.2.mem ((c.tc : Thread nD τ).loc main_v59) = endV m c main_v59) :=
  (θ_run defs _ _).mono (fun _ h c =>
    ⟨(h c).2 main_v60 (Pipeline.mem_restRefs_of main_v60 (by decide) (by decide)),
     (h c).2 main_v61 (Pipeline.mem_restRefs_of main_v61 (by decide) (by decide)),
     (h c).2 main_v24 (Pipeline.mem_restRefs_of main_v24 (by decide) (by decide)),
     (h c).2 main_v59 (Pipeline.mem_restRefs_of main_v59 (by decide) (by decide))⟩) (run_main m ρ)

end Cert.ReferenceIdeal.Hand
end
-- ==== Proof.RVal.lean ====
/-  The reference's values, element by element, over the arrays its region reads. -/
module

public import proofs.«01_k».proof.Proof.ValR
public import proofs.«01_k».proof.Proof.MaxRed
public import Idealize.ShloMosaic.Lib.MatmulPlain

@[expose] public section

set_option maxRecDepth 16384

noncomputable section

namespace Cert.ReferenceIdeal.Hand

open Cert.ReferenceIdeal Cert.ReferenceIdeal.Gen Cert.MaxRed
open Idealize.ShloMosaic Idealize.ShloMosaic.TcCoe

/-- One element's code. -/
def codeOf {F : FTy → Type} [FloatOps F] (x : F .bf16) (s : F .f32) : F .fp8e4m3 :=
  FloatOps.truncf .fp8e4m3 bitsLt_fp8e4m3_f32 (FloatOps.minimumf (FloatOps.ofBits .f32 0x43E00000#32) (FloatOps.maximumf (FloatOps.ofBits .f32 0xC3E00000#32)
    (FloatOps.mulf (FloatOps.extf .f32 bitsLt_bf16_f32 x) s)))

theorem codes_apply {F : FTy → Type} [FloatOps F] (x : Vec F S4096x7168 .bf16) (s : Elt F .f32) (y : S4096x7168.Idx) : k0_pay2 x s y = codeOf (x y) s := by
  unfold k0_pay2 k0_pay1
  rw [shapeCast_id]
  rfl

/-- The scaled product, over the codes and the dense weights. -/
theorem y_apply (x : Vec Ideal S4096x7168 .bf16) (s : Elt Ideal .f32) (w : Vec Ideal S18432x7168 .i8) (s' : Elt Ideal .f32) (ws : Vec Ideal S1x18432 .f32)
    (a : Fin 4096) (b : Fin 18432) :
    k0_pay3 x s w s' ws (ix2 a b) = ((∑ k : Fin 7168, (k0_pay2 x s (ix2 a k) : EReal) * FloatOps.ofBits (F := Ideal) .fp8e4m3 (w (ix2 b k))) * s' * ws (ix2 (0 : Fin 1) b) : EReal) := by
  have hb : broadcastTo S4096x18432 (shapeCast S1x18432 ws shapeCasts_S1x18432_S1x18432) broadcasts_S1x18432_S4096x18432 (ix2 a b) = ws (ix2 (0 : Fin 1) b) := by
    rw [shapeCast_id]
    refine broadcastTo_apply _ _ _ _ fun x => ?_
    fin_cases x <;> rfl
  unfold k0_pay3
  generalize k0_pay2 x s = q
  have hm : FloatOps.matmul (F := Ideal) (φ₁ := .fp8e4m3) (φ₂ := .fp8e4m3) dot_S4096x7168_S18432x7168_S4096x18432_1_1_0_0_n_n none q
      (bitcastToFloat .fp8e4m3 (shapeCast S18432x7168 w shapeCasts_S18432x7168_S18432x7168)) (constant S4096x18432 .f32 0x00000000#32) (ix2 a b)
      = (∑ k : Fin 7168, (q (ix2 a k) : EReal) * FloatOps.ofBits (F := Ideal) .fp8e4m3 (w (ix2 b k)) : EReal) := by
    refine (Ideal.matmul_transposedRhs_apply none q _ _ a b).trans ?_
    have hz : ∀ i, (constant (F := Ideal) S4096x18432 .f32 0x00000000#32 i : EReal) = 0 := fun _ => Ideal.ofBits_zero_f32
    rw [hz, zero_add, shapeCast_id]
    rfl
  show FloatOps.matmul (F := Ideal) (φ₁ := .fp8e4m3) (φ₂ := .fp8e4m3) dot_S4096x7168_S18432x7168_S4096x18432_1_1_0_0_n_n none q
      (bitcastToFloat .fp8e4m3 (shapeCast S18432x7168 w shapeCasts_S18432x7168_S18432x7168)) (constant S4096x18432 .f32 0x00000000#32) (ix2 a b) * s'
      * broadcastTo S4096x18432 (shapeCast S1x18432 ws shapeCasts_S1x18432_S1x18432) broadcasts_S1x18432_S4096x18432 (ix2 a b) = _
  rw [hm, hb]

/-- The reference's maximum is at most `b` exactly when every activation's absolute value is. -/
theorem amax_le (x : Vec Ideal S4096x7168 .bf16) (b : EReal) : (k0_pay4 x : EReal) ≤ b ↔ ∀ y : S4096x7168.Idx, mag (x y) ≤ b := by
  unfold k0_pay4 k0_pay1
  rw [shapeCast_id]
  exact all_le (fun y => mag (x y)) shapeCasts_S4096x7168_S1x4096x7168 reduces_S1x4096x7168_S1 (.inl rfl) rfl shapeCasts_S1_S1x1x1 _ inpos_S1x1x1_p0_0_0 (fun j j' => funext fun k => Fin.ext (by
    have h1 : (j k).val < 1 := by fin_cases k; exact (j 0).isLt
    have h2 : (j' k).val < 1 := by fin_cases k; exact (j' 0).isLt
    omega)) b

end Cert.ReferenceIdeal.Hand
end
-- ==== Proof.HostR.lean ====
/-  What the reference's host operations before the region leave for it. -/
module

public import proofs.«01_k».proof.Proof.Gen.ReferenceIdeal.Frame
public import Idealize.ShloMosaic.Lib.Pipeline.Value
public import Idealize.ShloMosaic.Lib.VecWindow
public import Idealize.ShloMosaic.Lib.Pointwise.Index

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg) (c : Dev nD)

/-- frexp's exponent of the history's maximum over 448, by counting the powers of two not above it. -/
def expOf (h : S16.Idx → Elt F .f32) : S1.Idx → BitVec 32 :=
  let v0 := Host.reduce (FloatOps.maximumf (F := F)) h (constant S_ .f32 0xFF800000#32) reducesTo_S16_S_d0 h_S_
  let v1 := broadcastInDim S1 ![] bcast_S_S1 v0
  let v3 := mulf v1 (broadcastInDim S1 ![] bcast_S_S1 (constant (F := F) S_ .f32 0x3B124925#32))
  let v8 := Host.shli (addi (iotaInDim S1x254 32 1) (broadcastInDim S1x254 ![] bcast_S_S1x254 (constantI S_ 32 1#32)))
    (broadcastInDim S1x254 ![] bcast_S_S1x254 (constantI S_ 32 23#32))
  let v11 := broadcastInDim S1x254 ![0, 1] bcast_S1x1_S1x254_0_1 (broadcastInDim S1x1 ![0] bcast_S1_S1x1_0 v3)
  let v12 := cmpf (F := F) (φ := .f32) .ole (bitcastToFloat .f32 v8) v11
  let v14 := Host.reduce IntOp.addi (extui 32 v12 natLt_1_32) (constantI S_ 32 0#32) reducesTo_S1x254_S1_d1 h_S_
  let v16 := subi v14 (broadcastInDim S1 ![] bcast_S_S1 (constantI S_ 32 126#32))
  let v18 := cmpf (F := F) (φ := .f32) .oeq v1 (broadcastInDim S1 ![] bcast_S_S1 (constant (F := F) S_ .f32 0x00000000#32))
  select v18 (broadcastInDim S1 ![] bcast_S_S1 (constantI S_ 32 0#32)) v16

/-- The float whose bits are `n` at the exponent field. -/
def expField (n : S1.Idx → BitVec 32) : S1.Idx → Elt F .f32 :=
  bitcastToFloat .f32 (Host.shli n (broadcastInDim S1 ![] bcast_S_S1 (constantI S_ 32 23#32)))

/-- The two slot numbers of a group are read `d` bits up from the start of the group's nibble. -/
def slotNo (words : S18432x224.Idx → BitVec 32) (sh : S18432x224x8x4.Idx → BitVec 32) : S18432x224x8x4.Idx → BitVec 32 :=
  andi (Host.shrsi (broadcastInDim S18432x224x8x4 ![0, 1, 2, 3] bcast_S18432x224x1x1_S18432x224x8x4_0_1_2_3
    (broadcastInDim S18432x224x1x1 ![0, 1] bcast_S18432x224_S18432x224x1x1_0_1 words)) sh)
    (broadcastInDim S18432x224x8x4 ![] bcast_S_S18432x224x8x4 (constantI S_ 32 3#32))

/-- The shift to a group's nibble. -/
def shiftOf : S18432x224x8x4.Idx → BitVec 32 :=
  muli (broadcastInDim S18432x224x8x4 ![] bcast_S_S18432x224x8x4 (constantI S_ 32 4#32)) (iotaInDim S18432x224x8x4 32 2)

/-- The dense matrix's bytes: a column's byte is the first kept byte if the group's first slot number is the column's, else
    the second kept byte if the second slot number is, else zero. -/
def denseR (words : S18432x224.Idx → BitVec 32) (kept : S18432x3584.Idx → BitVec 8) : S18432x7168.Idx → BitVec 8 :=
  let v44 := shapeCast S18432x224x8x2 kept shapeCasts_S18432x3584_S18432x224x8x2
  let v46 := broadcastInDim S18432x224x8x4 ![0, 1, 2, 3] bcast_S18432x224x8x1_S18432x224x8x4_0_1_2_3
    (extractStridedSlice S18432x224x8x1 ![0, 0, 0, 0] v44 slices_S18432x224x8x2_S18432x224x8x1_0_0_0_0)
  let v48 := broadcastInDim S18432x224x8x4 ![0, 1, 2, 3] bcast_S18432x224x8x1_S18432x224x8x4_0_1_2_3
    (extractStridedSlice S18432x224x8x1 ![0, 0, 0, 1] v44 slices_S18432x224x8x2_S18432x224x8x1_0_0_0_1)
  let v49 := cmpi .eq (slotNo words shiftOf) (iotaInDim S18432x224x8x4 32 3)
  let v50 := cmpi .eq (slotNo words (addi shiftOf (broadcastInDim S18432x224x8x4 ![] bcast_S_S18432x224x8x4 (constantI S_ 32 2#32)))) (iotaInDim S18432x224x8x4 32 3)
  shapeCast S18432x7168 (select v49 v46 (select v50 v48 (broadcastInDim S18432x224x8x4 ![] bcast_S_S18432x224x8x4 (constantI S_ 8 0#8))))
    shapeCasts_S18432x224x8x4_S18432x7168

theorem V_scale : V m c main_v24 = expField (addi (expOf (m ((c.tc : Thread nD τ).loc main_arg1))) (broadcastInDim S1 ![] bcast_S_S1 (constantI S_ 32 127#32))) := by
  show StableHlo.after _ (fun b => m ⟨c, b⟩) (Proc.devRef .tc main_v24) = _
  simp only [List.flatten_cons, List.flatten_nil, List.append_nil, List.cons_append, List.nil_append]
  after_results_simp
  rfl

theorem V_scales : V m c main_v54 = concatenate S2 0 [⟨S1, expField (addi (expOf (m ((c.tc : Thread nD τ).loc main_arg1))) (broadcastInDim S1 ![] bcast_S_S1 (constantI S_ 32 127#32)))⟩,
    ⟨S1, expField (subi (broadcastInDim S1 ![] bcast_S_S1 (constantI S_ 32 127#32)) (expOf (m ((c.tc : Thread nD τ).loc main_arg1))))⟩] concatenates_S1_S1_S2_d0 := by
  show StableHlo.after _ (fun b => m ⟨c, b⟩) (Proc.devRef .tc main_v54) = _
  simp only [List.flatten_cons, List.flatten_nil, List.append_nil, List.cons_append, List.nil_append]
  after_results_simp
  rfl

theorem V_x : V m c main_v55 = shapeCast S4096x7168 (m ((c.tc : Thread nD τ).loc main_arg0)) shapeCasts_S4x1024x7168_S4096x7168 := by
  show StableHlo.after _ (fun b => m ⟨c, b⟩) (Proc.devRef .tc main_v55) = _
  simp only [List.flatten_cons, List.flatten_nil, List.append_nil, List.cons_append, List.nil_append]
  after_results_simp
  rfl

theorem V_ws : V m c main_v56 = shapeCast S1x18432 (m ((c.tc : Thread nD τ).loc main_arg4)) shapeCasts_S18432_S1x18432 := by
  show StableHlo.after _ (fun b => m ⟨c, b⟩) (Proc.devRef .tc main_v56) = _
  simp only [List.flatten_cons, List.flatten_nil, List.append_nil, List.cons_append, List.nil_append]
  after_results_simp
  rfl

theorem V_dense : V m c main_v53 = denseR (m ((c.tc : Thread nD τ).loc main_arg3)) (m ((c.tc : Thread nD τ).loc main_arg2)) := by
  show StableHlo.after _ (fun b => m ⟨c, b⟩) (Proc.devRef .tc main_v53) = _
  simp only [List.flatten_cons, List.flatten_nil, List.append_nil, List.cons_append, List.nil_append]
  after_results_simp
  rfl

end Cert.ReferenceIdeal.Hand
end
-- ==== Proof.Dense.lean ====
/-  The reference's dense matrix: each element is one byte, picked by its group's two slot numbers. -/
module

public import proofs.«01_k».proof.Proof.HostR
public import proofs.«01_k».proof.Proof.Bits

@[expose] public section

set_option maxRecDepth 16384

noncomputable section

namespace Cert.ReferenceIdeal.Hand

open Cert.ReferenceIdeal Cert.ReferenceIdeal.Gen Cert.Bits
open Idealize.ShloMosaic Idealize.ShloMosaic.TcCoe

/-- The group's nibble starts at `4 h`. -/
theorem shiftOf_apply (n : Fin 18432) (w : Fin 224) (h : Fin 8) (s : Fin 4) : shiftOf (ix4 n w h s) = BitVec.ofNat 32 (4 * h.val) := by
  show IntOp.muli 4#32 (BitVec.ofNat 32 h.val) = _
  revert h
  decide

theorem slotNo_apply (words : S18432x224.Idx → BitVec 32) (sh : S18432x224x8x4.Idx → BitVec 32) (n : Fin 18432) (w : Fin 224) (h : Fin 8) (s : Fin 4)
    (d : ℕ) (hd : d ≤ 30) (hsh : sh (ix4 n w h s) = BitVec.ofNat 32 d) :
    slotNo words sh (ix4 n w h s) = two ((words (ix2 n w)).getLsbD d) ((words (ix2 n w)).getLsbD (d + 1)) := by
  have e : (BitVec.ofNat 32 d).toNat = d := by rw [BitVec.toNat_ofNat]; omega
  have hw : broadcastInDim S18432x224x8x4 ![0, 1, 2, 3] bcast_S18432x224x1x1_S18432x224x8x4_0_1_2_3
    (broadcastInDim S18432x224x1x1 ![0, 1] bcast_S18432x224_S18432x224x1x1_0_1 words) (ix4 n w h s) = words (ix2 n w) := by
    refine (broadcastInDim_apply _ _ _ _ (ix4 n w (0 : Fin 1) (0 : Fin 1)) (fun a => ?_)).trans
      (broadcastInDim_apply _ _ _ _ (ix2 n w) (fun a => ?_))
    · fin_cases a <;> rfl
    · fin_cases a <;> rfl
  show IntOp.andi (IntOp.shrsi .host _ (sh (ix4 n w h s))) 3#32 = _
  rw [hw, hsh]
  have := shr_two (words (ix2 n w)) (BitVec.ofNat 32 d) (by omega)
  rw [e] at this
  rw [← this]
  exact congrArg (fun z => z &&& 3#32) (if_pos (by omega))

theorem kept0 (X : S18432x224x8x2.Idx → BitVec 8) (n : Fin 18432) (w : Fin 224) (h : Fin 8) (s : Fin 4) :
    broadcastInDim S18432x224x8x4 ![0, 1, 2, 3] bcast_S18432x224x8x1_S18432x224x8x4_0_1_2_3
    (extractStridedSlice S18432x224x8x1 ![0, 0, 0, 0] X slices_S18432x224x8x2_S18432x224x8x1_0_0_0_0) (ix4 n w h s)
      = X (ix4 n w h (0 : Fin 2)) := by
  refine (broadcastInDim_apply _ _ _ _ (ix4 n w h (0 : Fin 1)) (fun a => ?_)).trans (congrArg X (funext fun a => Fin.ext ?_))
  · fin_cases a <;> rfl
  · fin_cases a
    · show 0 + n.val = n.val; omega
    · show 0 + w.val = w.val; omega
    · show 0 + h.val = h.val; omega
    · rfl

theorem kept1 (X : S18432x224x8x2.Idx → BitVec 8) (n : Fin 18432) (w : Fin 224) (h : Fin 8) (s : Fin 4) :
    broadcastInDim S18432x224x8x4 ![0, 1, 2, 3] bcast_S18432x224x8x1_S18432x224x8x4_0_1_2_3
    (extractStridedSlice S18432x224x8x1 ![0, 0, 0, 1] X slices_S18432x224x8x2_S18432x224x8x1_0_0_0_1) (ix4 n w h s)
      = X (ix4 n w h (1 : Fin 2)) := by
  refine (broadcastInDim_apply _ _ _ _ (ix4 n w h (0 : Fin 1)) (fun a => ?_)).trans (congrArg X (funext fun a => Fin.ext ?_))
  · fin_cases a <;> rfl
  · fin_cases a
    · show 0 + n.val = n.val; omega
    · show 0 + w.val = w.val; omega
    · show 0 + h.val = h.val; omega
    · rfl

theorem denseR_apply (words : S18432x224.Idx → BitVec 32) (kept : S18432x3584.Idx → BitVec 8) (n : Fin 18432) (k : Fin 7168) :
    denseR words kept (ix2 n k)
      = pick (words (ix2 n (⟨k.val / 32, by have := k.isLt; omega⟩ : Fin 224))) (4 * (k.val / 4 % 8)) (k.val % 4)
          (kept (ix2 n (⟨2 * (k.val / 4), by have := k.isLt; omega⟩ : Fin 3584)))
          (kept (ix2 n (⟨2 * (k.val / 4) + 1, by have := k.isLt; omega⟩ : Fin 3584))) := by
  have hk := k.isLt
  obtain ⟨w, hw⟩ : ∃ w : Fin 224, w.val = k.val / 32 := ⟨⟨k.val / 32, by omega⟩, rfl⟩
  obtain ⟨h, hh⟩ : ∃ h : Fin 8, h.val = k.val / 4 % 8 := ⟨⟨k.val / 4 % 8, by omega⟩, rfl⟩
  obtain ⟨s, hs⟩ : ∃ s : Fin 4, s.val = k.val % 4 := ⟨⟨k.val % 4, by omega⟩, rfl⟩
  have hval : ∀ (d : Fin 2) (m : ℕ) (hm : m < 3584), m = 2 * (k.val / 4) + d.val →
      shapeCast S18432x224x8x2 kept shapeCasts_S18432x3584_S18432x224x8x2 (ix4 n w h d) = kept (ix2 n (⟨m, hm⟩ : Fin 3584)) := fun d m hm e => by
    refine shapeCast_apply _ _ _ _ ?_
    rw [Shape.rowMajor_val_two, Shape.rowMajor_val_four]
    show n.val * 3584 + m = ((n.val * 224 + w.val) * 8 + h.val) * 2 + d.val
    omega
  unfold denseR
  dsimp only
  refine (shapeCast_apply _ _ _ (ix4 n w h s) ?_).trans ?_
  · rw [Shape.rowMajor_val_two, Shape.rowMajor_val_four]
    show ((n.val * 224 + w.val) * 8 + h.val) * 4 + s.val = n.val * 7168 + k.val
    omega
  have e0 := (kept0 (shapeCast S18432x224x8x2 kept shapeCasts_S18432x3584_S18432x224x8x2) n w h s).trans
    (hval 0 (2 * (k.val / 4)) (by omega) (Nat.add_zero _).symm)
  have e1 := (kept1 (shapeCast S18432x224x8x2 kept shapeCasts_S18432x3584_S18432x224x8x2) n w h s).trans
    (hval 1 (2 * (k.val / 4) + 1) (by omega) rfl)
  have s0 := slotNo_apply words shiftOf n w h s (4 * h.val) (by have := h.isLt; omega) (shiftOf_apply n w h s)
  have s1 := slotNo_apply words (addi shiftOf (broadcastInDim S18432x224x8x4 ![] bcast_S_S18432x224x8x4 (constantI S_ 32 2#32))) n w h s (4 * h.val + 2)
    (by have := h.isLt; omega) (by
      show IntOp.addi (shiftOf (ix4 n w h s)) 2#32 = _
      rw [shiftOf_apply]
      exact (BitVec.ofNat_add _ _).symm)
  have sel : ∀ (x y : BitVec 32) (a b : BitVec 8), Scalar.select (Scalar.cmpi .eq x y) a b = if x = y then a else b := fun x y a b => by
    unfold Scalar.select
    by_cases hxy : x = y
    · subst hxy
      rw [if_pos rfl, if_pos]
      show BitVec.ofBool (x == x) = 1#1
      simp
    · rw [if_neg hxy, if_neg]
      show ¬ BitVec.ofBool (x == y) = 1#1
      rw [beq_eq_false_iff_ne.mpr hxy]
      decide
  show Scalar.select (Scalar.cmpi .eq (slotNo words shiftOf (ix4 n w h s)) (BitVec.ofNat 32 s.val)) _
    (Scalar.select (Scalar.cmpi .eq (slotNo words _ (ix4 n w h s)) (BitVec.ofNat 32 s.val)) _ 0#8) = _
  rw [sel, sel, e0, e1, s0, s1]
  have ew : w = (⟨k.val / 32, by omega⟩ : Fin 224) := Fin.ext hw
  rw [← ew, ← hh, ← hs]
  rfl

end Cert.ReferenceIdeal.Hand
end
-- ==== Proof.Match.lean ====
/-  The kernel's results are the reference's, over the extended reals. -/
module

public import proofs.«01_k».proof.Proof.AmaxK
public import proofs.«01_k».proof.Proof.HostK
public import proofs.«01_k».proof.Proof.RVal
public import proofs.«01_k».proof.Proof.HostR
public import proofs.«01_k».proof.Proof.Dense

@[expose] public section

set_option maxRecDepth 16384

noncomputable section

namespace Cert.Match

open Idealize.ShloMosaic Idealize.ShloMosaic.TcCoe
open Cert.MaxRed

theorem pow_eq (e : Cert.Kernel.S1.Idx → BitVec 32) :
    Cert.Kernel.Hand.twoTo (F := Ideal) e = Cert.ReferenceIdeal.Hand.expField (F := Ideal)
      (addi e (broadcastInDim Cert.ReferenceIdeal.S1 ![] Cert.ReferenceIdeal.Gen.bcast_S_S1 (constantI Cert.ReferenceIdeal.S_ 32 127#32))) := rfl

theorem neg_eq (e b : Cert.Kernel.S1.Idx → BitVec 32) : addi (negi e) b = subi b e := by
  funext i
  show -(e i) + b i = b i - e i
  rw [BitVec.sub_eq_add_neg, BitVec.add_comm]

theorem inv_eq (e : Cert.Kernel.S1.Idx → BitVec 32) :
    Cert.Kernel.Hand.twoTo (F := Ideal) (negi e) = Cert.ReferenceIdeal.Hand.expField (F := Ideal)
      (subi (broadcastInDim Cert.ReferenceIdeal.S1 ![] Cert.ReferenceIdeal.Gen.bcast_S_S1 (constantI Cert.ReferenceIdeal.S_ 32 127#32)) e) :=
  (pow_eq (negi e)).trans (congrArg (Cert.ReferenceIdeal.Hand.expField (F := Ideal)) (neg_eq e _))

theorem exp_eq (h : Cert.Kernel.S16.Idx → EReal) : Cert.Kernel.Hand.expOf (F := Ideal) h = Cert.ReferenceIdeal.Hand.expOf (F := Ideal) h := rfl

variable (m : (ℓ : Loc Cert.Kernel.nD Cert.Kernel.τ Cert.Kernel.sig) → Buf (Elt Ideal) ℓ)
    (m' : (ℓ : Loc Cert.ReferenceIdeal.nD Cert.ReferenceIdeal.τ Cert.ReferenceIdeal.sig) → Buf (Elt Ideal) ℓ) (c : Dev Cert.Kernel.nD)

/-- Both programs are given the same arguments. -/
def Same : Prop :=
  m' ((c.tc : Thread Cert.ReferenceIdeal.nD Cert.ReferenceIdeal.τ).loc Cert.ReferenceIdeal.main_arg0) = m ((c.tc : Thread Cert.Kernel.nD Cert.Kernel.τ).loc Cert.Kernel.main_arg0)
  ∧ m' ((c.tc : Thread Cert.ReferenceIdeal.nD Cert.ReferenceIdeal.τ).loc Cert.ReferenceIdeal.main_arg1) = m ((c.tc : Thread Cert.Kernel.nD Cert.Kernel.τ).loc Cert.Kernel.main_arg1)
  ∧ m' ((c.tc : Thread Cert.ReferenceIdeal.nD Cert.ReferenceIdeal.τ).loc Cert.ReferenceIdeal.main_arg2) = m ((c.tc : Thread Cert.Kernel.nD Cert.Kernel.τ).loc Cert.Kernel.main_arg2)
  ∧ m' ((c.tc : Thread Cert.ReferenceIdeal.nD Cert.ReferenceIdeal.τ).loc Cert.ReferenceIdeal.main_arg3) = m ((c.tc : Thread Cert.Kernel.nD Cert.Kernel.τ).loc Cert.Kernel.main_arg3)
  ∧ m' ((c.tc : Thread Cert.ReferenceIdeal.nD Cert.ReferenceIdeal.τ).loc Cert.ReferenceIdeal.main_arg4) = m ((c.tc : Thread Cert.Kernel.nD Cert.Kernel.τ).loc Cert.Kernel.main_arg4)

variable (h : Same m m' c)

include h

theorem x_eq : Cert.Kernel.Gen.V m c Cert.Kernel.main_v32 = Cert.ReferenceIdeal.Gen.V m' c Cert.ReferenceIdeal.main_v55 :=
  (Cert.Kernel.Hand.V_x m c).trans ((congrArg (fun z : Cert.Kernel.S4x1024x7168.Idx → EReal => shapeCast Cert.Kernel.S4096x7168 z Cert.Kernel.Gen.shapeCasts_S4x1024x7168_S4096x7168) h.1.symm).trans
    (Cert.ReferenceIdeal.Hand.V_x m' c).symm)

theorem ws_eq : Cert.Kernel.Gen.V m c Cert.Kernel.main_v33 = Cert.ReferenceIdeal.Gen.V m' c Cert.ReferenceIdeal.main_v56 :=
  (Cert.Kernel.Hand.V_ws m c).trans ((congrArg (fun z : Cert.Kernel.S18432.Idx → EReal => shapeCast Cert.Kernel.S1x18432 z Cert.Kernel.Gen.shapeCasts_S18432_S1x18432) h.2.2.2.2.symm).trans
    (Cert.ReferenceIdeal.Hand.V_ws m' c).symm)

theorem scale_eq : Cert.Kernel.Gen.V m c Cert.Kernel.main_v24 = Cert.ReferenceIdeal.Gen.V m' c Cert.ReferenceIdeal.main_v24 := by
  refine (Cert.Kernel.Hand.V_scale m c).trans (Eq.trans ?_ (Cert.ReferenceIdeal.Hand.V_scale m' c).symm)
  rw [h.2.1]
  exact pow_eq _

theorem scales_eq : Cert.Kernel.Gen.V m c Cert.Kernel.main_v31 = Cert.ReferenceIdeal.Gen.V m' c Cert.ReferenceIdeal.main_v54 := by
  refine (Cert.Kernel.Hand.V_scales m c).trans (Eq.trans ?_ (Cert.ReferenceIdeal.Hand.V_scales m' c).symm)
  rw [h.2.1, inv_eq, pow_eq]
  rfl

theorem codes_eq : Cert.Kernel.Hand.codesG m c = Cert.ReferenceIdeal.Hand.codesR m' c := by
  funext y
  refine (Cert.Kernel.Hand.codesG_apply m c y).trans (Eq.trans ?_ (Cert.ReferenceIdeal.Hand.codes_apply (F := Ideal) (Cert.ReferenceIdeal.Gen.V m' c Cert.ReferenceIdeal.main_v55) (Cert.ReferenceIdeal.Gen.V m' c Cert.ReferenceIdeal.main_v54 (ix1 (1 : Fin 2))) y).symm)
  rw [x_eq m m' c h, scales_eq m m' c h]
  rfl

theorem amax_eq : Cert.Kernel.Hand.amaxG m c = Cert.ReferenceIdeal.Hand.amaxR m' c := by
  funext _
  refine eq_of_forall_ge_iff (α := EReal) fun b => ?_
  refine (Cert.Kernel.Hand.amax_le m c b).trans (Iff.trans ?_ (Cert.ReferenceIdeal.Hand.amax_le _ b).symm)
  rw [x_eq m m' c h]

theorem dense_eq (N : Fin 18432) (k : Fin 7168) :
    (Cert.Kernel.Hand.dense m c (N.val / 512) (⟨N.val % 512, Nat.mod_lt _ (by decide)⟩ : Fin 512) k : EReal)
      = FloatOps.ofBits (F := Ideal) .fp8e4m3 (Cert.ReferenceIdeal.Gen.V m' c Cert.ReferenceIdeal.main_v53 (ix2 N k)) := by
  refine (Cert.Kernel.Hand.dense_apply m c N k).trans (congrArg (FloatOps.ofBits (F := Ideal) .fp8e4m3) ?_)
  rw [Cert.ReferenceIdeal.Hand.V_dense m' c, Cert.Kernel.Gen.V_main_arg2 m c, Cert.Kernel.Gen.V_main_arg3 m c, h.2.2.1, h.2.2.2.1]
  exact (Cert.ReferenceIdeal.Hand.denseR_apply _ _ N k).symm

theorem y_eq : Cert.Kernel.Hand.yG m c = Cert.ReferenceIdeal.Hand.yR m' c := by
  funext y
  obtain ⟨R, N, rfl⟩ : ∃ (R : Fin 4096) (N : Fin 18432), y = ix2 R N := ⟨y 0, y 1, by funext a; fin_cases a <;> rfl⟩
  refine (Cert.Kernel.Hand.yG_apply m c R N).trans (Eq.trans ?_ (Cert.ReferenceIdeal.Hand.y_apply _ _ _ _ _ R N).symm)
  rw [scales_eq m m' c h, ws_eq m m' c h]
  refine congrArg (fun z : EReal => z * Cert.ReferenceIdeal.Gen.V m' c Cert.ReferenceIdeal.main_v54 (ix1 (0 : Fin 2)) * Cert.ReferenceIdeal.Gen.V m' c Cert.ReferenceIdeal.main_v56 (ix2 (0 : Fin 1) N)) ?_
  refine Finset.sum_congr rfl fun k _ => ?_
  exact congrArg₂ (fun a b : EReal => a * b) (congrFun (codes_eq m m' c h) (ix2 R k)) (dense_eq m m' c h N k)

/-- The four results, equal. -/
theorem results :
    Cert.Kernel.Hand.endV m c (Proc.devRef .tc Cert.Kernel.main_v37) = Cert.ReferenceIdeal.Hand.endV m' c Cert.ReferenceIdeal.main_v60
    ∧ Cert.Kernel.Hand.endV m c (Proc.devRef .tc Cert.Kernel.main_v38) = Cert.ReferenceIdeal.Hand.endV m' c Cert.ReferenceIdeal.main_v61
    ∧ Cert.Kernel.Hand.endV m c (Proc.devRef .tc Cert.Kernel.main_v24) = Cert.ReferenceIdeal.Hand.endV m' c Cert.ReferenceIdeal.main_v24
    ∧ Cert.Kernel.Hand.endV m c (Proc.devRef .tc Cert.Kernel.main_v36) = Cert.ReferenceIdeal.Hand.endV m' c Cert.ReferenceIdeal.main_v59 := by
  refine ⟨?_, ?_, ?_, ?_⟩
  · refine (Cert.Kernel.Hand.end_y m c).trans (Eq.trans ?_ (Cert.ReferenceIdeal.Hand.end_y m' c).symm)
    rw [y_eq m m' c h]
  · refine (Cert.Kernel.Hand.end_codes m c).trans (Eq.trans ?_ (Cert.ReferenceIdeal.Hand.end_codes m' c).symm)
    rw [codes_eq m m' c h]
  · exact (Cert.Kernel.Hand.end_scale m c).trans ((scale_eq m m' c h).trans (Cert.ReferenceIdeal.Hand.end_scale m' c).symm)
  · refine (Cert.Kernel.Hand.end_hist m c).trans (Eq.trans ?_ (Cert.ReferenceIdeal.Hand.end_hist m' c).symm)
    rw [amax_eq m m' c h, h.2.1]

end Cert.Match
end
-- ==== Proof.Same.lean ====
/-  The kernel's results are the reference's: proved of the kernel's text at the extended reals, and so of its idealization. -/
module

public import proofs.«01_k».proof.Proof.Match
public import proofs.«01_k».proof.Proof.Frame
public import proofs.«01_k».proof.Proof.Gen.KernelIdeal
public import Idealize.ShloMosaic.Lib.Tactic

@[expose] public section

set_option maxRecDepth 16384

noncomputable section

namespace Cert.Transfer

open Idealize.ShloMosaic Idealize.ShloMosaic.TcCoe Idealize.SL.Sem

/-- What the kernel leaves in its results, at its end. -/
theorem run_vals {F : FTy → Type} [FloatOps F] (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => ∀ c : Dev Cert.Kernel.nD,
      r.2.mem ((c.tc : Thread Cert.Kernel.nD Cert.Kernel.τ).loc Cert.Kernel.main_v37) = Cert.Kernel.Hand.endV m c (Proc.devRef .tc Cert.Kernel.main_v37)
      ∧ r.2.mem ((c.tc : Thread Cert.Kernel.nD Cert.Kernel.τ).loc Cert.Kernel.main_v38) = Cert.Kernel.Hand.endV m c (Proc.devRef .tc Cert.Kernel.main_v38)
      ∧ r.2.mem ((c.tc : Thread Cert.Kernel.nD Cert.Kernel.τ).loc Cert.Kernel.main_v24) = Cert.Kernel.Hand.endV m c (Proc.devRef .tc Cert.Kernel.main_v24)
      ∧ r.2.mem ((c.tc : Thread Cert.Kernel.nD Cert.Kernel.τ).loc Cert.Kernel.main_v36) = Cert.Kernel.Hand.endV m c (Proc.devRef .tc Cert.Kernel.main_v36)) :=
  (θ_run Cert.Kernel.defs _ _).mono (fun _ h c =>
    ⟨(h.1 c).2 Cert.Kernel.main_v37 (Pipeline.mem_restRefs_of Cert.Kernel.main_v37 (by decide) (by decide)),
      (h.1 c).2 Cert.Kernel.main_v38 (Pipeline.mem_restRefs_of Cert.Kernel.main_v38 (by decide) (by decide)),
      (h.1 c).2 Cert.Kernel.main_v24 (Pipeline.mem_restRefs_of Cert.Kernel.main_v24 (by decide) (by decide)),
      (h.1 c).2 Cert.Kernel.main_v36 (Pipeline.mem_restRefs_of Cert.Kernel.main_v36 (by decide) (by decide))⟩) (Cert.Kernel.Hand.run_spec m g)

/-- The kernel's own text and the reference, given the same arguments, leave the same results. -/
def SameK : Prop :=
  ∀ (m : (ℓ : Loc Cert.Kernel.nD Cert.Kernel.τ Cert.Kernel.sig) → Buf (Elt Ideal) ℓ) (g : Dev Cert.Kernel.nD → PrngReg)
    (m' : (ℓ : Loc Cert.ReferenceIdeal.nD Cert.ReferenceIdeal.τ Cert.ReferenceIdeal.sig) → Buf (Elt Ideal) ℓ) (g' : Dev Cert.ReferenceIdeal.nD → PrngReg),
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)) →
    ∃ (v0 : (c : Dev Cert.Kernel.nD) → Buf (Elt Ideal) ((c.tc : Thread Cert.Kernel.nD Cert.Kernel.τ).loc Cert.Kernel.main_v37)) (v1 : (c : Dev Cert.Kernel.nD) → Buf (Elt Ideal) ((c.tc : Thread Cert.Kernel.nD Cert.Kernel.τ).loc Cert.Kernel.main_v38)) (v2 : (c : Dev Cert.Kernel.nD) → Buf (Elt Ideal) ((c.tc : Thread Cert.Kernel.nD Cert.Kernel.τ).loc Cert.Kernel.main_v24)) (v3 : (c : Dev Cert.Kernel.nD) → Buf (Elt Ideal) ((c.tc : Thread Cert.Kernel.nD Cert.Kernel.τ).loc Cert.Kernel.main_v36)),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v37) = v0 c
          ∧ r.2.mem ((c.tc : Thread Cert.Kernel.nD Cert.Kernel.τ).loc Cert.Kernel.main_v38) = v1 c
          ∧ r.2.mem ((c.tc : Thread Cert.Kernel.nD Cert.Kernel.τ).loc Cert.Kernel.main_v24) = v2 c
          ∧ r.2.mem ((c.tc : Thread Cert.Kernel.nD Cert.Kernel.τ).loc Cert.Kernel.main_v36) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

/-- The idealization and the reference, given the same arguments, leave the same results. -/
def SameI : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg),
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

theorem same_eq : SameI = SameK := by sl_kernel_rfl

theorem sameK : SameK := fun m g m' g' hm => by
  have hr := fun c => Cert.Match.results m m' c (hm c)
  refine ⟨fun c => Cert.Kernel.Hand.endV m c (Proc.devRef .tc Cert.Kernel.main_v37), fun c => Cert.Kernel.Hand.endV m c (Proc.devRef .tc Cert.Kernel.main_v38),
    fun c => Cert.Kernel.Hand.endV m c (Proc.devRef .tc Cert.Kernel.main_v24), fun c => Cert.Kernel.Hand.endV m c (Proc.devRef .tc Cert.Kernel.main_v36), ?_, ?_⟩
  · exact (θ_run Cert.Kernel.defs _ _).mono (fun _ h c => ⟨(h.1 c).1, (h.1 c).2.1, (h.1 c).2.2.1, (h.1 c).2.2.2, h.2.1 c⟩)
      (θ_run_and (run_vals m g) (Cert.Kernel.Hand.frame m g))
  · exact (θ_run Cert.ReferenceIdeal.defs _ _).mono (fun _ h c => ⟨(h.1 c).1.trans (hr c).1.symm, (h.1 c).2.1.trans (hr c).2.1.symm,
      (h.1 c).2.2.1.trans (hr c).2.2.1.symm, (h.1 c).2.2.2.trans (hr c).2.2.2.symm, h.2.1 c⟩)
      (θ_run_and (Cert.ReferenceIdeal.Hand.run_vals m' g') (Cert.ReferenceIdeal.Gen.frame m' g'))

theorem same : SameI := same_eq.mpr sameK

end Cert.Transfer
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Transfer
public import proofs.«01_k».proof.Proof.Same
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame m ρ, fun m ρ _ => Cert.Transfer.frame m ρ,
  fun m ρ _ => Cert.ReferenceIdeal.Gen.frame m ρ, trivial,
  fun m g m' g' _ h => Cert.Transfer.same m g m' g' h⟩

end Cert.Proof

end
